-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_arg2)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg2) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg2) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S16x1024x3 : Shape := ⟨3, ![16, 1024, 3]⟩
abbrev S16x1024x512 : Shape := ⟨3, ![16, 1024, 512]⟩
abbrev S16x4096x3 : Shape := ⟨3, ![16, 4096, 3]⟩
abbrev S16x4096x256 : Shape := ⟨3, ![16, 4096, 256]⟩
abbrev S512x256 : Shape := ⟨2, ![512, 256]⟩
abbrev S256 : Shape := ⟨1, ![256]⟩
abbrev S256x256 : Shape := ⟨2, ![256, 256]⟩
abbrev S_ : Shape := ⟨0, ![]⟩
abbrev S16x4096 : Shape := ⟨2, ![16, 4096]⟩
abbrev S16x4096x1 : Shape := ⟨3, ![16, 4096, 1]⟩
abbrev S16x1024 : Shape := ⟨2, ![16, 1024]⟩
abbrev S16x1x1024 : Shape := ⟨3, ![16, 1, 1024]⟩
abbrev S16x4096x1024 : Shape := ⟨3, ![16, 4096, 1024]⟩

class Facts : Prop where
  bcast_S_S16x1024x3 : S_.BroadcastsInDim S16x1024x3 (![] : Fin 0 → Fin S16x1024x3.rank)
  reducesTo_S16x1024x3_S_d0_1_2 : S16x1024x3.ReducesTo [0, 1, 2] S_
  h_S_ : 0 < S_.numel
  bcast_S_S16x1024x512 : S_.BroadcastsInDim S16x1024x512 (![] : Fin 0 → Fin S16x1024x512.rank)
  reducesTo_S16x1024x512_S_d0_1_2 : S16x1024x512.ReducesTo [0, 1, 2] S_
  bcast_S_S16x4096x3 : S_.BroadcastsInDim S16x4096x3 (![] : Fin 0 → Fin S16x4096x3.rank)
  reducesTo_S16x4096x3_S_d0_1_2 : S16x4096x3.ReducesTo [0, 1, 2] S_
  bcast_S_S16x4096x256 : S_.BroadcastsInDim S16x4096x256 (![] : Fin 0 → Fin S16x4096x256.rank)
  reducesTo_S16x4096x256_S_d0_1_2 : S16x4096x256.ReducesTo [0, 1, 2] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  reducesTo_S16x4096x3_S16x4096_d2 : S16x4096x3.ReducesTo [2] S16x4096
  bcast_S16x4096_S16x4096x1_0_1 : S16x4096.BroadcastsInDim S16x4096x1 (![0, 1] : Fin 2 → Fin S16x4096x1.rank)
  reducesTo_S16x1024x3_S16x1024_d2 : S16x1024x3.ReducesTo [2] S16x1024
  bcast_S16x1024_S16x1x1024_0_2 : S16x1024.BroadcastsInDim S16x1x1024 (![0, 2] : Fin 2 → Fin S16x1x1024.rank)
  bcast_S16x4096x1_S16x4096x1024_0_1_2 : S16x4096x1.BroadcastsInDim S16x4096x1024 (![0, 1, 2] : Fin 3 → Fin S16x4096x1024.rank)
  bcast_S16x1x1024_S16x4096x1024_0_1_2 : S16x1x1024.BroadcastsInDim S16x4096x1024 (![0, 1, 2] : Fin 3 → Fin S16x4096x1024.rank)
  bcast_S_S16x4096x1024 : S_.BroadcastsInDim S16x4096x1024 (![] : Fin 0 → Fin S16x4096x1024.rank)
  reducesTo_S16x4096x1024_S_d0_1_2 : S16x4096x1024.ReducesTo [0, 1, 2] S_
  dot_S16x4096x3_S16x1024x3_S16x4096x1024_2_2_1_1_0_0_wf : DotDims.WF S16x4096x3 S16x1024x3 S16x4096x1024 [2] [2] [1] [1] [0] [0]

variable [Facts]

def dot_S16x4096x3_S16x1024x3_S16x4096x1024_2_2_1_1_0_0 : DotDims S16x4096x3 S16x1024x3 S16x4096x1024 where
  lhsContracting := [2]
  rhsContracting := [2]
  lhsNonContracting := [1]
  rhsNonContracting := [1]
  lhsBatch := [0]
  rhsBatch := [0]
  wf := dot_S16x4096x3_S16x1024x3_S16x4096x1024_2_2_1_1_0_0_wf
def fn_part3 {F : FTy → Type} [FloatOps F] (main_arg0 : FVec F S16x1024x3 .f32) (main_arg2 : FVec F S16x4096x3 .f32) (main_v44 : IVec S_ 1) (main_v47 : FVec F S16x4096x1 .f32) (main_v50 : FVec F S16x1x1024 .f32) : IVec S_ 1 :=
  let main_v51 : FVec F S16x4096x1024 .f32 := (fun l r => Host.dotGeneral dot_S16x4096x3_S16x1024x3_S16x4096x1024_2_2_1_1_0_0 none l r) main_arg2 main_arg0
  let main_v52 : FVec F S16x4096x1024 .f32 := broadcastInDim S16x4096x1024 ![0, 1, 2] bcast_S16x4096x1_S16x4096x1024_0_1_2 main_v47
  let main_v53 : FVec F S16x4096x1024 .f32 := broadcastInDim S16x4096x1024 ![0, 1, 2] bcast_S16x1x1024_S16x4096x1024_0_1_2 main_v50
  let main_v54 : FVec F S16x4096x1024 .f32 := addf main_v52 main_v53
  let main_cst_19 : FVec F S_ .f32 := constant S_ .f32 0x40000000#32
  let main_v55 : FVec F S16x4096x1024 .f32 := broadcastInDim S16x4096x1024 ![] bcast_S_S16x4096x1024 main_cst_19
  let main_v56 : FVec F S16x4096x1024 .f32 := mulf main_v55 main_v51
  let main_v57 : FVec F S16x4096x1024 .f32 := subf main_v54 main_v56
  let main_cst_20 : FVec F S_ .f32 := constant S_ .f32 0x2B8CBCCC#32
  let main_v58 : FVec F S16x4096x1024 .f32 := broadcastInDim S16x4096x1024 ![] bcast_S_S16x4096x1024 main_cst_20
  let main_v59 : IVec S16x4096x1024 1 := cmpf .oge main_v57 main_v58
  let main_c_21 : IVec S_ 1 := constantI S_ 1 1#1
  let main_v60 : IVec S_ 1 := (fun x v => Host.reduce IntOp.andi x v reducesTo_S16x4096x1024_S_d0_1_2 h_S_) main_v59 main_c_21
  let main_v61 : IVec S_ 1 := andi main_v44 main_v60
  main_v61

def fn_part2 {F : FTy → Type} [FloatOps F] (main_arg0 : FVec F S16x1024x3 .f32) (main_arg2 : FVec F S16x4096x3 .f32) (main_arg7 : FVec F S256 .f32) (main_arg8 : FVec F S256 .f32) (main_v29 : IVec S_ 1) (main_v32 : IVec S256x256 1) (main_c_12 : IVec S_ 1) : IVec S_ 1 :=
  let main_v33 : IVec S_ 1 := (fun x v => Host.reduce IntOp.andi x v reducesTo_S256x256_S_d0_1 h_S_) main_v32 main_c_12
  let main_v34 : IVec S_ 1 := andi main_v29 main_v33
  let main_v35 : FVec F S256 .f32 := Host.absf main_arg7
  let main_cst_13 : FVec F S_ .f32 := constant S_ .f32 0x7F800000#32
  let main_v36 : FVec F S256 .f32 := broadcastInDim S256 ![] bcast_S_S256 main_cst_13
  let main_v37 : IVec S256 1 := cmpf .olt main_v35 main_v36
  let main_c_14 : IVec S_ 1 := constantI S_ 1 1#1
  let main_v38 : IVec S_ 1 := (fun x v => Host.reduce IntOp.andi x v reducesTo_S256_S_d0 h_S_) main_v37 main_c_14
  let main_v39 : IVec S_ 1 := andi main_v34 main_v38
  let main_v40 : FVec F S256 .f32 := Host.absf main_arg8
  let main_cst_15 : FVec F S_ .f32 := constant S_ .f32 0x7F800000#32
  let main_v41 : FVec F S256 .f32 := broadcastInDim S256 ![] bcast_S_S256 main_cst_15
  let main_v42 : IVec S256 1 := cmpf .olt main_v40 main_v41
  let main_c_16 : IVec S_ 1 := constantI S_ 1 1#1
  let main_v43 : IVec S_ 1 := (fun x v => Host.reduce IntOp.andi x v reducesTo_S256_S_d0 h_S_) main_v42 main_c_16
  let main_v44 : IVec S_ 1 := andi main_v39 main_v43
  let main_v45 : FVec F S16x4096x3 .f32 := mulf main_arg2 main_arg2
  let main_cst_17 : FVec F S_ .f32 := constant S_ .f32 0x00000000#32
  let main_v46 : FVec F S16x4096 .f32 := (fun x v => Host.reduceAdd x v reducesTo_S16x4096x3_S16x4096_d2 h_S_) main_v45 main_cst_17
  let main_v47 : FVec F S16x4096x1 .f32 := broadcastInDim S16x4096x1 ![0, 1] bcast_S16x4096_S16x4096x1_0_1 main_v46
  let main_v48 : FVec F S16x1024x3 .f32 := mulf main_arg0 main_arg0
  let main_cst_18 : FVec F S_ .f32 := constant S_ .f32 0x00000000#32
  let main_v49 : FVec F S16x1024 .f32 := (fun x v => Host.reduceAdd x v reducesTo_S16x1024x3_S16x1024_d2 h_S_) main_v48 main_cst_18
  let main_v50 : FVec F S16x1x1024 .f32 := broadcastInDim S16x1x1024 ![0, 2] bcast_S16x1024_S16x1x1024_0_2 main_v49
  fn_part3 (F := F) main_arg0 main_arg2 main_v44 main_v47 main_v50

def fn_part1 {F : FTy → Type} [FloatOps F] (main_arg0 : FVec F S16x1024x3 .f32) (main_arg2 : FVec F S16x4096x3 .f32) (main_arg4 : FVec F S512x256 .f32) (main_arg5 : FVec F S256 .f32) (main_arg6 : FVec F S256x256 .f32) (main_arg7 : FVec F S256 .f32) (main_arg8 : FVec F S256 .f32) (main_v14 : IVec S_ 1) (main_v15 : FVec F S16x4096x256 .f32) (main_cst_5 : FVec F S_ .f32) : IVec S_ 1 :=
  let main_v16 : FVec F S16x4096x256 .f32 := broadcastInDim S16x4096x256 ![] bcast_S_S16x4096x256 main_cst_5
  let main_v17 : IVec S16x4096x256 1 := cmpf .olt main_v15 main_v16
  let main_c_6 : IVec S_ 1 := constantI S_ 1 1#1
  let main_v18 : IVec S_ 1 := (fun x v => Host.reduce IntOp.andi x v reducesTo_S16x4096x256_S_d0_1_2 h_S_) main_v17 main_c_6
  let main_v19 : IVec S_ 1 := andi main_v14 main_v18
  let main_v20 : FVec F S512x256 .f32 := Host.absf main_arg4
  let main_cst_7 : FVec F S_ .f32 := constant S_ .f32 0x7F800000#32
  let main_v21 : FVec F S512x256 .f32 := broadcastInDim S512x256 ![] bcast_S_S512x256 main_cst_7
  let main_v22 : IVec S512x256 1 := cmpf .olt main_v20 main_v21
  let main_c_8 : IVec S_ 1 := constantI S_ 1 1#1
  let main_v23 : IVec S_ 1 := (fun x v => Host.reduce IntOp.andi x v reducesTo_S512x256_S_d0_1 h_S_) main_v22 main_c_8
  let main_v24 : IVec S_ 1 := andi main_v19 main_v23
  let main_v25 : FVec F S256 .f32 := Host.absf main_arg5
  let main_cst_9 : FVec F S_ .f32 := constant S_ .f32 0x7F800000#32
  let main_v26 : FVec F S256 .f32 := broadcastInDim S256 ![] bcast_S_S256 main_cst_9
  let main_v27 : IVec S256 1 := cmpf .olt main_v25 main_v26
  let main_c_10 : IVec S_ 1 := constantI S_ 1 1#1
  let main_v28 : IVec S_ 1 := (fun x v => Host.reduce IntOp.andi x v reducesTo_S256_S_d0 h_S_) main_v27 main_c_10
  let main_v29 : IVec S_ 1 := andi main_v24 main_v28
  let main_v30 : FVec F S256x256 .f32 := Host.absf main_arg6
  let main_cst_11 : FVec F S_ .f32 := constant S_ .f32 0x7F800000#32
  let main_v31 : FVec F S256x256 .f32 := broadcastInDim S256x256 ![] bcast_S_S256x256 main_cst_11
  let main_v32 : IVec S256x256 1 := cmpf .olt main_v30 main_v31
  let main_c_12 : IVec S_ 1 := constantI S_ 1 1#1
  fn_part2 (F := F) main_arg0 main_arg2 main_arg7 main_arg8 main_v29 main_v32 main_c_12

def fn {F : FTy → Type} [FloatOps F] (main_arg0 : FVec F S16x1024x3 .f32) (main_arg1 : FVec F S16x1024x512 .f32) (main_arg2 : FVec F S16x4096x3 .f32) (main_arg3 : FVec F S16x4096x256 .f32) (main_arg4 : FVec F S512x256 .f32) (main_arg5 : FVec F S256 .f32) (main_arg6 : FVec F S256x256 .f32) (main_arg7 : FVec F S256 .f32) (main_arg8 : FVec F S256 .f32) (main_arg9 : FVec F S256 .f32) : IVec S_ 1 :=
  let main_v0 : FVec F S16x1024x3 .f32 := Host.absf main_arg0
  let main_cst : FVec F S_ .f32 := constant S_ .f32 0x7F800000#32
  let main_v1 : FVec F S16x1024x3 .f32 := broadcastInDim S16x1024x3 ![] bcast_S_S16x1024x3 main_cst
  let main_v2 : IVec S16x1024x3 1 := cmpf .olt main_v0 main_v1
  let main_c : IVec S_ 1 := constantI S_ 1 1#1
  let main_v3 : IVec S_ 1 := (fun x v => Host.reduce IntOp.andi x v reducesTo_S16x1024x3_S_d0_1_2 h_S_) main_v2 main_c
  let main_c_0 : IVec S_ 1 := constantI S_ 1 1#1
  let main_v4 : IVec S_ 1 := andi main_c_0 main_v3
  let main_v5 : FVec F S16x1024x512 .f32 := Host.absf main_arg1
  let main_cst_1 : FVec F S_ .f32 := constant S_ .f32 0x7F800000#32
  let main_v6 : FVec F S16x1024x512 .f32 := broadcastInDim S16x1024x512 ![] bcast_S_S16x1024x512 main_cst_1
  let main_v7 : IVec S16x1024x512 1 := cmpf .olt main_v5 main_v6
  let main_c_2 : IVec S_ 1 := constantI S_ 1 1#1
  let main_v8 : IVec S_ 1 := (fun x v => Host.reduce IntOp.andi x v reducesTo_S16x1024x512_S_d0_1_2 h_S_) main_v7 main_c_2
  let main_v9 : IVec S_ 1 := andi main_v4 main_v8
  let main_v10 : FVec F S16x4096x3 .f32 := Host.absf main_arg2
  let main_cst_3 : FVec F S_ .f32 := constant S_ .f32 0x7F800000#32
  let main_v11 : FVec F S16x4096x3 .f32 := broadcastInDim S16x4096x3 ![] bcast_S_S16x4096x3 main_cst_3
  let main_v12 : IVec S16x4096x3 1 := cmpf .olt main_v10 main_v11
  let main_c_4 : IVec S_ 1 := constantI S_ 1 1#1
  let main_v13 : IVec S_ 1 := (fun x v => Host.reduce IntOp.andi x v reducesTo_S16x4096x3_S_d0_1_2 h_S_) main_v12 main_c_4
  let main_v14 : IVec S_ 1 := andi main_v9 main_v13
  let main_v15 : FVec F S16x4096x256 .f32 := Host.absf main_arg3
  let main_cst_5 : FVec F S_ .f32 := constant S_ .f32 0x7F800000#32
  fn_part1 (F := F) main_arg0 main_arg2 main_arg4 main_arg5 main_arg6 main_arg7 main_arg8 main_v14 main_v15 main_cst_5
-- ==== Kernel.lean ====
abbrev S16x1024x3 : Shape := ⟨3, ![16, 1024, 3]⟩
abbrev S16x1024x512 : Shape := ⟨3, ![16, 1024, 512]⟩
abbrev S16x4096x3 : Shape := ⟨3, ![16, 4096, 3]⟩
abbrev S16x4096x256 : Shape := ⟨3, ![16, 4096, 256]⟩
abbrev S512x256 : Shape := ⟨2, ![512, 256]⟩
abbrev S256 : Shape := ⟨1, ![256]⟩
abbrev S256x256 : Shape := ⟨2, ![256, 256]⟩
abbrev S1x256 : Shape := ⟨2, ![1, 256]⟩
abbrev S16x3x1024 : Shape := ⟨3, ![16, 3, 1024]⟩
abbrev S1x1024x512 : Shape := ⟨3, ![1, 1024, 512]⟩
abbrev S1x4096x256 : Shape := ⟨3, ![1, 4096, 256]⟩
abbrev S1x2048x3 : Shape := ⟨3, ![1, 2048, 3]⟩
abbrev S1x3x1024 : Shape := ⟨3, ![1, 3, 1024]⟩
abbrev S1x2048x256 : Shape := ⟨3, ![1, 2048, 256]⟩
abbrev S16384x256 : Shape := ⟨2, ![16384, 256]⟩
abbrev S4x256 : Shape := ⟨2, ![4, 256]⟩
abbrev S1024x256 : Shape := ⟨2, ![1024, 256]⟩
abbrev S1024x512 : Shape := ⟨2, ![1024, 512]⟩
abbrev S4096x256 : Shape := ⟨2, ![4096, 256]⟩
abbrev S2048x3 : Shape := ⟨2, ![2048, 3]⟩
abbrev S3x1024 : Shape := ⟨2, ![3, 1024]⟩
abbrev S2048 : Shape := ⟨1, ![2048]⟩
abbrev S2048x1 : Shape := ⟨2, ![2048, 1]⟩
abbrev S1024 : Shape := ⟨1, ![1024]⟩
abbrev S1x1024 : Shape := ⟨2, ![1, 1024]⟩
abbrev S2048x1024 : Shape := ⟨2, ![2048, 1024]⟩
abbrev S2048x256 : Shape := ⟨2, ![2048, 256]⟩

abbrev nBuf : Space → Nat
  | .hbm => 16
  | .vmem => 22
  | .smem => 0
  | _ => 0

abbrev bufTy : (tb : Table) → Fin (tcTables nBuf tb) → BufTy
  | .hbm, ⟨0, _⟩ => ⟨S16x1024x3, .f32⟩
  | .hbm, ⟨1, _⟩ => ⟨S16x1024x512, .f32⟩
  | .hbm, ⟨2, _⟩ => ⟨S16x4096x3, .f32⟩
  | .hbm, ⟨3, _⟩ => ⟨S16x4096x256, .f32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S16x3x1024, .f32⟩
  | .hbm, ⟨15, _⟩ => ⟨S16x4096x256, .f32⟩
  | .local _ .vmem, ⟨0, _⟩ => ⟨S1x1024x512, .f32⟩
  | .local _ .vmem, ⟨1, _⟩ => ⟨S1x1024x512, .f32⟩
  | .local _ .vmem, ⟨2, _⟩ => ⟨S1x4096x256, .f32⟩
  | .local _ .vmem, ⟨3, _⟩ => ⟨S1x4096x256, .f32⟩
  | .local _ .vmem, ⟨4, _⟩ => ⟨S512x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x2048x3, .f32⟩
  | .local _ .vmem, ⟨11, _⟩ => ⟨S1x2048x3, .f32⟩
  | .local _ .vmem, ⟨12, _⟩ => ⟨S1x3x1024, .f32⟩
  | .local _ .vmem, ⟨13, _⟩ => ⟨S1x3x1024, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x256, .f32⟩
  | .local _ .vmem, ⟨17, _⟩ => ⟨S1x2048x256, .f32⟩
  | .local _ .vmem, ⟨18, _⟩ => ⟨S16384x256, .f32⟩
  | .local _ .vmem, ⟨19, _⟩ => ⟨S4x256, .f32⟩
  | .local _ .vmem, ⟨20, _⟩ => ⟨S4x256, .f32⟩
  | .local _ .vmem, ⟨21, _⟩ => ⟨S1024x256, .f32⟩
  | _, _ => ⟨S16x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![48], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c1024_i32 : BitVec 32 := 1024#32
  let v17 : BitVec 32 := Scalar.muli arg0 c1024_i32
  let v18 : Index := Scalar.indexCast v17
  let c0_10 : Index := 0#32
  ![v18.toNat, 0]
def k0_cond4 (i : grid0.Coords) : BitVec 1 :=
  let arg0 : BitVec 32 := BitVec.ofNat 32 (i 0).val
  let c16_i32_2 : BitVec 32 := 16#32
  let v6 : BitVec 1 := Scalar.cmpi .sge arg0 c16_i32_2
  let v7 : BitVec 32 := Scalar.extui v6
  let c0_i32_3 : BitVec 32 := 0#32
  let v8 : BitVec 1 := Scalar.cmpi .ne v7 c0_i32_3
  v8

def k0_cond5 (i : grid0.Coords) : BitVec 1 :=
  let arg0 : BitVec 32 := BitVec.ofNat 32 (i 0).val
  let c16_i32_4 : BitVec 32 := 16#32
  let v9 : BitVec 32 := Scalar.subi arg0 c16_i32_4
  let c2_i32_10 : BitVec 32 := 2#32
  let c0_i32_11 : BitVec 32 := 0#32
  let v27 : BitVec 1 := Scalar.cmpi .eq c2_i32_10 c0_i32_11
  let c1_i32_12 : BitVec 32 := 1#32
  let v28 : BitVec 32 := Scalar.select v27 c1_i32_12 c2_i32_10
  let v29 : BitVec 32 := Scalar.remsi v9 v28
  let c0_i32_14 : BitVec 32 := 0#32
  let v31 : BitVec 1 := Scalar.cmpi .slt v29 c0_i32_14
  let c0_i32_15 : BitVec 32 := 0#32
  let v32 : BitVec 1 := Scalar.cmpi .slt v28 c0_i32_15
  let v33 : BitVec 1 := Scalar.xori v31 v32
  let c0_i32_13 : BitVec 32 := 0#32
  let v30 : BitVec 1 := Scalar.cmpi .ne v29 c0_i32_13
  let v34 : BitVec 1 := Scalar.andi v33 v30
  let v35 : BitVec 32 := Scalar.addi v29 v28
  let v36 : BitVec 32 := Scalar.select v34 v35 v29
  let c0_i32_16 : BitVec 32 := 0#32
  let v37 : BitVec 1 := Scalar.cmpi .eq v36 c0_i32_16
  let v38 : BitVec 32 := Scalar.extui v37
  let c0_i32_17 : BitVec 32 := 0#32
  let v39 : BitVec 1 := Scalar.cmpi .ne v38 c0_i32_17
  v39

def k0_off2 (i : grid0.Coords) : Fin 2 → Nat :=
  let arg0 : BitVec 32 := BitVec.ofNat 32 (i 0).val
  let c16_i32_4 : BitVec 32 := 16#32
  let v9 : BitVec 32 := Scalar.subi arg0 c16_i32_4
  let c0_i32_5 : BitVec 32 := 0#32
  let v11 : BitVec 1 := Scalar.cmpi .sgt v9 c0_i32_5
  let v12 : BitVec 32 := Scalar.extui v11
  let c0_i32_6 : BitVec 32 := 0#32
  let v13 : BitVec 1 := Scalar.cmpi .slt v9 c0_i32_6
  let v14 : BitVec 32 := Scalar.extui v13
  let v15 : BitVec 32 := Scalar.subi v12 v14
  let c2_i32 : BitVec 32 := 2#32
  let c0_i32_7 : BitVec 32 := 0#32
  let v16 : BitVec 1 := Scalar.cmpi .sgt c2_i32 c0_i32_7
  let v17 : BitVec 32 := Scalar.extui v16
  let c0_i32_8 : BitVec 32 := 0#32
  let v18 : BitVec 1 := Scalar.cmpi .slt c2_i32 c0_i32_8
  let v19 : BitVec 32 := Scalar.extui v18
  let v20 : BitVec 32 := Scalar.subi v17 v19
  let v21 : BitVec 1 := Scalar.cmpi .ne v15 v20
  let v22 : BitVec 32 := Scalar.remsi v9 c2_i32
  let c0_i32_9 : BitVec 32 := 0#32
  let v23 : BitVec 1 := Scalar.cmpi .ne v22 c0_i32_9
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1024_i32 : BitVec 32 := 1024#32
  let v150 : BitVec 32 := Scalar.muli v26 c1024_i32
  let v151 : Index := Scalar.indexCast v150
  let c0_60 : Index := 0#32
  ![v151.toNat, 0]
def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c16_i32_5 : BitVec 32 := 16#32
  let v19 : BitVec 32 := Scalar.subi arg0 c16_i32_5
  let c0_i32_6 : BitVec 32 := 0#32
  let v20 : BitVec 32 := Scalar.maxsi v19 c0_i32_6
  let c2_i32_7 : BitVec 32 := 2#32
  let c0_i32_8 : BitVec 32 := 0#32
  let v21 : BitVec 1 := Scalar.cmpi .eq c2_i32_7 c0_i32_8
  let c1_i32_9 : BitVec 32 := 1#32
  let v22 : BitVec 32 := Scalar.select v21 c1_i32_9 c2_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, v30.toNat, c0_i32_13.toNat]

def cc0_transform_9 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_10 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c16_i32_5 : BitVec 32 := 16#32
  let v19 : BitVec 32 := Scalar.subi arg0 c16_i32_5
  let c0_i32_6 : BitVec 32 := 0#32
  let v20 : BitVec 32 := Scalar.maxsi v19 c0_i32_6
  let c2_i32_7 : BitVec 32 := 2#32
  let c0_i32_8 : BitVec 32 := 0#32
  let v21 : BitVec 1 := Scalar.cmpi .eq c2_i32_7 c0_i32_8
  let c1_i32_9 : BitVec 32 := 1#32
  let v22 : BitVec 32 := Scalar.select v21 c1_i32_9 c2_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, v30.toNat, c0_i32_13.toNat]

def cc0_transform_11 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c16_i32_5 : BitVec 32 := 16#32
  let v19 : BitVec 32 := Scalar.subi arg0 c16_i32_5
  let c0_i32_6 : BitVec 32 := 0#32
  let v20 : BitVec 32 := Scalar.maxsi v19 c0_i32_6
  let c2_i32_7 : BitVec 32 := 2#32
  let c0_i32_8 : BitVec 32 := 0#32
  let v21 : BitVec 1 := Scalar.cmpi .eq c2_i32_7 c0_i32_8
  let c1_i32_9 : BitVec 32 := 1#32
  let v22 : BitVec 32 := Scalar.select v21 c1_i32_9 c2_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, v30.toNat, c0_i32_13.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2048x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x3x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S16x1024x3 : Shape := ⟨3, ![16, 1024, 3]⟩
abbrev S16x1024x512 : Shape := ⟨3, ![16, 1024, 512]⟩
abbrev S16x4096x3 : Shape := ⟨3, ![16, 4096, 3]⟩
abbrev S16x4096x256 : Shape := ⟨3, ![16, 4096, 256]⟩
abbrev S512x256 : Shape := ⟨2, ![512, 256]⟩
abbrev S256 : Shape := ⟨1, ![256]⟩
abbrev S256x256 : Shape := ⟨2, ![256, 256]⟩
abbrev S16x1024x256 : Shape := ⟨3, ![16, 1024, 256]⟩
abbrev S1x1x256 : Shape := ⟨3, ![1, 1, 256]⟩
abbrev S_ : Shape := ⟨0, ![]⟩
abbrev S16x4096 : Shape := ⟨2, ![16, 4096]⟩
abbrev S16x4096x1 : Shape := ⟨3, ![16, 4096, 1]⟩
abbrev S16x1024 : Shape := ⟨2, ![16, 1024]⟩
abbrev S16x1x1024 : Shape := ⟨3, ![16, 1, 1024]⟩
abbrev S16x4096x1024 : Shape := ⟨3, ![16, 4096, 1024]⟩
abbrev S16x4096x3x1 : Shape := ⟨4, ![16, 4096, 3, 1]⟩
abbrev S16x4096x3x256 : Shape := ⟨4, ![16, 4096, 3, 256]⟩

abbrev nBuf : Space → Nat
  | .hbm => 162
  | .vmem => 0
  | .smem => 0
  | _ => 0

abbrev hbmTy0_0 (i : Nat) : BufTy := match i % 128 with
  | 0 => ⟨S16x1024x3, .f32⟩
  | 1 => ⟨S16x1024x512, .f32⟩
  | 2 => ⟨S16x4096x3, .f32⟩
  | 3 => ⟨S16x4096x256, .f32⟩
  | 4 => ⟨S512x256, .f32⟩
  | 5 => ⟨S256, .f32⟩
  | 6 => ⟨S256x256, .f32⟩
  | 7 => ⟨S256, .f32⟩
  | 8 => ⟨S256, .f32⟩
  | 9 => ⟨S256, .f32⟩
  | 10 => ⟨S16x1024x256, .f32⟩
  | 11 => ⟨S1x1x256, .f32⟩
  | 12 => ⟨S16x1024x256, .f32⟩
  | 13 => ⟨S16x1024x256, .f32⟩
  | 14 => ⟨S_, .f32⟩
  | 15 => ⟨S256, .f32⟩
  | 16 => ⟨S_, .f32⟩
  | 17 => ⟨S256, .f32⟩
  | 18 => ⟨S256, .f32⟩
  | 19 => ⟨S_, .i32⟩
  | 20 => ⟨S_, .f32⟩
  | 21 => ⟨S256, .f32⟩
  | 22 => ⟨S1x1x256, .f32⟩
  | 23 => ⟨S_, .f32⟩
  | 24 => ⟨S1x1x256, .f32⟩
  | 25 => ⟨S1x1x256, .f32⟩
  | 26 => ⟨S16x1024x256, .f32⟩
  | 27 => ⟨S16x1024x256, .f32⟩
  | 28 => ⟨S16x1024x256, .f32⟩
  | 29 => ⟨S_, .f32⟩
  | 30 => ⟨S_, .f32⟩
  | 31 => ⟨S_, .f32⟩
  | 32 => ⟨S_, .f32⟩
  | 33 => ⟨S256, .f32⟩
  | 34 => ⟨S256, .f32⟩
  | 35 => ⟨S256, .f32⟩
  | 36 => ⟨S_, .f32⟩
  | 37 => ⟨S_, .i1⟩
  | 38 => ⟨S_, .f32⟩
  | 39 => ⟨S_, .f32⟩
  | 40 => ⟨S256, .f32⟩
  | 41 => ⟨S256, .f32⟩
  | 42 => ⟨S1x1x256, .f32⟩
  | 43 => ⟨S16x1024x256, .f32⟩
  | 44 => ⟨S16x1024x256, .f32⟩
  | 45 => ⟨S_, .f32⟩
  | 46 => ⟨S256, .f32⟩
  | 47 => ⟨S256, .f32⟩
  | 48 => ⟨S256, .f32⟩
  | 49 => ⟨S1x1x256, .f32⟩
  | 50 => ⟨S16x1024x256, .f32⟩
  | 51 => ⟨S16x1024x256, .f32⟩
  | 52 => ⟨S1x1x256, .f32⟩
  | 53 => ⟨S16x1024x256, .f32⟩
  | 54 => ⟨S16x1024x256, .f32⟩
  | 55 => ⟨S1x1x256, .f32⟩
  | 56 => ⟨S16x1024x256, .f32⟩
  | 57 => ⟨S16x1024x256, .f32⟩
  | 58 => ⟨S_, .f32⟩
  | 59 => ⟨S16x1024x256, .f32⟩
  | 60 => ⟨S16x1024x256, .f32⟩
  | 61 => ⟨S16x4096x3, .f32⟩
  | 62 => ⟨S_, .f32⟩
  | 63 => ⟨S16x4096, .f32⟩
  | 64 => ⟨S16x4096x1, .f32⟩
  | 65 => ⟨S16x1024x3, .f32⟩
  | 66 => ⟨S_, .f32⟩
  | 67 => ⟨S16x1024, .f32⟩
  | 68 => ⟨S16x1x1024, .f32⟩
  | 69 => ⟨S16x4096x1024, .f32⟩
  | 70 => ⟨S16x4096x1024, .f32⟩
  | 71 => ⟨S16x4096x1024, .f32⟩
  | 72 => ⟨S16x4096x1024, .f32⟩
  | 73 => ⟨S_, .f32⟩
  | 74 => ⟨S16x4096x1024, .f32⟩
  | 75 => ⟨S16x4096x1024, .f32⟩
  | 76 => ⟨S16x4096x1024, .f32⟩
  | 77 => ⟨S_, .f32⟩
  | 78 => ⟨S16x4096x1024, .f32⟩
  | 79 => ⟨S16x4096x1024, .f32⟩
  | 80 => ⟨S16x4096x1024, .f32⟩
  | 81 => ⟨S16x4096x1024, .f32⟩
  | 82 => ⟨S16x4096x3, .f32⟩
  | 83 => ⟨S16x4096x3, .i32⟩
  | 84 => ⟨S16x4096x3, .f32⟩
  | 85 => ⟨S_, .f32⟩
  | 86 => ⟨S16x4096x3, .f32⟩
  | 87 => ⟨S16x4096x3, .f32⟩
  | 88 => ⟨S_, .f32⟩
  | 89 => ⟨S16x4096x3, .f32⟩
  | 90 => ⟨S16x4096x3, .f32⟩
  | 91 => ⟨S_, .f32⟩
  | 92 => ⟨S16x4096, .f32⟩
  | 93 => ⟨S16x4096x1, .f32⟩
  | 94 => ⟨S16x4096x3, .f32⟩
  | 95 => ⟨S16x4096x3, .f32⟩
  | 96 => ⟨S_, .i32⟩
  | 97 => ⟨S16x4096x3, .i32⟩
  | 98 => ⟨S16x4096x3, .i1⟩
  | 99 => ⟨S_, .i32⟩
  | 100 => ⟨S16x4096x3, .i32⟩
  | 101 => ⟨S16x4096x3, .i32⟩
  | 102 => ⟨S16x4096x3, .i32⟩
  | 103 => ⟨S16x4096x3x1, .i32⟩
  | 104 => ⟨S16x4096x3x256, .f32⟩
  | 105 => ⟨S16x4096x3x1, .f32⟩
  | 106 => ⟨S16x4096x3x256, .f32⟩
  | 107 => ⟨S16x4096x3x256, .f32⟩
  | 108 => ⟨S_, .f32⟩
  | 109 => ⟨S16x4096x256, .f32⟩
  | 110 => ⟨S16x4096x256, .f32⟩
  | 111 => ⟨S1x1x256, .f32⟩
  | 112 => ⟨S16x4096x256, .f32⟩
  | 113 => ⟨S16x4096x256, .f32⟩
  | 114 => ⟨S_, .f32⟩
  | 115 => ⟨S256, .f32⟩
  | 116 => ⟨S_, .f32⟩
  | 117 => ⟨S256, .f32⟩
  | 118 => ⟨S256, .f32⟩
  | 119 => ⟨S_, .i32⟩
  | 120 => ⟨S_, .f32⟩
  | 121 => ⟨S256, .f32⟩
  | 122 => ⟨S1x1x256, .f32⟩
  | 123 => ⟨S_, .f32⟩
  | 124 => ⟨S1x1x256, .f32⟩
  | 125 => ⟨S1x1x256, .f32⟩
  | 126 => ⟨S16x4096x256, .f32⟩
  | 127 => ⟨S16x4096x256, .f32⟩
  | _ => ⟨S16x1024x3, .f32⟩

abbrev hbmTy0_1 (i : Nat) : BufTy := match i % 128 with
  | 0 => ⟨S16x4096x256, .f32⟩
  | 1 => ⟨S_, .f32⟩
  | 2 => ⟨S_, .f32⟩
  | 3 => ⟨S_, .f32⟩
  | 4 => ⟨S_, .f32⟩
  | 5 => ⟨S256, .f32⟩
  | 6 => ⟨S256, .f32⟩
  | 7 => ⟨S256, .f32⟩
  | 8 => ⟨S_, .f32⟩
  | 9 => ⟨S_, .i1⟩
  | 10 => ⟨S_, .f32⟩
  | 11 => ⟨S_, .f32⟩
  | 12 => ⟨S256, .f32⟩
  | 13 => ⟨S256, .f32⟩
  | 14 => ⟨S1x1x256, .f32⟩
  | 15 => ⟨S16x4096x256, .f32⟩
  | 16 => ⟨S16x4096x256, .f32⟩
  | 17 => ⟨S_, .f32⟩
  | 18 => ⟨S256, .f32⟩
  | 19 => ⟨S256, .f32⟩
  | 20 => ⟨S256, .f32⟩
  | 21 => ⟨S1x1x256, .f32⟩
  | 22 => ⟨S16x4096x256, .f32⟩
  | 23 => ⟨S16x4096x256, .f32⟩
  | 24 => ⟨S1x1x256, .f32⟩
  | 25 => ⟨S16x4096x256, .f32⟩
  | 26 => ⟨S16x4096x256, .f32⟩
  | 27 => ⟨S1x1x256, .f32⟩
  | 28 => ⟨S16x4096x256, .f32⟩
  | 29 => ⟨S16x4096x256, .f32⟩
  | 30 => ⟨S_, .f32⟩
  | 31 => ⟨S16x4096x256, .f32⟩
  | 32 => ⟨S16x4096x256, .f32⟩
  | 33 => ⟨S16x4096x256, .f32⟩
  | _ => ⟨S16x1024x3, .f32⟩

abbrev hbmTy (i : Nat) : BufTy := match i / 128 with
  | 0 => hbmTy0_0 i
  | 1 => hbmTy0_1 i
  | _ => ⟨S16x1024x3, .f32⟩

abbrev bufTy : (tb : Table) → Fin (tcTables nBuf tb) → BufTy
  | .hbm, ⟨i, _⟩ => hbmTy i
  | _, _ => ⟨S16x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_cst_3 : Ref sig .tc := ⟨.hbm, 36, rfl⟩
abbrev main_call0_v12 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst_1 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_call1_cst : Ref sig .tc := ⟨.hbm, 58, rfl⟩
abbrev main_call1_v0 : Ref sig .tc := ⟨.hbm, 59, rfl⟩
abbrev main_v23 : Ref sig .tc := ⟨.hbm, 60, rfl⟩
abbrev main_v24 : Ref sig .tc := ⟨.hbm, 61, rfl⟩
abbrev main_cst_2 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_3 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_4 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_5 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_values : Ref sig .tc := ⟨.hbm, 82, rfl⟩
abbrev main_indices : Ref sig .tc := ⟨.hbm, 83, rfl⟩
abbrev main_v41 : Ref sig .tc := ⟨.hbm, 84, rfl⟩
abbrev main_cst_6 : Ref sig .tc := ⟨.hbm, 85, rfl⟩
abbrev main_v42 : Ref sig .tc := ⟨.hbm, 86, rfl⟩
abbrev main_v43 : Ref sig .tc := ⟨.hbm, 87, rfl⟩
abbrev main_cst_7 : Ref sig .tc := ⟨.hbm, 88, rfl⟩
abbrev main_v44 : Ref sig .tc := ⟨.hbm, 89, rfl⟩
abbrev main_v45 : Ref sig .tc := ⟨.hbm, 90, rfl⟩
abbrev main_cst_8 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_c_9 : Ref sig .tc := ⟨.hbm, 96, rfl⟩
abbrev main_v50 : Ref sig .tc := ⟨.hbm, 97, rfl⟩
abbrev main_v51 : Ref sig .tc := ⟨.hbm, 98, rfl⟩
abbrev main_c_10 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_11 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_12 : Ref sig .tc := ⟨.hbm, 114, rfl⟩
abbrev main_v65 : Ref sig .tc := ⟨.hbm, 115, rfl⟩
abbrev main_cst_13 : Ref sig .tc := ⟨.hbm, 116, rfl⟩
abbrev main_v66 : Ref sig .tc := ⟨.hbm, 117, rfl⟩
abbrev main_v67 : Ref sig .tc := ⟨.hbm, 118, rfl⟩
abbrev main_c_14 : Ref sig .tc := ⟨.hbm, 119, rfl⟩
abbrev main_call2_cst : Ref sig .tc := ⟨.hbm, 120, rfl⟩
abbrev main_call2_v0 : Ref sig .tc := ⟨.hbm, 121, rfl⟩
abbrev main_call2_v1 : Ref sig .tc := ⟨.hbm, 122, rfl⟩
abbrev main_call2_cst_0 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_v7 : Ref sig .tc := ⟨.hbm, 129, rfl⟩
abbrev main_call2_cst_1 : Ref sig .tc := ⟨.hbm, 130, rfl⟩
abbrev main_call2_v8 : Ref sig .tc := ⟨.hbm, 131, rfl⟩
abbrev main_call2_cst_2 : Ref sig .tc := ⟨.hbm, 132, rfl⟩
abbrev main_call2_v9 : Ref sig .tc := ⟨.hbm, 133, rfl⟩
abbrev main_call2_v10 : Ref sig .tc := ⟨.hbm, 134, rfl⟩
abbrev main_call2_v11 : Ref sig .tc := ⟨.hbm, 135, rfl⟩
abbrev main_call2_cst_3 : Ref sig .tc := ⟨.hbm, 136, rfl⟩
abbrev main_call2_v12 : Ref sig .tc := ⟨.hbm, 137, rfl⟩
abbrev main_call2_cst_4 : Ref sig .tc := ⟨.hbm, 138, rfl⟩
abbrev main_call2_call0_v0 : Ref sig .tc := ⟨.hbm, 139, rfl⟩
abbrev main_call2_call0_v1 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_cst_15 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_call3_cst : Ref sig .tc := ⟨.hbm, 158, rfl⟩
abbrev main_call3_v0 : Ref sig .tc := ⟨.hbm, 159, rfl⟩
abbrev main_v84 : Ref sig .tc := ⟨.hbm, 160, rfl⟩
abbrev main_v85 : Ref sig .tc := ⟨.hbm, 161, rfl⟩

abbrev nD : Nat := 1
abbrev τ : Topo := Topo.v7x

variable {F : FTy → Type} [FloatOps F]
-- ==== Proof.IState.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Run

open Cert.KernelIdeal.Gen
open Idealize.ShloMosaic Idealize.ShloMosaic.TcCoe

variable {F : FTy → Type} [FloatOps F]

/-- The condition of the body's first branch: the first grid point. -/
abbrev condInit (i : grid0.Coords) : Prop :=
  (Scalar.cmpi .ne (Scalar.extui (Scalar.cmpi .eq (BitVec.ofNat 32 (i 0).val) 0#32)) 0#32) = 1#1

/-- The condition of the body's third branch: the last grid point of the first phase. -/
abbrev condFin (i : grid0.Coords) : Prop :=
  (Scalar.cmpi .ne (Scalar.extui (Scalar.cmpi .eq (BitVec.ofNat 32 (i 0).val) 15#32)) 0#32) = 1#1

/-- A row of four lies inside the four rows. -/
theorem row4_inb (k : Fin 4) : ∀ a, (![k.val, 0] : Fin 2 → ℕ) a + S1x256.size a ≤ S4x256.size a := by
  revert k; decide

/-- Row `k` of a buffer of four rows. -/
def row4 (k : Fin 4) (x : Vec F S4x256 .f32) : Vec F S1x256 .f32 :=
  VecWindow.window x ![k.val, 0] S1x256.size (row4_inb k)

/-- A buffer of four rows with row `k` replaced. -/
def put4 (k : Fin 4) (x : Vec F S4x256 .f32) (w : Vec F S1x256 .f32) : Vec F S4x256 .f32 :=
  VecWindow.put x ![k.val, 0] S1x256.size w

/-- The row just replaced. -/
theorem row4_put4_same (k : Fin 4) (x : Vec F S4x256 .f32) (w : Vec F S1x256 .f32) : row4 k (put4 k x w) = w :=
  VecWindow.window_put_same x _ _ _ w

/-- Another row than the one replaced. -/
theorem row4_put4_ne (k j : Fin 4) (h : j ≠ k) (x : Vec F S4x256 .f32) (w : Vec F S1x256 .f32) :
    row4 j (put4 k x w) = row4 j x :=
  VecWindow.window_put_of_disjoint x _ _ _ _ _ w (0 : Fin 2) (by
    have h' : j.val ≠ k.val := fun e => h (Fin.ext e)
    show j.val + 1 ≤ k.val ∨ k.val + 1 ≤ j.val
    omega)

/-- The 1024 rows of the stored products that start at the offset `o`. -/
def get1024 (o : Fin 2 → ℕ) (h : ∀ a, o a + S1024x256.size a ≤ S16384x256.size a) (x : Vec F S16384x256 .f32) :
    Vec F S1024x256 .f32 :=
  VecWindow.window x o S1024x256.size h

/-- The stored products with the 1024 rows that start at the offset `o` replaced. -/
def put1024 (o : Fin 2 → ℕ) (x : Vec F S16384x256 .f32) (w : Vec F S1024x256 .f32) : Vec F S16384x256 .f32 :=
  VecWindow.put x o S1024x256.size w

/-- One grid point of the first phase, on the four rows of sums. -/
def accStep (x1 : Vec F S1x1024x512 .f32) (x2 : Vec F S1x4096x256 .f32) (x3 : Vec F S512x256 .f32) (x4 : Vec F S1x256 .f32)
    (x5 : Vec F S256x256 .f32) (x6 : Vec F S1x256 .f32) (x14 : Vec F S4x256 .f32) : Vec F S4x256 .f32 :=
  put4 3 (put4 2 (put4 1 (put4 0 x14
    (k0_pay18 x1 x3 x4 (row4 0 x14)))
    (k0_pay19 x1 x3 x4 (row4 1 x14)))
    (k0_pay3 (k0_pay20 x2) x5 (constant S4096x256 .f32 0x00000000#32) x6 (row4 2 x14)))
    (k0_pay4 (k0_pay20 x2) x5 (constant S4096x256 .f32 0x00000000#32) x6 (row4 3 x14))

/-- The four rows of scales and shifts from the four rows of sums. -/
def bnStep (x7 x8 : Vec F S1x256 .f32) (a x15 : Vec F S4x256 .f32) : Vec F S4x256 .f32 :=
  put4 3 (put4 2 (put4 1 (put4 0 x15
    (k0_pay12 x7 (row4 0 a) (row4 1 a)))
    (k0_pay13 x7 x8 (row4 0 a) (row4 1 a)))
    (k0_pay5 (k0_pay15 x7 (row4 2 a) (row4 3 a))))
    (k0_pay6 (k0_pay9 x8) (k0_pay14 (row4 2 a)) (k0_pay15 x7 (row4 2 a) (row4 3 a)))

/-- One grid point of the second phase: the block of the result. -/
def outStep (x5 : Vec F S256x256 .f32) (x6 : Vec F S1x256 .f32) (x9 : Vec F S1x2048x3 .f32) (x10 : Vec F S1x3x1024 .f32)
    (x11 : Vec F S1x2048x256 .f32) (x15 : Vec F S4x256 .f32) (x16 : Vec F S1024x256 .f32) : Vec F S1x2048x256 .f32 :=
  k0_pay7
    (k0_pay35 k0_pay26 (k0_pay27 (k0_pay22 x9) (k0_pay23 x10) (k0_pay24 x9)) (k0_pay28 (k0_pay22 x9) (k0_pay23 x10) (k0_pay24 x9))
      (k0_pay30 (k0_pay22 x9) (k0_pay23 x10) (k0_pay24 x9)) (k0_pay31 (k0_pay22 x9) (k0_pay23 x10) (k0_pay24 x9))
      (k0_pay33 (k0_pay22 x9) (k0_pay23 x10) (k0_pay24 x9)) (k0_pay34 (k0_pay22 x9) (k0_pay23 x10) (k0_pay24 x9)) x16)
    (k0_pay36 x11 x5) x6 (row4 2 x15) (row4 3 x15)

section Reads

variable {κ : Kind} {sp : Space}

/-- A load of one row of four reads that row. -/
theorem readAt_row4 (k : Fin 4) (v : View sig κ sp S4x256 .f32) (f : v.ty.Contents (Elt F))
    (inb : ∀ a, (![k.val, 0] : Fin 2 → ℕ) a + S1x256.size a ≤ S4x256.size a) :
    v.readAt (Elt F) (Rect.unit (s := S4x256) ![k.val, 0] S1x256.size inb).toLoadRect f = row4 k (v.read (Elt F) f) :=
  View.readAt_unit v f inb rfl (row4_inb k)

/-- A store of one row of four over earlier stores replaces that row. -/
theorem read_writes_row4 (k : Fin 4) (v : View sig κ sp S4x256 .f32) (f : v.ty.Contents (Elt F))
    (inb : ∀ a, (![k.val, 0] : Fin 2 → ℕ) a + S1x256.size a ≤ S4x256.size a)
    (w : Vec F S1x256 .f32) (L : List (View.Piece (Elt F) S4x256 .f32)) :
    v.read (Elt F) (v.writes (Elt F) f (⟨Rect.unit (s := S4x256) ![k.val, 0] S1x256.size inb, w⟩ :: L))
      = put4 k (v.read (Elt F) (v.writes (Elt F) f L)) w :=
  View.read_writes_cons_put v f inb w L rfl

/-- A load of row 0, read off. -/
theorem readAt_row0 (v : View sig κ sp S4x256 .f32) (f : v.ty.Contents (Elt F))
    (inb : ∀ a, (![0, 0] : Fin 2 → ℕ) a + (S1x256.size : Fin 2 → ℕ) a ≤ S4x256.size a) :
    v.readAt (Elt F) (Rect.unit (s := S4x256) ![0, 0] S1x256.size inb).toLoadRect f = row4 0 (v.read (Elt F) f) :=
  readAt_row4 0 v f inb

/-- A store of row 0, read off. -/
theorem read_writes_row0 (v : View sig κ sp S4x256 .f32) (f : v.ty.Contents (Elt F))
    (inb : ∀ a, (![0, 0] : Fin 2 → ℕ) a + (S1x256.size : Fin 2 → ℕ) a ≤ S4x256.size a)
    (w : Vec F S1x256 .f32) (L : List (View.Piece (Elt F) S4x256 .f32)) :
    v.read (Elt F) (v.writes (Elt F) f (⟨Rect.unit (s := S4x256) ![0, 0] S1x256.size inb, w⟩ :: L))
      = put4 0 (v.read (Elt F) (v.writes (Elt F) f L)) w :=
  read_writes_row4 0 v f inb w L

/-- A load of row 0, read off. -/
theorem readAt_row0_lit (v : View sig κ sp S4x256 .f32) (f : v.ty.Contents (Elt F))
    (inb : ∀ a, (![0, 0] : Fin 2 → ℕ) a + (![1, 256] : Fin 2 → ℕ) a ≤ S4x256.size a) :
    v.readAt (Elt F) (Rect.unit (s := S4x256) ![0, 0] ![1, 256] inb).toLoadRect f = row4 0 (v.read (Elt F) f) :=
  readAt_row4 0 v f inb

/-- A store of row 0, read off. -/
theorem read_writes_row0_lit (v : View sig κ sp S4x256 .f32) (f : v.ty.Contents (Elt F))
    (inb : ∀ a, (![0, 0] : Fin 2 → ℕ) a + (![1, 256] : Fin 2 → ℕ) a ≤ S4x256.size a)
    (w : Vec F S1x256 .f32) (L : List (View.Piece (Elt F) S4x256 .f32)) :
    v.read (Elt F) (v.writes (Elt F) f (⟨Rect.unit (s := S4x256) ![0, 0] ![1, 256] inb, w⟩ :: L))
      = put4 0 (v.read (Elt F) (v.writes (Elt F) f L)) w :=
  read_writes_row4 0 v f inb w L

/-- A load of row 1, read off. -/
theorem readAt_row1 (v : View sig κ sp S4x256 .f32) (f : v.ty.Contents (Elt F))
    (inb : ∀ a, (![1, 0] : Fin 2 → ℕ) a + (S1x256.size : Fin 2 → ℕ) a ≤ S4x256.size a) :
    v.readAt (Elt F) (Rect.unit (s := S4x256) ![1, 0] S1x256.size inb).toLoadRect f = row4 1 (v.read (Elt F) f) :=
  readAt_row4 1 v f inb

/-- A store of row 1, read off. -/
theorem read_writes_row1 (v : View sig κ sp S4x256 .f32) (f : v.ty.Contents (Elt F))
    (inb : ∀ a, (![1, 0] : Fin 2 → ℕ) a + (S1x256.size : Fin 2 → ℕ) a ≤ S4x256.size a)
    (w : Vec F S1x256 .f32) (L : List (View.Piece (Elt F) S4x256 .f32)) :
    v.read (Elt F) (v.writes (Elt F) f (⟨Rect.unit (s := S4x256) ![1, 0] S1x256.size inb, w⟩ :: L))
      = put4 1 (v.read (Elt F) (v.writes (Elt F) f L)) w :=
  read_writes_row4 1 v f inb w L

/-- A load of row 1, read off. -/
theorem readAt_row1_lit (v : View sig κ sp S4x256 .f32) (f : v.ty.Contents (Elt F))
    (inb : ∀ a, (![1, 0] : Fin 2 → ℕ) a + (![1, 256] : Fin 2 → ℕ) a ≤ S4x256.size a) :
    v.readAt (Elt F) (Rect.unit (s := S4x256) ![1, 0] ![1, 256] inb).toLoadRect f = row4 1 (v.read (Elt F) f) :=
  readAt_row4 1 v f inb

/-- A store of row 1, read off. -/
theorem read_writes_row1_lit (v : View sig κ sp S4x256 .f32) (f : v.ty.Contents (Elt F))
    (inb : ∀ a, (![1, 0] : Fin 2 → ℕ) a + (![1, 256] : Fin 2 → ℕ) a ≤ S4x256.size a)
    (w : Vec F S1x256 .f32) (L : List (View.Piece (Elt F) S4x256 .f32)) :
    v.read (Elt F) (v.writes (Elt F) f (⟨Rect.unit (s := S4x256) ![1, 0] ![1, 256] inb, w⟩ :: L))
      = put4 1 (v.read (Elt F) (v.writes (Elt F) f L)) w :=
  read_writes_row4 1 v f inb w L

/-- A load of row 2, read off. -/
theorem readAt_row2 (v : View sig κ sp S4x256 .f32) (f : v.ty.Contents (Elt F))
    (inb : ∀ a, (![2, 0] : Fin 2 → ℕ) a + (S1x256.size : Fin 2 → ℕ) a ≤ S4x256.size a) :
    v.readAt (Elt F) (Rect.unit (s := S4x256) ![2, 0] S1x256.size inb).toLoadRect f = row4 2 (v.read (Elt F) f) :=
  readAt_row4 2 v f inb

/-- A store of row 2, read off. -/
theorem read_writes_row2 (v : View sig κ sp S4x256 .f32) (f : v.ty.Contents (Elt F))
    (inb : ∀ a, (![2, 0] : Fin 2 → ℕ) a + (S1x256.size : Fin 2 → ℕ) a ≤ S4x256.size a)
    (w : Vec F S1x256 .f32) (L : List (View.Piece (Elt F) S4x256 .f32)) :
    v.read (Elt F) (v.writes (Elt F) f (⟨Rect.unit (s := S4x256) ![2, 0] S1x256.size inb, w⟩ :: L))
      = put4 2 (v.read (Elt F) (v.writes (Elt F) f L)) w :=
  read_writes_row4 2 v f inb w L

/-- A load of row 2, read off. -/
theorem readAt_row2_lit (v : View sig κ sp S4x256 .f32) (f : v.ty.Contents (Elt F))
    (inb : ∀ a, (![2, 0] : Fin 2 → ℕ) a + (![1, 256] : Fin 2 → ℕ) a ≤ S4x256.size a) :
    v.readAt (Elt F) (Rect.unit (s := S4x256) ![2, 0] ![1, 256] inb).toLoadRect f = row4 2 (v.read (Elt F) f) :=
  readAt_row4 2 v f inb

/-- A store of row 2, read off. -/
theorem read_writes_row2_lit (v : View sig κ sp S4x256 .f32) (f : v.ty.Contents (Elt F))
    (inb : ∀ a, (![2, 0] : Fin 2 → ℕ) a + (![1, 256] : Fin 2 → ℕ) a ≤ S4x256.size a)
    (w : Vec F S1x256 .f32) (L : List (View.Piece (Elt F) S4x256 .f32)) :
    v.read (Elt F) (v.writes (Elt F) f (⟨Rect.unit (s := S4x256) ![2, 0] ![1, 256] inb, w⟩ :: L))
      = put4 2 (v.read (Elt F) (v.writes (Elt F) f L)) w :=
  read_writes_row4 2 v f inb w L

/-- A load of row 3, read off. -/
theorem readAt_row3 (v : View sig κ sp S4x256 .f32) (f : v.ty.Contents (Elt F))
    (inb : ∀ a, (![3, 0] : Fin 2 → ℕ) a + (S1x256.size : Fin 2 → ℕ) a ≤ S4x256.size a) :
    v.readAt (Elt F) (Rect.unit (s := S4x256) ![3, 0] S1x256.size inb).toLoadRect f = row4 3 (v.read (Elt F) f) :=
  readAt_row4 3 v f inb

/-- A store of row 3, read off. -/
theorem read_writes_row3 (v : View sig κ sp S4x256 .f32) (f : v.ty.Contents (Elt F))
    (inb : ∀ a, (![3, 0] : Fin 2 → ℕ) a + (S1x256.size : Fin 2 → ℕ) a ≤ S4x256.size a)
    (w : Vec F S1x256 .f32) (L : List (View.Piece (Elt F) S4x256 .f32)) :
    v.read (Elt F) (v.writes (Elt F) f (⟨Rect.unit (s := S4x256) ![3, 0] S1x256.size inb, w⟩ :: L))
      = put4 3 (v.read (Elt F) (v.writes (Elt F) f L)) w :=
  read_writes_row4 3 v f inb w L

/-- A load of row 3, read off. -/
theorem readAt_row3_lit (v : View sig κ sp S4x256 .f32) (f : v.ty.Contents (Elt F))
    (inb : ∀ a, (![3, 0] : Fin 2 → ℕ) a + (![1, 256] : Fin 2 → ℕ) a ≤ S4x256.size a) :
    v.readAt (Elt F) (Rect.unit (s := S4x256) ![3, 0] ![1, 256] inb).toLoadRect f = row4 3 (v.read (Elt F) f) :=
  readAt_row4 3 v f inb

/-- A store of row 3, read off. -/
theorem read_writes_row3_lit (v : View sig κ sp S4x256 .f32) (f : v.ty.Contents (Elt F))
    (inb : ∀ a, (![3, 0] : Fin 2 → ℕ) a + (![1, 256] : Fin 2 → ℕ) a ≤ S4x256.size a)
    (w : Vec F S1x256 .f32) (L : List (View.Piece (Elt F) S4x256 .f32)) :
    v.read (Elt F) (v.writes (Elt F) f (⟨Rect.unit (s := S4x256) ![3, 0] ![1, 256] inb, w⟩ :: L))
      = put4 3 (v.read (Elt F) (v.writes (Elt F) f L)) w :=
  read_writes_row4 3 v f inb w L

/-- A store of all four rows, read off. -/
theorem read_writes_all4 (v : View sig κ sp S4x256 .f32) (f : v.ty.Contents (Elt F))
    (inb : ∀ a, (![0, 0] : Fin 2 → ℕ) a + (![4, 256] : Fin 2 → ℕ) a ≤ S4x256.size a)
    (w : Vec F S4x256 .f32) (L : List (View.Piece (Elt F) S4x256 .f32)) :
    v.read (Elt F) (v.writes (Elt F) f (⟨Rect.unit (s := S4x256) ![0, 0] ![4, 256] inb, w⟩ :: L)) = w :=
  View.read_writes_full v f inb w L

/-- A load of stored rows, read off. -/
theorem readAt_get1024 (v : View sig κ sp S16384x256 .f32) (f : v.ty.Contents (Elt F)) (o : Fin 2 → ℕ)
    (inb : ∀ a, o a + S1024x256.size a ≤ S16384x256.size a) :
    v.readAt (Elt F) (Rect.unit (s := S16384x256) o S1024x256.size inb).toLoadRect f = get1024 o inb (v.read (Elt F) f) :=
  View.readAt_unit v f inb rfl inb

/-- A store of 1024 rows, read off. -/
theorem read_writes_put1024 (v : View sig κ sp S16384x256 .f32) (f : v.ty.Contents (Elt F)) (o : Fin 2 → ℕ)
    (inb : ∀ a, o a + S1024x256.size a ≤ S16384x256.size a)
    (w : Vec F S1024x256 .f32) (L : List (View.Piece (Elt F) S16384x256 .f32)) :
    v.read (Elt F) (v.writes (Elt F) f (⟨Rect.unit (s := S16384x256) o S1024x256.size inb, w⟩ :: L))
      = put1024 o (v.read (Elt F) (v.writes (Elt F) f L)) w :=
  View.read_writes_cons_put v f inb w L rfl

/-- A store of the whole block of features, read off. -/
theorem read_writes_all1024 (v : View sig κ sp S1024x256 .f32) (f : v.ty.Contents (Elt F))
    (inb : ∀ a, (![0, 0] : Fin 2 → ℕ) a + S1024x256.size a ≤ S1024x256.size a)
    (w : Vec F S1024x256 .f32) (L : List (View.Piece (Elt F) S1024x256 .f32)) :
    v.read (Elt F) (v.writes (Elt F) f (⟨Rect.unit (s := S1024x256) ![0, 0] S1024x256.size inb, w⟩ :: L)) = w :=
  View.read_writes_full v f inb w L

/-- A load of stored rows, read off. -/
theorem readAt_get1024_lit (v : View sig κ sp S16384x256 .f32) (f : v.ty.Contents (Elt F)) (o : Fin 2 → ℕ)
    (inb : ∀ a, o a + (![1024, 256] : Fin 2 → ℕ) a ≤ S16384x256.size a) :
    v.readAt (Elt F) (Rect.unit (s := S16384x256) o ![1024, 256] inb).toLoadRect f = get1024 o inb (v.read (Elt F) f) :=
  View.readAt_unit v f inb rfl inb

/-- A store of 1024 rows, read off. -/
theorem read_writes_put1024_lit (v : View sig κ sp S16384x256 .f32) (f : v.ty.Contents (Elt F)) (o : Fin 2 → ℕ)
    (inb : ∀ a, o a + (![1024, 256] : Fin 2 → ℕ) a ≤ S16384x256.size a)
    (w : Vec F S1024x256 .f32) (L : List (View.Piece (Elt F) S16384x256 .f32)) :
    v.read (Elt F) (v.writes (Elt F) f (⟨Rect.unit (s := S16384x256) o ![1024, 256] inb, w⟩ :: L))
      = put1024 o (v.read (Elt F) (v.writes (Elt F) f L)) w :=
  View.read_writes_cons_put v f inb w L rfl

/-- A store of the whole block of features, read off. -/
theorem read_writes_all1024_lit (v : View sig κ sp S1024x256 .f32) (f : v.ty.Contents (Elt F))
    (inb : ∀ a, (![0, 0] : Fin 2 → ℕ) a + (![1024, 256] : Fin 2 → ℕ) a ≤ S1024x256.size a)
    (w : Vec F S1024x256 .f32) (L : List (View.Piece (Elt F) S1024x256 .f32)) :
    v.read (Elt F) (v.writes (Elt F) f (⟨Rect.unit (s := S1024x256) ![0, 0] ![1024, 256] inb, w⟩ :: L)) = w :=
  View.read_writes_full v f inb w L

/-- A load of the whole block of features, read off. -/
theorem readAt_all1024_lit (v : View sig κ sp S1024x256 .f32) (f : v.ty.Contents (Elt F))
    (inb : ∀ a, (![0, 0] : Fin 2 → ℕ) a + (![1024, 256] : Fin 2 → ℕ) a ≤ S1024x256.size a) :
    v.readAt (Elt F) (Rect.unit (s := S1024x256) ![0, 0] ![1024, 256] inb).toLoadRect f = v.read (Elt F) f :=
  View.readAt_full v f inb

/-- A load of a whole buffer that holds `x`. -/
theorem readAt_whole {s : Shape} (m : Memref sig .tc .vmem s .f32) (h : m.IsWhole) (x : Vec F s .f32) {off : Fin s.rank → ℕ}
    (inb : ∀ a, off a + s.size a ≤ s.size a) :
    m.view.readAt (Elt F) (Rect.unit off s.size inb).toLoadRect (h.unread x) = x :=
  (View.readAt_full _ _ inb).trans (h.read_unread x)

end Reads

end Cert.KernelIdeal.Run

end
-- ==== Proof.IPoints.lean ====
module

public import proofs.«01_k».proof.Proof.IState

@[expose] public section

set_option maxRecDepth 65536

noncomputable section

namespace Cert.KernelIdeal.Run

open Cert.KernelIdeal.Gen
open Idealize.ShloMosaic Idealize.ShloMosaic.TcCoe Idealize.ShloMosaic.Tactic
open Idealize.ShloMosaic.Pipeline (Dat Cfg Window)

variable {F : FTy → Type} [FloatOps F]

/-- The grid points as numbers. -/
theorem coord_val (t : Fin grid0.N) : (grid0.coords t 0).val = t.val := by
  have ht : t.val < 48 := Nat.lt_of_lt_of_eq t.isLt N_0
  have e : (grid0.coords t 0).val = t.val / 1 % 48 := Pipeline.Grid.coords_val t 0 (by decide) rfl
  omega

/-- The first branch is taken at the first point. -/
theorem hInit (t : Fin grid0.N) : condInit (grid0.coords t) ↔ t.val = 0 := by
  have ht : t.val < 48 := Nat.lt_of_lt_of_eq t.isLt N_0
  have e : (grid0.coords t 0).val = t.val := coord_val t
  simp only [condInit, e]
  word_cmp

/-- The second branch is taken in the first phase. -/
theorem h2Iff (t : Fin grid0.N) : k0_cond2 (grid0.coords t) = 1#1 ↔ t.val < 16 := by
  have ht : t.val < 48 := Nat.lt_of_lt_of_eq t.isLt N_0
  have e : (grid0.coords t 0).val = t.val := coord_val t
  simp only [k0_cond2, e]
  word_cmp

/-- The third branch is taken at the last point of the first phase. -/
theorem hFin (t : Fin grid0.N) : condFin (grid0.coords t) ↔ t.val = 15 := by
  have ht : t.val < 48 := Nat.lt_of_lt_of_eq t.isLt N_0
  have e : (grid0.coords t 0).val = t.val := coord_val t
  simp only [condFin, e]
  word_cmp

/-- The fourth branch is taken in the second phase. -/
theorem h4Iff (t : Fin grid0.N) : k0_cond4 (grid0.coords t) = 1#1 ↔ 16 ≤ t.val := by
  have ht : t.val < 48 := Nat.lt_of_lt_of_eq t.isLt N_0
  have e : (grid0.coords t 0).val = t.val := coord_val t
  simp only [k0_cond4, e]
  word_cmp

/-- The fifth branch, inside the fourth, is taken at the even points. -/
theorem h5Iff : ∀ n : Fin 48, 16 ≤ n.val → (k0_cond5 (fun | 0 => n) = 1#1 ↔ n.val % 2 = 0) := by
  decide +kernel

/-- The rows a point of the first phase stores. -/
theorem off1_eq : ∀ n : Fin 48, n.val < 16 → k0_off1 (fun | 0 => n) = ![1024 * n.val, 0] := by
  decide +kernel

/-- The rows a point of the second phase loads. -/
theorem off2_eq : ∀ n : Fin 48, 16 ≤ n.val → k0_off2 (fun | 0 => n) = ![1024 * ((n.val - 16) / 2), 0] := by
  decide +kernel

/-- The result's block is written back in the second phase only. -/
theorem flush11 : ∀ t : Fin grid0.N, win0_11.flush t = decide (16 ≤ t.val) := by
  decide +kernel

/-- A grid point from its number. -/
theorem coords_eq (t : Fin grid0.N) :
    grid0.coords t = (fun | 0 => (⟨t.val, Nat.lt_of_lt_of_eq t.isLt N_0⟩ : Fin 48) : grid0.Coords) := by
  funext a
  match a with
  | 0 => exact Fin.ext (coord_val t)

/-- The fifth branch at a grid point of the second phase. -/
theorem h5Iff' (t : Fin grid0.N) (h : 16 ≤ t.val) : k0_cond5 (grid0.coords t) = 1#1 ↔ t.val % 2 = 0 := by
  rw [coords_eq]; exact h5Iff ⟨t.val, Nat.lt_of_lt_of_eq t.isLt N_0⟩ h

/-- The rows a grid point of the first phase stores. -/
theorem off1_eq' (t : Fin grid0.N) (h : t.val < 16) : k0_off1 (grid0.coords t) = ![1024 * t.val, 0] := by
  rw [coords_eq]; exact off1_eq ⟨t.val, Nat.lt_of_lt_of_eq t.isLt N_0⟩ h

/-- The rows a grid point of the second phase loads. -/
theorem off2_eq' (t : Fin grid0.N) (h : 16 ≤ t.val) : k0_off2 (grid0.coords t) = ![1024 * ((t.val - 16) / 2), 0] := by
  rw [coords_eq]; exact off2_eq ⟨t.val, Nat.lt_of_lt_of_eq t.isLt N_0⟩ h

end Cert.KernelIdeal.Run

end
-- ==== Proof.IInv.lean ====
module

public import proofs.«01_k».proof.Proof.IPoints

@[expose] public section

set_option maxRecDepth 16384

noncomputable section

namespace Cert.KernelIdeal.Run

open Cert.KernelIdeal.Gen
open Idealize.ShloMosaic Idealize.ShloMosaic.TcCoe
open Idealize.ShloMosaic.Pipeline (Dat Cfg Window)

variable {F : FTy → Type} [FloatOps F]
variable (m : (ℓ : Loc nD τ sig) → Buf (Elt F) ℓ) (c : Dev nD)

/-- The grid point of a number, wrapped round. -/
def pt (n : ℕ) : Fin cfg0.N := ⟨n % 48, Nat.lt_of_lt_of_eq (Nat.mod_lt n (by decide)) N_0.symm⟩

/-- The grid point of a grid point's number is that point. -/
theorem pt_val (t : Fin cfg0.N) : pt t.val = t :=
  Fin.ext (Nat.mod_eq_of_lt (Nat.lt_of_lt_of_eq t.isLt N_0))

/-- The block of low-resolution products computed at point `n` of the first phase. -/
def lowAt (n : ℕ) : Vec F S1024x256 .f32 :=
  k0_pay17 (iblk m c 0 (pt n)) (iblk m c 2 (pt n)) (iblk m c 3 (pt n))

/-- The four rows of sums after the first `n` points. -/
def accAt : ℕ → Vec F S4x256 .f32
  | 0 => k0_pay1
  | n + 1 => accStep (iblk m c 0 (pt n)) (iblk m c 1 (pt n)) (iblk m c 2 (pt n)) (iblk m c 3 (pt n))
      (iblk m c 4 (pt n)) (iblk m c 5 (pt n)) (accAt n)

/-- The four rows of scales and shifts. -/
def bnAt : Vec F S4x256 .f32 := bnStep (iblk m c 6 (pt 15)) (iblk m c 7 (pt 15)) (accAt m c 16) k0_pay1

/-- The normalised features of batch `b`. -/
def featAt (b : ℕ) : Vec F S1024x256 .f32 := k0_pay21 (lowAt m c b) (row4 0 (bnAt m c)) (row4 1 (bnAt m c))

/-- The block of the result at point `t` of the second phase. -/
def outAt (t : Fin cfg0.N) : Vec F S1x2048x256 .f32 :=
  outStep (iblk m c 4 t) (iblk m c 5 t) (iblk m c 8 t) (iblk m c 9 t) (iblk m c 10 t) (bnAt m c)
    (featAt m c ((t.val - 16) / 2))

/-- Batch `g`'s rows lie inside the stored products. -/
theorem inb1024 {g : ℕ} (hg : g < 16) : ∀ a, (![1024 * g, 0] : Fin 2 → ℕ) a + S1024x256.size a ≤ S16384x256.size a := by
  intro a
  match a with
  | 0 => show 1024 * g + 1024 ≤ 16384; omega
  | 1 => show 0 + 256 ≤ 256; omega

/-- What the four scratch buffers hold before point `n`. -/
structure Inv (n : ℕ) (x13 : Vec F S16384x256 .f32) (x14 x15 : Vec F S4x256 .f32) (x16 : Vec F S1024x256 .f32) : Prop where
  acc : 0 < n → x14 = accAt m c (min n 16)
  low : ∀ (g : ℕ) (hg : g < 16), g < n → get1024 ![1024 * g, 0] (inb1024 hg) x13 = lowAt m c g
  bn : 16 ≤ n → ∀ k, row4 k x15 = row4 k (bnAt m c)
  feat : 17 ≤ n → x16 = featAt m c ((n - 17) / 2)

/-- Before the first point anything will do. -/
theorem inv_zero (x13 : Vec F S16384x256 .f32) (x14 x15 : Vec F S4x256 .f32) (x16 : Vec F S1024x256 .f32) :
    Inv m c 0 x13 x14 x15 x16 :=
  ⟨fun h => absurd h (by omega), fun _ _ h => absurd h (by omega), fun h => absurd h (by omega), fun h => absurd h (by omega)⟩

/-- The scales and shifts do not depend on what was in their rows before. -/
theorem row4_bnStep (x7 x8 : Vec F S1x256 .f32) (a x y : Vec F S4x256 .f32) (k : Fin 4) :
    row4 k (bnStep x7 x8 a x) = row4 k (bnStep x7 x8 a y) := by
  unfold bnStep
  match k with
  | 0 => simp only [row4_put4_ne 3 0 (by decide), row4_put4_ne 2 0 (by decide), row4_put4_ne 1 0 (by decide), row4_put4_same]
  | 1 => simp only [row4_put4_ne 3 1 (by decide), row4_put4_ne 2 1 (by decide), row4_put4_same]
  | 2 => simp only [row4_put4_ne 3 2 (by decide), row4_put4_same]
  | 3 => simp only [row4_put4_same]

/-- Stored rows of another batch than the one replaced. -/
theorem get1024_put1024_ne {g g' : ℕ} (hg : g < 16) (h : g ≠ g') (x : Vec F S16384x256 .f32) (w : Vec F S1024x256 .f32) :
    get1024 ![1024 * g, 0] (inb1024 hg) (put1024 ![1024 * g', 0] x w) = get1024 ![1024 * g, 0] (inb1024 hg) x :=
  VecWindow.window_put_of_disjoint x _ _ _ _ _ w (0 : Fin 2) (by
    show 1024 * g + 1024 ≤ 1024 * g' ∨ 1024 * g' + 1024 ≤ 1024 * g
    omega)

/-- The stored rows just replaced. -/
theorem get1024_put1024_same {g : ℕ} (hg : g < 16) (x : Vec F S16384x256 .f32) (w : Vec F S1024x256 .f32) :
    get1024 ![1024 * g, 0] (inb1024 hg) (put1024 ![1024 * g, 0] x w) = w :=
  VecWindow.window_put_same x _ _ _ w

/-- One point of the first phase: the products of its batch are stored, the sums advance, and at the last point the
scales and shifts are there. -/
theorem inv_first (t : Fin cfg0.N) (ht : t.val < 16) {x13 : Vec F S16384x256 .f32} {x14 x15 : Vec F S4x256 .f32}
    {x16 : Vec F S1024x256 .f32} (h : Inv m c t.val x13 x14 x15 x16) (y14 y15 : Vec F S4x256 .f32)
    (h14 : y14 = accStep (iblk m c 0 t) (iblk m c 1 t) (iblk m c 2 t) (iblk m c 3 t) (iblk m c 4 t) (iblk m c 5 t)
      (accAt m c t.val))
    (h15 : t.val = 15 → y15 = bnStep (iblk m c 6 t) (iblk m c 7 t) y14 x15) :
    Inv m c (t.val + 1) (put1024 (k0_off1 (grid0.coords t)) x13 (k0_pay17 (iblk m c 0 t) (iblk m c 2 t) (iblk m c 3 t)))
      y14 y15 x16 := by
  have hacc : y14 = accAt m c (t.val + 1) := by
    rw [h14]
    show _ = accStep (iblk m c 0 (pt t.val)) (iblk m c 1 (pt t.val)) (iblk m c 2 (pt t.val)) (iblk m c 3 (pt t.val))
      (iblk m c 4 (pt t.val)) (iblk m c 5 (pt t.val)) (accAt m c t.val)
    rw [pt_val]
  refine ⟨fun _ => ?_, fun g hg hgt => ?_, fun hn k => ?_, fun hn => absurd hn (by omega)⟩
  · rw [hacc, Nat.min_eq_left (by omega)]
  · have ho : k0_off1 (grid0.coords t) = ![1024 * t.val, 0] := off1_eq' t ht
    rw [ho]
    by_cases e : g = t.val
    · subst e
      rw [get1024_put1024_same hg]
      show _ = k0_pay17 (iblk m c 0 (pt t.val)) (iblk m c 2 (pt t.val)) (iblk m c 3 (pt t.val))
      rw [pt_val]
    · rw [get1024_put1024_ne hg e]
      exact h.low g hg (by omega)
  · have e : t.val = 15 := by omega
    have et : t = pt 15 := by rw [← e, pt_val]
    rw [h15 e, hacc, e, et]
    exact row4_bnStep _ _ _ _ _ k

/-- The features a point of the second phase that starts a batch computes. -/
theorem feat_of_inv (t : Fin cfg0.N) (ht : 16 ≤ t.val) {x13 : Vec F S16384x256 .f32} {x14 x15 : Vec F S4x256 .f32}
    {x16 : Vec F S1024x256 .f32} (h : Inv m c t.val x13 x14 x15 x16)
    (hin : ∀ a, k0_off2 (grid0.coords t) a + S1024x256.size a ≤ S16384x256.size a) :
    k0_pay21 (get1024 (k0_off2 (grid0.coords t)) hin x13) (row4 0 x15) (row4 1 x15) = featAt m c ((t.val - 16) / 2) := by
  have hN : t.val < 48 := Nat.lt_of_lt_of_eq t.isLt N_0
  have ho := off2_eq' t ht
  have hg : (t.val - 16) / 2 < 16 := by omega
  have e : get1024 (k0_off2 (grid0.coords t)) hin x13 = get1024 ![1024 * ((t.val - 16) / 2), 0] (inb1024 hg) x13 := by
    revert hin; rw [ho]; intro hin; rfl
  rw [e, h.low _ hg (by omega), h.bn ht, h.bn ht]
  rfl

/-- One point of the second phase leaves the invariant, its features in place. -/
theorem inv_second (t : Fin cfg0.N) (ht : 16 ≤ t.val) {x13 : Vec F S16384x256 .f32} {x14 x15 : Vec F S4x256 .f32}
    {x16 : Vec F S1024x256 .f32} (h : Inv m c t.val x13 x14 x15 x16) (y16 : Vec F S1024x256 .f32)
    (h16 : y16 = featAt m c ((t.val - 16) / 2)) : Inv m c (t.val + 1) x13 x14 x15 y16 := by
  refine ⟨fun _ => ?_, fun g hg _ => h.low g hg (by omega), fun _ => h.bn ht, fun _ => ?_⟩
  · rw [h.acc (by omega), Nat.min_eq_right (by omega), Nat.min_eq_right (by omega)]
  · rw [h16]; rfl

/-- At an odd point of the second phase the features are those of the batch. -/
theorem feat_odd (t : Fin cfg0.N) (ht : 16 ≤ t.val) (h2 : ¬t.val % 2 = 0) {x13 : Vec F S16384x256 .f32}
    {x14 x15 : Vec F S4x256 .f32} {x16 : Vec F S1024x256 .f32} (h : Inv m c t.val x13 x14 x15 x16) :
    x16 = featAt m c ((t.val - 16) / 2) := by
  rw [h.feat (by omega)]
  congr 1; omega

/-- The block of the result a point of the second phase computes. -/
theorem out_of_inv (t : Fin cfg0.N) (ht : 16 ≤ t.val) {x13 : Vec F S16384x256 .f32} {x14 x15 : Vec F S4x256 .f32}
    {x16 : Vec F S1024x256 .f32} (h : Inv m c t.val x13 x14 x15 x16) (y16 : Vec F S1024x256 .f32)
    (h16 : y16 = featAt m c ((t.val - 16) / 2)) :
    outStep (iblk m c 4 t) (iblk m c 5 t) (iblk m c 8 t) (iblk m c 9 t) (iblk m c 10 t) x15 y16 = outAt m c t := by
  unfold outAt outStep
  rw [h.bn ht, h.bn ht, h16]

end Cert.KernelIdeal.Run

end
-- ==== Proof.IRunA.lean ====
module

public import proofs.«01_k».proof.Proof.IState

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)

set_option maxHeartbeats 4000000 in
/-- The first grid point: the sums start from zero. -/
theorem runA
  (arg1 : Memref sig .tc .vmem S1x1024x512 .f32) (harg1 : arg1.IsWhole)
  (arg2 : Memref sig .tc .vmem S1x4096x256 .f32) (harg2 : arg2.IsWhole)
  (arg3 : Memref sig .tc .vmem S512x256 .f32) (harg3 : arg3.IsWhole)
  (arg4 : Memref sig .tc .vmem S1x256 .f32) (harg4 : arg4.IsWhole)
  (arg5 : Memref sig .tc .vmem S256x256 .f32) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S1x256 .f32) (harg8 : arg8.IsWhole)
  (arg9 : Memref sig .tc .vmem S1x2048x3 .f32) (harg9 : arg9.IsWhole)
  (arg10 : Memref sig .tc .vmem S1x3x1024 .f32) (harg10 : arg10.IsWhole)
  (arg11 : Memref sig .tc .vmem S1x2048x256 .f32) (harg11 : arg11.IsWhole)
  (arg12 : Memref sig .tc .vmem S1x2048x256 .f32) (harg12 : arg12.IsWhole)
  (arg13 : Memref sig .tc .vmem S16384x256 .f32) (harg13 : arg13.IsWhole)
  (arg14 : Memref sig .tc .vmem S4x256 .f32) (harg14 : arg14.IsWhole)
  (arg15 : Memref sig .tc .vmem S4x256 .f32) (harg15 : arg15.IsWhole)
  (arg16 : Memref sig .tc .vmem S1024x256 .f32) (harg16 : arg16.IsWhole)
  (h1 : condInit i) (h2 : k0_cond2 i = 1#1) (h3 : ¬condFin i) (h4 : ¬k0_cond4 i = 1#1)
  (x1 : Vec F S1x1024x512 .f32)
  (x2 : Vec F S1x4096x256 .f32)
  (x3 : Vec F S512x256 .f32)
  (x4 : Vec F S1x256 .f32)
  (x5 : Vec F S256x256 .f32)
  (x6 : Vec F S1x256 .f32)
  (x7 : Vec F S1x256 .f32)
  (x8 : Vec F S1x256 .f32)
  (x9 : Vec F S1x2048x3 .f32)
  (x10 : Vec F S1x3x1024 .f32)
  (x11 : Vec F S1x2048x256 .f32)
  (x13 : Vec F S16384x256 .f32)
  (x14 : Vec F S4x256 .f32)
  (x15 : Vec F S4x256 .f32)
  (x16 : Vec F S1024x256 .f32)
  (x12 : Vec F S1x2048x256 .f32)
 (E : Set ℕ) (K : PUnit → sProp 𝕄) :
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (owns (c : Thread nD τ) arg12 fullShare x12) ∗ owns (c : Thread nD τ) arg13 fullShare x13 ∗ owns (c : Thread nD τ) arg14 fullShare x14 ∗ owns (c : Thread nD τ) arg15 fullShare x15 ∗ owns (c : Thread nD τ) arg16 fullShare x16
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (put1024 (k0_off1 i) x13 (k0_pay17 x1 x3 x4)) ∗ owns (c : Thread nD τ) arg14 fullShare (accStep x1 x2 x3 x4 x5 x6 k0_pay1) ∗ owns (c : Thread nD τ) arg15 fullShare x15 ∗ owns (c : Thread nD τ) arg16 fullShare x16) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0__body_eq_skeleton]; unfold cc0__body_skel
    simp only [k0_part1_eq_skeleton, k0_part2_eq_skeleton, k0_part3_eq_skeleton, k0_part4_eq_skeleton, k0_part5_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec (disch := first | sl_exact h1 | sl_exact h2 | sl_exact h3 | sl_exact h4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr
      rotate_left
      · iexact H13
      ipureintro
      have a1 : ∀ (inb : ∀ a, (![0, 0, 0] : Fin 3 → ℕ) a + (S1x1024x512.size : Fin 3 → ℕ) a ≤ S1x1024x512.size a), arg1.view.readAt (Elt F) (Rect.unit (s := S1x1024x512) ![0, 0, 0] S1x1024x512.size inb).toLoadRect (harg1.unread x1) = x1 := fun inb => readAt_whole arg1 harg1 x1 inb
      have b1 : ∀ (inb : ∀ a, (![0, 0, 0] : Fin 3 → ℕ) a + (![1, 1024, 512] : Fin 3 → ℕ) a ≤ S1x1024x512.size a), arg1.view.readAt (Elt F) (Rect.unit (s := S1x1024x512) ![0, 0, 0] ![1, 1024, 512] inb).toLoadRect (harg1.unread x1) = x1 := fun inb => readAt_whole arg1 harg1 x1 inb
      have a2 : ∀ (inb : ∀ a, (![0, 0, 0] : Fin 3 → ℕ) a + (S1x4096x256.size : Fin 3 → ℕ) a ≤ S1x4096x256.size a), arg2.view.readAt (Elt F) (Rect.unit (s := S1x4096x256) ![0, 0, 0] S1x4096x256.size inb).toLoadRect (harg2.unread x2) = x2 := fun inb => readAt_whole arg2 harg2 x2 inb
      have b2 : ∀ (inb : ∀ a, (![0, 0, 0] : Fin 3 → ℕ) a + (![1, 4096, 256] : Fin 3 → ℕ) a ≤ S1x4096x256.size a), arg2.view.readAt (Elt F) (Rect.unit (s := S1x4096x256) ![0, 0, 0] ![1, 4096, 256] inb).toLoadRect (harg2.unread x2) = x2 := fun inb => readAt_whole arg2 harg2 x2 inb
      have a3 : ∀ (inb : ∀ a, (![0, 0] : Fin 2 → ℕ) a + (S512x256.size : Fin 2 → ℕ) a ≤ S512x256.size a), arg3.view.readAt (Elt F) (Rect.unit (s := S512x256) ![0, 0] S512x256.size inb).toLoadRect (harg3.unread x3) = x3 := fun inb => readAt_whole arg3 harg3 x3 inb
      have b3 : ∀ (inb : ∀ a, (![0, 0] : Fin 2 → ℕ) a + (![512, 256] : Fin 2 → ℕ) a ≤ S512x256.size a), arg3.view.readAt (Elt F) (Rect.unit (s := S512x256) ![0, 0] ![512, 256] inb).toLoadRect (harg3.unread x3) = x3 := fun inb => readAt_whole arg3 harg3 x3 inb
      have a4 : ∀ (inb : ∀ a, (![0, 0] : Fin 2 → ℕ) a + (S1x256.size : Fin 2 → ℕ) a ≤ S1x256.size a), arg4.view.readAt (Elt F) (Rect.unit (s := S1x256) ![0, 0] S1x256.size inb).toLoadRect (harg4.unread x4) = x4 := fun inb => readAt_whole arg4 harg4 x4 inb
      have b4 : ∀ (inb : ∀ a, (![0, 0] : Fin 2 → ℕ) a + (![1, 256] : Fin 2 → ℕ) a ≤ S1x256.size a), arg4.view.readAt (Elt F) (Rect.unit (s := S1x256) ![0, 0] ![1, 256] inb).toLoadRect (harg4.unread x4) = x4 := fun inb => readAt_whole arg4 harg4 x4 inb
      have a5 : ∀ (inb : ∀ a, (![0, 0] : Fin 2 → ℕ) a + (S256x256.size : Fin 2 → ℕ) a ≤ S256x256.size a), arg5.view.readAt (Elt F) (Rect.unit (s := S256x256) ![0, 0] S256x256.size inb).toLoadRect (harg5.unread x5) = x5 := fun inb => readAt_whole arg5 harg5 x5 inb
      have b5 : ∀ (inb : ∀ a, (![0, 0] : Fin 2 → ℕ) a + (![256, 256] : Fin 2 → ℕ) a ≤ S256x256.size a), arg5.view.readAt (Elt F) (Rect.unit (s := S256x256) ![0, 0] ![256, 256] inb).toLoadRect (harg5.unread x5) = x5 := fun inb => readAt_whole arg5 harg5 x5 inb
      have a6 : ∀ (inb : ∀ a, (![0, 0] : Fin 2 → ℕ) a + (S1x256.size : Fin 2 → ℕ) a ≤ S1x256.size a), arg6.view.readAt (Elt F) (Rect.unit (s := S1x256) ![0, 0] S1x256.size inb).toLoadRect (harg6.unread x6) = x6 := fun inb => readAt_whole arg6 harg6 x6 inb
      have b6 : ∀ (inb : ∀ a, (![0, 0] : Fin 2 → ℕ) a + (![1, 256] : Fin 2 → ℕ) a ≤ S1x256.size a), arg6.view.readAt (Elt F) (Rect.unit (s := S1x256) ![0, 0] ![1, 256] inb).toLoadRect (harg6.unread x6) = x6 := fun inb => readAt_whole arg6 harg6 x6 inb
      have a7 : ∀ (inb : ∀ a, (![0, 0] : Fin 2 → ℕ) a + (S1x256.size : Fin 2 → ℕ) a ≤ S1x256.size a), arg7.view.readAt (Elt F) (Rect.unit (s := S1x256) ![0, 0] S1x256.size inb).toLoadRect (harg7.unread x7) = x7 := fun inb => readAt_whole arg7 harg7 x7 inb
      have b7 : ∀ (inb : ∀ a, (![0, 0] : Fin 2 → ℕ) a + (![1, 256] : Fin 2 → ℕ) a ≤ S1x256.size a), arg7.view.readAt (Elt F) (Rect.unit (s := S1x256) ![0, 0] ![1, 256] inb).toLoadRect (harg7.unread x7) = x7 := fun inb => readAt_whole arg7 harg7 x7 inb
      have a8 : ∀ (inb : ∀ a, (![0, 0] : Fin 2 → ℕ) a + (S1x256.size : Fin 2 → ℕ) a ≤ S1x256.size a), arg8.view.readAt (Elt F) (Rect.unit (s := S1x256) ![0, 0] S1x256.size inb).toLoadRect (harg8.unread x8) = x8 := fun inb => readAt_whole arg8 harg8 x8 inb
      have b8 : ∀ (inb : ∀ a, (![0, 0] : Fin 2 → ℕ) a + (![1, 256] : Fin 2 → ℕ) a ≤ S1x256.size a), arg8.view.readAt (Elt F) (Rect.unit (s := S1x256) ![0, 0] ![1, 256] inb).toLoadRect (harg8.unread x8) = x8 := fun inb => readAt_whole arg8 harg8 x8 inb
      have a9 : ∀ (inb : ∀ a, (![0, 0, 0] : Fin 3 → ℕ) a + (S1x2048x3.size : Fin 3 → ℕ) a ≤ S1x2048x3.size a), arg9.view.readAt (Elt F) (Rect.unit (s := S1x2048x3) ![0, 0, 0] S1x2048x3.size inb).toLoadRect (harg9.unread x9) = x9 := fun inb => readAt_whole arg9 harg9 x9 inb
      have b9 : ∀ (inb : ∀ a, (![0, 0, 0] : Fin 3 → ℕ) a + (![1, 2048, 3] : Fin 3 → ℕ) a ≤ S1x2048x3.size a), arg9.view.readAt (Elt F) (Rect.unit (s := S1x2048x3) ![0, 0, 0] ![1, 2048, 3] inb).toLoadRect (harg9.unread x9) = x9 := fun inb => readAt_whole arg9 harg9 x9 inb
      have a10 : ∀ (inb : ∀ a, (![0, 0, 0] : Fin 3 → ℕ) a + (S1x3x1024.size : Fin 3 → ℕ) a ≤ S1x3x1024.size a), arg10.view.readAt (Elt F) (Rect.unit (s := S1x3x1024) ![0, 0, 0] S1x3x1024.size inb).toLoadRect (harg10.unread x10) = x10 := fun inb => readAt_whole arg10 harg10 x10 inb
      have b10 : ∀ (inb : ∀ a, (![0, 0, 0] : Fin 3 → ℕ) a + (![1, 3, 1024] : Fin 3 → ℕ) a ≤ S1x3x1024.size a), arg10.view.readAt (Elt F) (Rect.unit (s := S1x3x1024) ![0, 0, 0] ![1, 3, 1024] inb).toLoadRect (harg10.unread x10) = x10 := fun inb => readAt_whole arg10 harg10 x10 inb
      have a11 : ∀ (inb : ∀ a, (![0, 0, 0] : Fin 3 → ℕ) a + (S1x2048x256.size : Fin 3 → ℕ) a ≤ S1x2048x256.size a), arg11.view.readAt (Elt F) (Rect.unit (s := S1x2048x256) ![0, 0, 0] S1x2048x256.size inb).toLoadRect (harg11.unread x11) = x11 := fun inb => readAt_whole arg11 harg11 x11 inb
      have b11 : ∀ (inb : ∀ a, (![0, 0, 0] : Fin 3 → ℕ) a + (![1, 2048, 256] : Fin 3 → ℕ) a ≤ S1x2048x256.size a), arg11.view.readAt (Elt F) (Rect.unit (s := S1x2048x256) ![0, 0, 0] ![1, 2048, 256] inb).toLoadRect (harg11.unread x11) = x11 := fun inb => readAt_whole arg11 harg11 x11 inb
      have a16 : ∀ (inb : ∀ a, (![0, 0] : Fin 2 → ℕ) a + (S1024x256.size : Fin 2 → ℕ) a ≤ S1024x256.size a), arg16.view.readAt (Elt F) (Rect.unit (s := S1024x256) ![0, 0] S1024x256.size inb).toLoadRect (harg16.unread x16) = x16 := fun inb => readAt_whole arg16 harg16 x16 inb
      have b16 : ∀ (inb : ∀ a, (![0, 0] : Fin 2 → ℕ) a + (![1024, 256] : Fin 2 → ℕ) a ≤ S1024x256.size a), arg16.view.readAt (Elt F) (Rect.unit (s := S1024x256) ![0, 0] ![1024, 256] inb).toLoadRect (harg16.unread x16) = x16 := fun inb => readAt_whole arg16 harg16 x16 inb
      repeat delta runA.sl.H14_2 runA.sl.r runA.sl.v22 runA.sl.v45 runA.sl.cst_25 runA.sl.r_1 runA.sl.H14_4 runA.sl.H14_1 runA.sl.v29 runA.sl.v52 runA.sl.H14_3
      simp only [View.readCov, View.writes_nil, readAt_row0, read_writes_row0, readAt_row0_lit, read_writes_row0_lit, readAt_row1, read_writes_row1, readAt_row1_lit, read_writes_row1_lit, readAt_row2, read_writes_row2, readAt_row2_lit, read_writes_row2_lit, readAt_row3, read_writes_row3, readAt_row3_lit, read_writes_row3_lit, row4_put4_ne 0 1 (by decide), row4_put4_ne 0 2 (by decide), row4_put4_ne 0 3 (by decide), row4_put4_ne 1 0 (by decide), row4_put4_ne 1 2 (by decide), row4_put4_ne 1 3 (by decide), row4_put4_ne 2 0 (by decide), row4_put4_ne 2 1 (by decide), row4_put4_ne 2 3 (by decide), row4_put4_ne 3 0 (by decide), row4_put4_ne 3 1 (by decide), row4_put4_ne 3 2 (by decide), row4_put4_same, read_writes_all4, readAt_get1024, read_writes_put1024, read_writes_all1024, readAt_get1024_lit, read_writes_put1024_lit, read_writes_all1024_lit, a1, a2, a3, a4, a5, a6, a7, a8, a9, a10, a11, a16, b1, b2, b3, b4, b5, b6, b7, b8, b9, b10, b11, b16, harg13.read_unread, harg14.read_unread, harg15.read_unread, harg16.read_unread]
      try rfl
    isplitl [H14]
    · iexists _; isplitr
      rotate_left
      · iexact H14
      ipureintro
      have a1 : ∀ (inb : ∀ a, (![0, 0, 0] : Fin 3 → ℕ) a + (S1x1024x512.size : Fin 3 → ℕ) a ≤ S1x1024x512.size a), arg1.view.readAt (Elt F) (Rect.unit (s := S1x1024x512) ![0, 0, 0] S1x1024x512.size inb).toLoadRect (harg1.unread x1) = x1 := fun inb => readAt_whole arg1 harg1 x1 inb
      have b1 : ∀ (inb : ∀ a, (![0, 0, 0] : Fin 3 → ℕ) a + (![1, 1024, 512] : Fin 3 → ℕ) a ≤ S1x1024x512.size a), arg1.view.readAt (Elt F) (Rect.unit (s := S1x1024x512) ![0, 0, 0] ![1, 1024, 512] inb).toLoadRect (harg1.unread x1) = x1 := fun inb => readAt_whole arg1 harg1 x1 inb
      have a2 : ∀ (inb : ∀ a, (![0, 0, 0] : Fin 3 → ℕ) a + (S1x4096x256.size : Fin 3 → ℕ) a ≤ S1x4096x256.size a), arg2.view.readAt (Elt F) (Rect.unit (s := S1x4096x256) ![0, 0, 0] S1x4096x256.size inb).toLoadRect (harg2.unread x2) = x2 := fun inb => readAt_whole arg2 harg2 x2 inb
      have b2 : ∀ (inb : ∀ a, (![0, 0, 0] : Fin 3 → ℕ) a + (![1, 4096, 256] : Fin 3 → ℕ) a ≤ S1x4096x256.size a), arg2.view.readAt (Elt F) (Rect.unit (s := S1x4096x256) ![0, 0, 0] ![1, 4096, 256] inb).toLoadRect (harg2.unread x2) = x2 := fun inb => readAt_whole arg2 harg2 x2 inb
      have a3 : ∀ (inb : ∀ a, (![0, 0] : Fin 2 → ℕ) a + (S512x256.size : Fin 2 → ℕ) a ≤ S512x256.size a), arg3.view.readAt (Elt F) (Rect.unit (s := S512x256) ![0, 0] S512x256.size inb).toLoadRect (harg3.unread x3) = x3 := fun inb => readAt_whole arg3 harg3 x3 inb
      have b3 : ∀ (inb : ∀ a, (![0, 0] : Fin 2 → ℕ) a + (![512, 256] : Fin 2 → ℕ) a ≤ S512x256.size a), arg3.view.readAt (Elt F) (Rect.unit (s := S512x256) ![0, 0] ![512, 256] inb).toLoadRect (harg3.unread x3) = x3 := fun inb => readAt_whole arg3 harg3 x3 inb
      have a4 : ∀ (inb : ∀ a, (![0, 0] : Fin 2 → ℕ) a + (S1x256.size : Fin 2 → ℕ) a ≤ S1x256.size a), arg4.view.readAt (Elt F) (Rect.unit (s := S1x256) ![0, 0] S1x256.size inb).toLoadRect (harg4.unread x4) = x4 := fun inb => readAt_whole arg4 harg4 x4 inb
      have b4 : ∀ (inb : ∀ a, (![0, 0] : Fin 2 → ℕ) a + (![1, 256] : Fin 2 → ℕ) a ≤ S1x256.size a), arg4.view.readAt (Elt F) (Rect.unit (s := S1x256) ![0, 0] ![1, 256] inb).toLoadRect (harg4.unread x4) = x4 := fun inb => readAt_whole arg4 harg4 x4 inb
      have a5 : ∀ (inb : ∀ a, (![0, 0] : Fin 2 → ℕ) a + (S256x256.size : Fin 2 → ℕ) a ≤ S256x256.size a), arg5.view.readAt (Elt F) (Rect.unit (s := S256x256) ![0, 0] S256x256.size inb).toLoadRect (harg5.unread x5) = x5 := fun inb => readAt_whole arg5 harg5 x5 inb
      have b5 : ∀ (inb : ∀ a, (![0, 0] : Fin 2 → ℕ) a + (![256, 256] : Fin 2 → ℕ) a ≤ S256x256.size a), arg5.view.readAt (Elt F) (Rect.unit (s := S256x256) ![0, 0] ![256, 256] inb).toLoadRect (harg5.unread x5) = x5 := fun inb => readAt_whole arg5 harg5 x5 inb
      have a6 : ∀ (inb : ∀ a, (![0, 0] : Fin 2 → ℕ) a + (S1x256.size : Fin 2 → ℕ) a ≤ S1x256.size a), arg6.view.readAt (Elt F) (Rect.unit (s := S1x256) ![0, 0] S1x256.size inb).toLoadRect (harg6.unread x6) = x6 := fun inb => readAt_whole arg6 harg6 x6 inb
      have b6 : ∀ (inb : ∀ a, (![0, 0] : Fin 2 → ℕ) a + (![1, 256] : Fin 2 → ℕ) a ≤ S1x256.size a), arg6.view.readAt (Elt F) (Rect.unit (s := S1x256) ![0, 0] ![1, 256] inb).toLoadRect (harg6.unread x6) = x6 := fun inb => readAt_whole arg6 harg6 x6 inb
      have a7 : ∀ (inb : ∀ a, (![0, 0] : Fin 2 → ℕ) a + (S1x256.size : Fin 2 → ℕ) a ≤ S1x256.size a), arg7.view.readAt (Elt F) (Rect.unit (s := S1x256) ![0, 0] S1x256.size inb).toLoadRect (harg7.unread x7) = x7 := fun inb => readAt_whole arg7 harg7 x7 inb
      have b7 : ∀ (inb : ∀ a, (![0, 0] : Fin 2 → ℕ) a + (![1, 256] : Fin 2 → ℕ) a ≤ S1x256.size a), arg7.view.readAt (Elt F) (Rect.unit (s := S1x256) ![0, 0] ![1, 256] inb).toLoadRect (harg7.unread x7) = x7 := fun inb => readAt_whole arg7 harg7 x7 inb
      have a8 : ∀ (inb : ∀ a, (![0, 0] : Fin 2 → ℕ) a + (S1x256.size : Fin 2 → ℕ) a ≤ S1x256.size a), arg8.view.readAt (Elt F) (Rect.unit (s := S1x256) ![0, 0] S1x256.size inb).toLoadRect (harg8.unread x8) = x8 := fun inb => readAt_whole arg8 harg8 x8 inb
      have b8 : ∀ (inb : ∀ a, (![0, 0] : Fin 2 → ℕ) a + (![1, 256] : Fin 2 → ℕ) a ≤ S1x256.size a), arg8.view.readAt (Elt F) (Rect.unit (s := S1x256) ![0, 0] ![1, 256] inb).toLoadRect (harg8.unread x8) = x8 := fun inb => readAt_whole arg8 harg8 x8 inb
      have a9 : ∀ (inb : ∀ a, (![0, 0, 0] : Fin 3 → ℕ) a + (S1x2048x3.size : Fin 3 → ℕ) a ≤ S1x2048x3.size a), arg9.view.readAt (Elt F) (Rect.unit (s := S1x2048x3) ![0, 0, 0] S1x2048x3.size inb).toLoadRect (harg9.unread x9) = x9 := fun inb => readAt_whole arg9 harg9 x9 inb
      have b9 : ∀ (inb : ∀ a, (![0, 0, 0] : Fin 3 → ℕ) a + (![1, 2048, 3] : Fin 3 → ℕ) a ≤ S1x2048x3.size a), arg9.view.readAt (Elt F) (Rect.unit (s := S1x2048x3) ![0, 0, 0] ![1, 2048, 3] inb).toLoadRect (harg9.unread x9) = x9 := fun inb => readAt_whole arg9 harg9 x9 inb
      have a10 : ∀ (inb : ∀ a, (![0, 0, 0] : Fin 3 → ℕ) a + (S1x3x1024.size : Fin 3 → ℕ) a ≤ S1x3x1024.size a), arg10.view.readAt (Elt F) (Rect.unit (s := S1x3x1024) ![0, 0, 0] S1x3x1024.size inb).toLoadRect (harg10.unread x10) = x10 := fun inb => readAt_whole arg10 harg10 x10 inb
      have b10 : ∀ (inb : ∀ a, (![0, 0, 0] : Fin 3 → ℕ) a + (![1, 3, 1024] : Fin 3 → ℕ) a ≤ S1x3x1024.size a), arg10.view.readAt (Elt F) (Rect.unit (s := S1x3x1024) ![0, 0, 0] ![1, 3, 1024] inb).toLoadRect (harg10.unread x10) = x10 := fun inb => readAt_whole arg10 harg10 x10 inb
      have a11 : ∀ (inb : ∀ a, (![0, 0, 0] : Fin 3 → ℕ) a + (S1x2048x256.size : Fin 3 → ℕ) a ≤ S1x2048x256.size a), arg11.view.readAt (Elt F) (Rect.unit (s := S1x2048x256) ![0, 0, 0] S1x2048x256.size inb).toLoadRect (harg11.unread x11) = x11 := fun inb => readAt_whole arg11 harg11 x11 inb
      have b11 : ∀ (inb : ∀ a, (![0, 0, 0] : Fin 3 → ℕ) a + (![1, 2048, 256] : Fin 3 → ℕ) a ≤ S1x2048x256.size a), arg11.view.readAt (Elt F) (Rect.unit (s := S1x2048x256) ![0, 0, 0] ![1, 2048, 256] inb).toLoadRect (harg11.unread x11) = x11 := fun inb => readAt_whole arg11 harg11 x11 inb
      have a16 : ∀ (inb : ∀ a, (![0, 0] : Fin 2 → ℕ) a + (S1024x256.size : Fin 2 → ℕ) a ≤ S1024x256.size a), arg16.view.readAt (Elt F) (Rect.unit (s := S1024x256) ![0, 0] S1024x256.size inb).toLoadRect (harg16.unread x16) = x16 := fun inb => readAt_whole arg16 harg16 x16 inb
      have b16 : ∀ (inb : ∀ a, (![0, 0] : Fin 2 → ℕ) a + (![1024, 256] : Fin 2 → ℕ) a ≤ S1024x256.size a), arg16.view.readAt (Elt F) (Rect.unit (s := S1024x256) ![0, 0] ![1024, 256] inb).toLoadRect (harg16.unread x16) = x16 := fun inb => readAt_whole arg16 harg16 x16 inb
      repeat delta runA.sl.H14_2 runA.sl.r runA.sl.v22 runA.sl.v45 runA.sl.cst_25 runA.sl.r_1 runA.sl.H14_4 runA.sl.H14_1 runA.sl.v29 runA.sl.v52 runA.sl.H14_3
      simp only [View.readCov, View.writes_nil, readAt_row0, read_writes_row0, readAt_row0_lit, read_writes_row0_lit, readAt_row1, read_writes_row1, readAt_row1_lit, read_writes_row1_lit, readAt_row2, read_writes_row2, readAt_row2_lit, read_writes_row2_lit, readAt_row3, read_writes_row3, readAt_row3_lit, read_writes_row3_lit, row4_put4_ne 0 1 (by decide), row4_put4_ne 0 2 (by decide), row4_put4_ne 0 3 (by decide), row4_put4_ne 1 0 (by decide), row4_put4_ne 1 2 (by decide), row4_put4_ne 1 3 (by decide), row4_put4_ne 2 0 (by decide), row4_put4_ne 2 1 (by decide), row4_put4_ne 2 3 (by decide), row4_put4_ne 3 0 (by decide), row4_put4_ne 3 1 (by decide), row4_put4_ne 3 2 (by decide), row4_put4_same, read_writes_all4, readAt_get1024, read_writes_put1024, read_writes_all1024, readAt_get1024_lit, read_writes_put1024_lit, read_writes_all1024_lit, a1, a2, a3, a4, a5, a6, a7, a8, a9, a10, a11, a16, b1, b2, b3, b4, b5, b6, b7, b8, b9, b10, b11, b16, harg13.read_unread, harg14.read_unread, harg15.read_unread, harg16.read_unread]
      try rfl
    isplitl [H15]
    · iexists _; isplitr; · ipureintro; exact harg15.read_unread _
      iexact H15
    · iexists _; isplitr; · ipureintro; exact harg16.read_unread _
      iexact H16

end Cert.KernelIdeal.Run

end
-- ==== Proof.IRunB.lean ====
module

public import proofs.«01_k».proof.Proof.IState

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)

set_option maxHeartbeats 4000000 in
/-- A grid point of the first phase that is neither the first nor the last. -/
theorem runB
  (arg1 : Memref sig .tc .vmem S1x1024x512 .f32) (harg1 : arg1.IsWhole)
  (arg2 : Memref sig .tc .vmem S1x4096x256 .f32) (harg2 : arg2.IsWhole)
  (arg3 : Memref sig .tc .vmem S512x256 .f32) (harg3 : arg3.IsWhole)
  (arg4 : Memref sig .tc .vmem S1x256 .f32) (harg4 : arg4.IsWhole)
  (arg5 : Memref sig .tc .vmem S256x256 .f32) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S1x256 .f32) (harg8 : arg8.IsWhole)
  (arg9 : Memref sig .tc .vmem S1x2048x3 .f32) (harg9 : arg9.IsWhole)
  (arg10 : Memref sig .tc .vmem S1x3x1024 .f32) (harg10 : arg10.IsWhole)
  (arg11 : Memref sig .tc .vmem S1x2048x256 .f32) (harg11 : arg11.IsWhole)
  (arg12 : Memref sig .tc .vmem S1x2048x256 .f32) (harg12 : arg12.IsWhole)
  (arg13 : Memref sig .tc .vmem S16384x256 .f32) (harg13 : arg13.IsWhole)
  (arg14 : Memref sig .tc .vmem S4x256 .f32) (harg14 : arg14.IsWhole)
  (arg15 : Memref sig .tc .vmem S4x256 .f32) (harg15 : arg15.IsWhole)
  (arg16 : Memref sig .tc .vmem S1024x256 .f32) (harg16 : arg16.IsWhole)
  (h1 : ¬condInit i) (h2 : k0_cond2 i = 1#1) (h3 : ¬condFin i) (h4 : ¬k0_cond4 i = 1#1)
  (x1 : Vec F S1x1024x512 .f32)
  (x2 : Vec F S1x4096x256 .f32)
  (x3 : Vec F S512x256 .f32)
  (x4 : Vec F S1x256 .f32)
  (x5 : Vec F S256x256 .f32)
  (x6 : Vec F S1x256 .f32)
  (x7 : Vec F S1x256 .f32)
  (x8 : Vec F S1x256 .f32)
  (x9 : Vec F S1x2048x3 .f32)
  (x10 : Vec F S1x3x1024 .f32)
  (x11 : Vec F S1x2048x256 .f32)
  (x13 : Vec F S16384x256 .f32)
  (x14 : Vec F S4x256 .f32)
  (x15 : Vec F S4x256 .f32)
  (x16 : Vec F S1024x256 .f32)
  (x12 : Vec F S1x2048x256 .f32)
 (E : Set ℕ) (K : PUnit → sProp 𝕄) :
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (owns (c : Thread nD τ) arg12 fullShare x12) ∗ owns (c : Thread nD τ) arg13 fullShare x13 ∗ owns (c : Thread nD τ) arg14 fullShare x14 ∗ owns (c : Thread nD τ) arg15 fullShare x15 ∗ owns (c : Thread nD τ) arg16 fullShare x16
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (put1024 (k0_off1 i) x13 (k0_pay17 x1 x3 x4)) ∗ owns (c : Thread nD τ) arg14 fullShare (accStep x1 x2 x3 x4 x5 x6 x14) ∗ owns (c : Thread nD τ) arg15 fullShare x15 ∗ owns (c : Thread nD τ) arg16 fullShare x16) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0__body_eq_skeleton]; unfold cc0__body_skel
    simp only [k0_part1_eq_skeleton, k0_part2_eq_skeleton, k0_part3_eq_skeleton, k0_part4_eq_skeleton, k0_part5_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec (disch := first | sl_exact h1 | sl_exact h2 | sl_exact h3 | sl_exact h4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr
      rotate_left
      · iexact H13
      ipureintro
      have a1 : ∀ (inb : ∀ a, (![0, 0, 0] : Fin 3 → ℕ) a + (S1x1024x512.size : Fin 3 → ℕ) a ≤ S1x1024x512.size a), arg1.view.readAt (Elt F) (Rect.unit (s := S1x1024x512) ![0, 0, 0] S1x1024x512.size inb).toLoadRect (harg1.unread x1) = x1 := fun inb => readAt_whole arg1 harg1 x1 inb
      have b1 : ∀ (inb : ∀ a, (![0, 0, 0] : Fin 3 → ℕ) a + (![1, 1024, 512] : Fin 3 → ℕ) a ≤ S1x1024x512.size a), arg1.view.readAt (Elt F) (Rect.unit (s := S1x1024x512) ![0, 0, 0] ![1, 1024, 512] inb).toLoadRect (harg1.unread x1) = x1 := fun inb => readAt_whole arg1 harg1 x1 inb
      have a2 : ∀ (inb : ∀ a, (![0, 0, 0] : Fin 3 → ℕ) a + (S1x4096x256.size : Fin 3 → ℕ) a ≤ S1x4096x256.size a), arg2.view.readAt (Elt F) (Rect.unit (s := S1x4096x256) ![0, 0, 0] S1x4096x256.size inb).toLoadRect (harg2.unread x2) = x2 := fun inb => readAt_whole arg2 harg2 x2 inb
      have b2 : ∀ (inb : ∀ a, (![0, 0, 0] : Fin 3 → ℕ) a + (![1, 4096, 256] : Fin 3 → ℕ) a ≤ S1x4096x256.size a), arg2.view.readAt (Elt F) (Rect.unit (s := S1x4096x256) ![0, 0, 0] ![1, 4096, 256] inb).toLoadRect (harg2.unread x2) = x2 := fun inb => readAt_whole arg2 harg2 x2 inb
      have a3 : ∀ (inb : ∀ a, (![0, 0] : Fin 2 → ℕ) a + (S512x256.size : Fin 2 → ℕ) a ≤ S512x256.size a), arg3.view.readAt (Elt F) (Rect.unit (s := S512x256) ![0, 0] S512x256.size inb).toLoadRect (harg3.unread x3) = x3 := fun inb => readAt_whole arg3 harg3 x3 inb
      have b3 : ∀ (inb : ∀ a, (![0, 0] : Fin 2 → ℕ) a + (![512, 256] : Fin 2 → ℕ) a ≤ S512x256.size a), arg3.view.readAt (Elt F) (Rect.unit (s := S512x256) ![0, 0] ![512, 256] inb).toLoadRect (harg3.unread x3) = x3 := fun inb => readAt_whole arg3 harg3 x3 inb
      have a4 : ∀ (inb : ∀ a, (![0, 0] : Fin 2 → ℕ) a + (S1x256.size : Fin 2 → ℕ) a ≤ S1x256.size a), arg4.view.readAt (Elt F) (Rect.unit (s := S1x256) ![0, 0] S1x256.size inb).toLoadRect (harg4.unread x4) = x4 := fun inb => readAt_whole arg4 harg4 x4 inb
      have b4 : ∀ (inb : ∀ a, (![0, 0] : Fin 2 → ℕ) a + (![1, 256] : Fin 2 → ℕ) a ≤ S1x256.size a), arg4.view.readAt (Elt F) (Rect.unit (s := S1x256) ![0, 0] ![1, 256] inb).toLoadRect (harg4.unread x4) = x4 := fun inb => readAt_whole arg4 harg4 x4 inb
      have a5 : ∀ (inb : ∀ a, (![0, 0] : Fin 2 → ℕ) a + (S256x256.size : Fin 2 → ℕ) a ≤ S256x256.size a), arg5.view.readAt (Elt F) (Rect.unit (s := S256x256) ![0, 0] S256x256.size inb).toLoadRect (harg5.unread x5) = x5 := fun inb => readAt_whole arg5 harg5 x5 inb
      have b5 : ∀ (inb : ∀ a, (![0, 0] : Fin 2 → ℕ) a + (![256, 256] : Fin 2 → ℕ) a ≤ S256x256.size a), arg5.view.readAt (Elt F) (Rect.unit (s := S256x256) ![0, 0] ![256, 256] inb).toLoadRect (harg5.unread x5) = x5 := fun inb => readAt_whole arg5 harg5 x5 inb
      have a6 : ∀ (inb : ∀ a, (![0, 0] : Fin 2 → ℕ) a + (S1x256.size : Fin 2 → ℕ) a ≤ S1x256.size a), arg6.view.readAt (Elt F) (Rect.unit (s := S1x256) ![0, 0] S1x256.size inb).toLoadRect (harg6.unread x6) = x6 := fun inb => readAt_whole arg6 harg6 x6 inb
      have b6 : ∀ (inb : ∀ a, (![0, 0] : Fin 2 → ℕ) a + (![1, 256] : Fin 2 → ℕ) a ≤ S1x256.size a), arg6.view.readAt (Elt F) (Rect.unit (s := S1x256) ![0, 0] ![1, 256] inb).toLoadRect (harg6.unread x6) = x6 := fun inb => readAt_whole arg6 harg6 x6 inb
      have a7 : ∀ (inb : ∀ a, (![0, 0] : Fin 2 → ℕ) a + (S1x256.size : Fin 2 → ℕ) a ≤ S1x256.size a), arg7.view.readAt (Elt F) (Rect.unit (s := S1x256) ![0, 0] S1x256.size inb).toLoadRect (harg7.unread x7) = x7 := fun inb => readAt_whole arg7 harg7 x7 inb
      have b7 : ∀ (inb : ∀ a, (![0, 0] : Fin 2 → ℕ) a + (![1, 256] : Fin 2 → ℕ) a ≤ S1x256.size a), arg7.view.readAt (Elt F) (Rect.unit (s := S1x256) ![0, 0] ![1, 256] inb).toLoadRect (harg7.unread x7) = x7 := fun inb => readAt_whole arg7 harg7 x7 inb
      have a8 : ∀ (inb : ∀ a, (![0, 0] : Fin 2 → ℕ) a + (S1x256.size : Fin 2 → ℕ) a ≤ S1x256.size a), arg8.view.readAt (Elt F) (Rect.unit (s := S1x256) ![0, 0] S1x256.size inb).toLoadRect (harg8.unread x8) = x8 := fun inb => readAt_whole arg8 harg8 x8 inb
      have b8 : ∀ (inb : ∀ a, (![0, 0] : Fin 2 → ℕ) a + (![1, 256] : Fin 2 → ℕ) a ≤ S1x256.size a), arg8.view.readAt (Elt F) (Rect.unit (s := S1x256) ![0, 0] ![1, 256] inb).toLoadRect (harg8.unread x8) = x8 := fun inb => readAt_whole arg8 harg8 x8 inb
      have a9 : ∀ (inb : ∀ a, (![0, 0, 0] : Fin 3 → ℕ) a + (S1x2048x3.size : Fin 3 → ℕ) a ≤ S1x2048x3.size a), arg9.view.readAt (Elt F) (Rect.unit (s := S1x2048x3) ![0, 0, 0] S1x2048x3.size inb).toLoadRect (harg9.unread x9) = x9 := fun inb => readAt_whole arg9 harg9 x9 inb
      have b9 : ∀ (inb : ∀ a, (![0, 0, 0] : Fin 3 → ℕ) a + (![1, 2048, 3] : Fin 3 → ℕ) a ≤ S1x2048x3.size a), arg9.view.readAt (Elt F) (Rect.unit (s := S1x2048x3) ![0, 0, 0] ![1, 2048, 3] inb).toLoadRect (harg9.unread x9) = x9 := fun inb => readAt_whole arg9 harg9 x9 inb
      have a10 : ∀ (inb : ∀ a, (![0, 0, 0] : Fin 3 → ℕ) a + (S1x3x1024.size : Fin 3 → ℕ) a ≤ S1x3x1024.size a), arg10.view.readAt (Elt F) (Rect.unit (s := S1x3x1024) ![0, 0, 0] S1x3x1024.size inb).toLoadRect (harg10.unread x10) = x10 := fun inb => readAt_whole arg10 harg10 x10 inb
      have b10 : ∀ (inb : ∀ a, (![0, 0, 0] : Fin 3 → ℕ) a + (![1, 3, 1024] : Fin 3 → ℕ) a ≤ S1x3x1024.size a), arg10.view.readAt (Elt F) (Rect.unit (s := S1x3x1024) ![0, 0, 0] ![1, 3, 1024] inb).toLoadRect (harg10.unread x10) = x10 := fun inb => readAt_whole arg10 harg10 x10 inb
      have a11 : ∀ (inb : ∀ a, (![0, 0, 0] : Fin 3 → ℕ) a + (S1x2048x256.size : Fin 3 → ℕ) a ≤ S1x2048x256.size a), arg11.view.readAt (Elt F) (Rect.unit (s := S1x2048x256) ![0, 0, 0] S1x2048x256.size inb).toLoadRect (harg11.unread x11) = x11 := fun inb => readAt_whole arg11 harg11 x11 inb
      have b11 : ∀ (inb : ∀ a, (![0, 0, 0] : Fin 3 → ℕ) a + (![1, 2048, 256] : Fin 3 → ℕ) a ≤ S1x2048x256.size a), arg11.view.readAt (Elt F) (Rect.unit (s := S1x2048x256) ![0, 0, 0] ![1, 2048, 256] inb).toLoadRect (harg11.unread x11) = x11 := fun inb => readAt_whole arg11 harg11 x11 inb
      have a16 : ∀ (inb : ∀ a, (![0, 0] : Fin 2 → ℕ) a + (S1024x256.size : Fin 2 → ℕ) a ≤ S1024x256.size a), arg16.view.readAt (Elt F) (Rect.unit (s := S1024x256) ![0, 0] S1024x256.size inb).toLoadRect (harg16.unread x16) = x16 := fun inb => readAt_whole arg16 harg16 x16 inb
      have b16 : ∀ (inb : ∀ a, (![0, 0] : Fin 2 → ℕ) a + (![1024, 256] : Fin 2 → ℕ) a ≤ S1024x256.size a), arg16.view.readAt (Elt F) (Rect.unit (s := S1024x256) ![0, 0] ![1024, 256] inb).toLoadRect (harg16.unread x16) = x16 := fun inb => readAt_whole arg16 harg16 x16 inb
      repeat delta runB.sl.v45 runB.sl.cst_25 runB.sl.v52 runB.sl.v29 runB.sl.r_1 runB.sl.r
      simp only [View.readCov, View.writes_nil, readAt_row0, read_writes_row0, readAt_row0_lit, read_writes_row0_lit, readAt_row1, read_writes_row1, readAt_row1_lit, read_writes_row1_lit, readAt_row2, read_writes_row2, readAt_row2_lit, read_writes_row2_lit, readAt_row3, read_writes_row3, readAt_row3_lit, read_writes_row3_lit, row4_put4_ne 0 1 (by decide), row4_put4_ne 0 2 (by decide), row4_put4_ne 0 3 (by decide), row4_put4_ne 1 0 (by decide), row4_put4_ne 1 2 (by decide), row4_put4_ne 1 3 (by decide), row4_put4_ne 2 0 (by decide), row4_put4_ne 2 1 (by decide), row4_put4_ne 2 3 (by decide), row4_put4_ne 3 0 (by decide), row4_put4_ne 3 1 (by decide), row4_put4_ne 3 2 (by decide), row4_put4_same, read_writes_all4, readAt_get1024, read_writes_put1024, read_writes_all1024, readAt_get1024_lit, read_writes_put1024_lit, read_writes_all1024_lit, a1, a2, a3, a4, a5, a6, a7, a8, a9, a10, a11, a16, b1, b2, b3, b4, b5, b6, b7, b8, b9, b10, b11, b16, harg13.read_unread, harg14.read_unread, harg15.read_unread, harg16.read_unread]
      try rfl
    isplitl [H14]
    · iexists _; isplitr
      rotate_left
      · iexact H14
      ipureintro
      have a1 : ∀ (inb : ∀ a, (![0, 0, 0] : Fin 3 → ℕ) a + (S1x1024x512.size : Fin 3 → ℕ) a ≤ S1x1024x512.size a), arg1.view.readAt (Elt F) (Rect.unit (s := S1x1024x512) ![0, 0, 0] S1x1024x512.size inb).toLoadRect (harg1.unread x1) = x1 := fun inb => readAt_whole arg1 harg1 x1 inb
      have b1 : ∀ (inb : ∀ a, (![0, 0, 0] : Fin 3 → ℕ) a + (![1, 1024, 512] : Fin 3 → ℕ) a ≤ S1x1024x512.size a), arg1.view.readAt (Elt F) (Rect.unit (s := S1x1024x512) ![0, 0, 0] ![1, 1024, 512] inb).toLoadRect (harg1.unread x1) = x1 := fun inb => readAt_whole arg1 harg1 x1 inb
      have a2 : ∀ (inb : ∀ a, (![0, 0, 0] : Fin 3 → ℕ) a + (S1x4096x256.size : Fin 3 → ℕ) a ≤ S1x4096x256.size a), arg2.view.readAt (Elt F) (Rect.unit (s := S1x4096x256) ![0, 0, 0] S1x4096x256.size inb).toLoadRect (harg2.unread x2) = x2 := fun inb => readAt_whole arg2 harg2 x2 inb
      have b2 : ∀ (inb : ∀ a, (![0, 0, 0] : Fin 3 → ℕ) a + (![1, 4096, 256] : Fin 3 → ℕ) a ≤ S1x4096x256.size a), arg2.view.readAt (Elt F) (Rect.unit (s := S1x4096x256) ![0, 0, 0] ![1, 4096, 256] inb).toLoadRect (harg2.unread x2) = x2 := fun inb => readAt_whole arg2 harg2 x2 inb
      have a3 : ∀ (inb : ∀ a, (![0, 0] : Fin 2 → ℕ) a + (S512x256.size : Fin 2 → ℕ) a ≤ S512x256.size a), arg3.view.readAt (Elt F) (Rect.unit (s := S512x256) ![0, 0] S512x256.size inb).toLoadRect (harg3.unread x3) = x3 := fun inb => readAt_whole arg3 harg3 x3 inb
      have b3 : ∀ (inb : ∀ a, (![0, 0] : Fin 2 → ℕ) a + (![512, 256] : Fin 2 → ℕ) a ≤ S512x256.size a), arg3.view.readAt (Elt F) (Rect.unit (s := S512x256) ![0, 0] ![512, 256] inb).toLoadRect (harg3.unread x3) = x3 := fun inb => readAt_whole arg3 harg3 x3 inb
      have a4 : ∀ (inb : ∀ a, (![0, 0] : Fin 2 → ℕ) a + (S1x256.size : Fin 2 → ℕ) a ≤ S1x256.size a), arg4.view.readAt (Elt F) (Rect.unit (s := S1x256) ![0, 0] S1x256.size inb).toLoadRect (harg4.unread x4) = x4 := fun inb => readAt_whole arg4 harg4 x4 inb
      have b4 : ∀ (inb : ∀ a, (![0, 0] : Fin 2 → ℕ) a + (![1, 256] : Fin 2 → ℕ) a ≤ S1x256.size a), arg4.view.readAt (Elt F) (Rect.unit (s := S1x256) ![0, 0] ![1, 256] inb).toLoadRect (harg4.unread x4) = x4 := fun inb => readAt_whole arg4 harg4 x4 inb
      have a5 : ∀ (inb : ∀ a, (![0, 0] : Fin 2 → ℕ) a + (S256x256.size : Fin 2 → ℕ) a ≤ S256x256.size a), arg5.view.readAt (Elt F) (Rect.unit (s := S256x256) ![0, 0] S256x256.size inb).toLoadRect (harg5.unread x5) = x5 := fun inb => readAt_whole arg5 harg5 x5 inb
      have b5 : ∀ (inb : ∀ a, (![0, 0] : Fin 2 → ℕ) a + (![256, 256] : Fin 2 → ℕ) a ≤ S256x256.size a), arg5.view.readAt (Elt F) (Rect.unit (s := S256x256) ![0, 0] ![256, 256] inb).toLoadRect (harg5.unread x5) = x5 := fun inb => readAt_whole arg5 harg5 x5 inb
      have a6 : ∀ (inb : ∀ a, (![0, 0] : Fin 2 → ℕ) a + (S1x256.size : Fin 2 → ℕ) a ≤ S1x256.size a), arg6.view.readAt (Elt F) (Rect.unit (s := S1x256) ![0, 0] S1x256.size inb).toLoadRect (harg6.unread x6) = x6 := fun inb => readAt_whole arg6 harg6 x6 inb
      have b6 : ∀ (inb : ∀ a, (![0, 0] : Fin 2 → ℕ) a + (![1, 256] : Fin 2 → ℕ) a ≤ S1x256.size a), arg6.view.readAt (Elt F) (Rect.unit (s := S1x256) ![0, 0] ![1, 256] inb).toLoadRect (harg6.unread x6) = x6 := fun inb => readAt_whole arg6 harg6 x6 inb
      have a7 : ∀ (inb : ∀ a, (![0, 0] : Fin 2 → ℕ) a + (S1x256.size : Fin 2 → ℕ) a ≤ S1x256.size a), arg7.view.readAt (Elt F) (Rect.unit (s := S1x256) ![0, 0] S1x256.size inb).toLoadRect (harg7.unread x7) = x7 := fun inb => readAt_whole arg7 harg7 x7 inb
      have b7 : ∀ (inb : ∀ a, (![0, 0] : Fin 2 → ℕ) a + (![1, 256] : Fin 2 → ℕ) a ≤ S1x256.size a), arg7.view.readAt (Elt F) (Rect.unit (s := S1x256) ![0, 0] ![1, 256] inb).toLoadRect (harg7.unread x7) = x7 := fun inb => readAt_whole arg7 harg7 x7 inb
      have a8 : ∀ (inb : ∀ a, (![0, 0] : Fin 2 → ℕ) a + (S1x256.size : Fin 2 → ℕ) a ≤ S1x256.size a), arg8.view.readAt (Elt F) (Rect.unit (s := S1x256) ![0, 0] S1x256.size inb).toLoadRect (harg8.unread x8) = x8 := fun inb => readAt_whole arg8 harg8 x8 inb
      have b8 : ∀ (inb : ∀ a, (![0, 0] : Fin 2 → ℕ) a + (![1, 256] : Fin 2 → ℕ) a ≤ S1x256.size a), arg8.view.readAt (Elt F) (Rect.unit (s := S1x256) ![0, 0] ![1, 256] inb).toLoadRect (harg8.unread x8) = x8 := fun inb => readAt_whole arg8 harg8 x8 inb
      have a9 : ∀ (inb : ∀ a, (![0, 0, 0] : Fin 3 → ℕ) a + (S1x2048x3.size : Fin 3 → ℕ) a ≤ S1x2048x3.size a), arg9.view.readAt (Elt F) (Rect.unit (s := S1x2048x3) ![0, 0, 0] S1x2048x3.size inb).toLoadRect (harg9.unread x9) = x9 := fun inb => readAt_whole arg9 harg9 x9 inb
      have b9 : ∀ (inb : ∀ a, (![0, 0, 0] : Fin 3 → ℕ) a + (![1, 2048, 3] : Fin 3 → ℕ) a ≤ S1x2048x3.size a), arg9.view.readAt (Elt F) (Rect.unit (s := S1x2048x3) ![0, 0, 0] ![1, 2048, 3] inb).toLoadRect (harg9.unread x9) = x9 := fun inb => readAt_whole arg9 harg9 x9 inb
      have a10 : ∀ (inb : ∀ a, (![0, 0, 0] : Fin 3 → ℕ) a + (S1x3x1024.size : Fin 3 → ℕ) a ≤ S1x3x1024.size a), arg10.view.readAt (Elt F) (Rect.unit (s := S1x3x1024) ![0, 0, 0] S1x3x1024.size inb).toLoadRect (harg10.unread x10) = x10 := fun inb => readAt_whole arg10 harg10 x10 inb
      have b10 : ∀ (inb : ∀ a, (![0, 0, 0] : Fin 3 → ℕ) a + (![1, 3, 1024] : Fin 3 → ℕ) a ≤ S1x3x1024.size a), arg10.view.readAt (Elt F) (Rect.unit (s := S1x3x1024) ![0, 0, 0] ![1, 3, 1024] inb).toLoadRect (harg10.unread x10) = x10 := fun inb => readAt_whole arg10 harg10 x10 inb
      have a11 : ∀ (inb : ∀ a, (![0, 0, 0] : Fin 3 → ℕ) a + (S1x2048x256.size : Fin 3 → ℕ) a ≤ S1x2048x256.size a), arg11.view.readAt (Elt F) (Rect.unit (s := S1x2048x256) ![0, 0, 0] S1x2048x256.size inb).toLoadRect (harg11.unread x11) = x11 := fun inb => readAt_whole arg11 harg11 x11 inb
      have b11 : ∀ (inb : ∀ a, (![0, 0, 0] : Fin 3 → ℕ) a + (![1, 2048, 256] : Fin 3 → ℕ) a ≤ S1x2048x256.size a), arg11.view.readAt (Elt F) (Rect.unit (s := S1x2048x256) ![0, 0, 0] ![1, 2048, 256] inb).toLoadRect (harg11.unread x11) = x11 := fun inb => readAt_whole arg11 harg11 x11 inb
      have a16 : ∀ (inb : ∀ a, (![0, 0] : Fin 2 → ℕ) a + (S1024x256.size : Fin 2 → ℕ) a ≤ S1024x256.size a), arg16.view.readAt (Elt F) (Rect.unit (s := S1024x256) ![0, 0] S1024x256.size inb).toLoadRect (harg16.unread x16) = x16 := fun inb => readAt_whole arg16 harg16 x16 inb
      have b16 : ∀ (inb : ∀ a, (![0, 0] : Fin 2 → ℕ) a + (![1024, 256] : Fin 2 → ℕ) a ≤ S1024x256.size a), arg16.view.readAt (Elt F) (Rect.unit (s := S1024x256) ![0, 0] ![1024, 256] inb).toLoadRect (harg16.unread x16) = x16 := fun inb => readAt_whole arg16 harg16 x16 inb
      repeat delta runB.sl.v45 runB.sl.cst_25 runB.sl.v52 runB.sl.v29 runB.sl.r_1 runB.sl.r
      simp only [View.readCov, View.writes_nil, readAt_row0, read_writes_row0, readAt_row0_lit, read_writes_row0_lit, readAt_row1, read_writes_row1, readAt_row1_lit, read_writes_row1_lit, readAt_row2, read_writes_row2, readAt_row2_lit, read_writes_row2_lit, readAt_row3, read_writes_row3, readAt_row3_lit, read_writes_row3_lit, row4_put4_ne 0 1 (by decide), row4_put4_ne 0 2 (by decide), row4_put4_ne 0 3 (by decide), row4_put4_ne 1 0 (by decide), row4_put4_ne 1 2 (by decide), row4_put4_ne 1 3 (by decide), row4_put4_ne 2 0 (by decide), row4_put4_ne 2 1 (by decide), row4_put4_ne 2 3 (by decide), row4_put4_ne 3 0 (by decide), row4_put4_ne 3 1 (by decide), row4_put4_ne 3 2 (by decide), row4_put4_same, read_writes_all4, readAt_get1024, read_writes_put1024, read_writes_all1024, readAt_get1024_lit, read_writes_put1024_lit, read_writes_all1024_lit, a1, a2, a3, a4, a5, a6, a7, a8, a9, a10, a11, a16, b1, b2, b3, b4, b5, b6, b7, b8, b9, b10, b11, b16, harg13.read_unread, harg14.read_unread, harg15.read_unread, harg16.read_unread]
      try rfl
    isplitl [H15]
    · iexists _; isplitr; · ipureintro; exact harg15.read_unread _
      iexact H15
    · iexists _; isplitr; · ipureintro; exact harg16.read_unread _
      iexact H16

end Cert.KernelIdeal.Run

end
-- ==== Proof.IRunC.lean ====
module

public import proofs.«01_k».proof.Proof.IState

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)

set_option maxHeartbeats 4000000 in
/-- The last grid point of the first phase: the sums are turned into scales and shifts. -/
theorem runC
  (arg1 : Memref sig .tc .vmem S1x1024x512 .f32) (harg1 : arg1.IsWhole)
  (arg2 : Memref sig .tc .vmem S1x4096x256 .f32) (harg2 : arg2.IsWhole)
  (arg3 : Memref sig .tc .vmem S512x256 .f32) (harg3 : arg3.IsWhole)
  (arg4 : Memref sig .tc .vmem S1x256 .f32) (harg4 : arg4.IsWhole)
  (arg5 : Memref sig .tc .vmem S256x256 .f32) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S1x256 .f32) (harg8 : arg8.IsWhole)
  (arg9 : Memref sig .tc .vmem S1x2048x3 .f32) (harg9 : arg9.IsWhole)
  (arg10 : Memref sig .tc .vmem S1x3x1024 .f32) (harg10 : arg10.IsWhole)
  (arg11 : Memref sig .tc .vmem S1x2048x256 .f32) (harg11 : arg11.IsWhole)
  (arg12 : Memref sig .tc .vmem S1x2048x256 .f32) (harg12 : arg12.IsWhole)
  (arg13 : Memref sig .tc .vmem S16384x256 .f32) (harg13 : arg13.IsWhole)
  (arg14 : Memref sig .tc .vmem S4x256 .f32) (harg14 : arg14.IsWhole)
  (arg15 : Memref sig .tc .vmem S4x256 .f32) (harg15 : arg15.IsWhole)
  (arg16 : Memref sig .tc .vmem S1024x256 .f32) (harg16 : arg16.IsWhole)
  (h1 : ¬condInit i) (h2 : k0_cond2 i = 1#1) (h3 : condFin i) (h4 : ¬k0_cond4 i = 1#1)
  (x1 : Vec F S1x1024x512 .f32)
  (x2 : Vec F S1x4096x256 .f32)
  (x3 : Vec F S512x256 .f32)
  (x4 : Vec F S1x256 .f32)
  (x5 : Vec F S256x256 .f32)
  (x6 : Vec F S1x256 .f32)
  (x7 : Vec F S1x256 .f32)
  (x8 : Vec F S1x256 .f32)
  (x9 : Vec F S1x2048x3 .f32)
  (x10 : Vec F S1x3x1024 .f32)
  (x11 : Vec F S1x2048x256 .f32)
  (x13 : Vec F S16384x256 .f32)
  (x14 : Vec F S4x256 .f32)
  (x15 : Vec F S4x256 .f32)
  (x16 : Vec F S1024x256 .f32)
  (x12 : Vec F S1x2048x256 .f32)
 (E : Set ℕ) (K : PUnit → sProp 𝕄) :
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (owns (c : Thread nD τ) arg12 fullShare x12) ∗ owns (c : Thread nD τ) arg13 fullShare x13 ∗ owns (c : Thread nD τ) arg14 fullShare x14 ∗ owns (c : Thread nD τ) arg15 fullShare x15 ∗ owns (c : Thread nD τ) arg16 fullShare x16
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (put1024 (k0_off1 i) x13 (k0_pay17 x1 x3 x4)) ∗ owns (c : Thread nD τ) arg14 fullShare (accStep x1 x2 x3 x4 x5 x6 x14) ∗ owns (c : Thread nD τ) arg15 fullShare (bnStep x7 x8 (accStep x1 x2 x3 x4 x5 x6 x14) x15) ∗ owns (c : Thread nD τ) arg16 fullShare x16) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0__body_eq_skeleton]; unfold cc0__body_skel
    simp only [k0_part1_eq_skeleton, k0_part2_eq_skeleton, k0_part3_eq_skeleton, k0_part4_eq_skeleton, k0_part5_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec (disch := first | sl_exact h1 | sl_exact h2 | sl_exact h3 | sl_exact h4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr
      rotate_left
      · iexact H13
      ipureintro
      have a1 : ∀ (inb : ∀ a, (![0, 0, 0] : Fin 3 → ℕ) a + (S1x1024x512.size : Fin 3 → ℕ) a ≤ S1x1024x512.size a), arg1.view.readAt (Elt F) (Rect.unit (s := S1x1024x512) ![0, 0, 0] S1x1024x512.size inb).toLoadRect (harg1.unread x1) = x1 := fun inb => readAt_whole arg1 harg1 x1 inb
      have b1 : ∀ (inb : ∀ a, (![0, 0, 0] : Fin 3 → ℕ) a + (![1, 1024, 512] : Fin 3 → ℕ) a ≤ S1x1024x512.size a), arg1.view.readAt (Elt F) (Rect.unit (s := S1x1024x512) ![0, 0, 0] ![1, 1024, 512] inb).toLoadRect (harg1.unread x1) = x1 := fun inb => readAt_whole arg1 harg1 x1 inb
      have a2 : ∀ (inb : ∀ a, (![0, 0, 0] : Fin 3 → ℕ) a + (S1x4096x256.size : Fin 3 → ℕ) a ≤ S1x4096x256.size a), arg2.view.readAt (Elt F) (Rect.unit (s := S1x4096x256) ![0, 0, 0] S1x4096x256.size inb).toLoadRect (harg2.unread x2) = x2 := fun inb => readAt_whole arg2 harg2 x2 inb
      have b2 : ∀ (inb : ∀ a, (![0, 0, 0] : Fin 3 → ℕ) a + (![1, 4096, 256] : Fin 3 → ℕ) a ≤ S1x4096x256.size a), arg2.view.readAt (Elt F) (Rect.unit (s := S1x4096x256) ![0, 0, 0] ![1, 4096, 256] inb).toLoadRect (harg2.unread x2) = x2 := fun inb => readAt_whole arg2 harg2 x2 inb
      have a3 : ∀ (inb : ∀ a, (![0, 0] : Fin 2 → ℕ) a + (S512x256.size : Fin 2 → ℕ) a ≤ S512x256.size a), arg3.view.readAt (Elt F) (Rect.unit (s := S512x256) ![0, 0] S512x256.size inb).toLoadRect (harg3.unread x3) = x3 := fun inb => readAt_whole arg3 harg3 x3 inb
      have b3 : ∀ (inb : ∀ a, (![0, 0] : Fin 2 → ℕ) a + (![512, 256] : Fin 2 → ℕ) a ≤ S512x256.size a), arg3.view.readAt (Elt F) (Rect.unit (s := S512x256) ![0, 0] ![512, 256] inb).toLoadRect (harg3.unread x3) = x3 := fun inb => readAt_whole arg3 harg3 x3 inb
      have a4 : ∀ (inb : ∀ a, (![0, 0] : Fin 2 → ℕ) a + (S1x256.size : Fin 2 → ℕ) a ≤ S1x256.size a), arg4.view.readAt (Elt F) (Rect.unit (s := S1x256) ![0, 0] S1x256.size inb).toLoadRect (harg4.unread x4) = x4 := fun inb => readAt_whole arg4 harg4 x4 inb
      have b4 : ∀ (inb : ∀ a, (![0, 0] : Fin 2 → ℕ) a + (![1, 256] : Fin 2 → ℕ) a ≤ S1x256.size a), arg4.view.readAt (Elt F) (Rect.unit (s := S1x256) ![0, 0] ![1, 256] inb).toLoadRect (harg4.unread x4) = x4 := fun inb => readAt_whole arg4 harg4 x4 inb
      have a5 : ∀ (inb : ∀ a, (![0, 0] : Fin 2 → ℕ) a + (S256x256.size : Fin 2 → ℕ) a ≤ S256x256.size a), arg5.view.readAt (Elt F) (Rect.unit (s := S256x256) ![0, 0] S256x256.size inb).toLoadRect (harg5.unread x5) = x5 := fun inb => readAt_whole arg5 harg5 x5 inb
      have b5 : ∀ (inb : ∀ a, (![0, 0] : Fin 2 → ℕ) a + (![256, 256] : Fin 2 → ℕ) a ≤ S256x256.size a), arg5.view.readAt (Elt F) (Rect.unit (s := S256x256) ![0, 0] ![256, 256] inb).toLoadRect (harg5.unread x5) = x5 := fun inb => readAt_whole arg5 harg5 x5 inb
      have a6 : ∀ (inb : ∀ a, (![0, 0] : Fin 2 → ℕ) a + (S1x256.size : Fin 2 → ℕ) a ≤ S1x256.size a), arg6.view.readAt (Elt F) (Rect.unit (s := S1x256) ![0, 0] S1x256.size inb).toLoadRect (harg6.unread x6) = x6 := fun inb => readAt_whole arg6 harg6 x6 inb
      have b6 : ∀ (inb : ∀ a, (![0, 0] : Fin 2 → ℕ) a + (![1, 256] : Fin 2 → ℕ) a ≤ S1x256.size a), arg6.view.readAt (Elt F) (Rect.unit (s := S1x256) ![0, 0] ![1, 256] inb).toLoadRect (harg6.unread x6) = x6 := fun inb => readAt_whole arg6 harg6 x6 inb
      have a7 : ∀ (inb : ∀ a, (![0, 0] : Fin 2 → ℕ) a + (S1x256.size : Fin 2 → ℕ) a ≤ S1x256.size a), arg7.view.readAt (Elt F) (Rect.unit (s := S1x256) ![0, 0] S1x256.size inb).toLoadRect (harg7.unread x7) = x7 := fun inb => readAt_whole arg7 harg7 x7 inb
      have b7 : ∀ (inb : ∀ a, (![0, 0] : Fin 2 → ℕ) a + (![1, 256] : Fin 2 → ℕ) a ≤ S1x256.size a), arg7.view.readAt (Elt F) (Rect.unit (s := S1x256) ![0, 0] ![1, 256] inb).toLoadRect (harg7.unread x7) = x7 := fun inb => readAt_whole arg7 harg7 x7 inb
      have a8 : ∀ (inb : ∀ a, (![0, 0] : Fin 2 → ℕ) a + (S1x256.size : Fin 2 → ℕ) a ≤ S1x256.size a), arg8.view.readAt (Elt F) (Rect.unit (s := S1x256) ![0, 0] S1x256.size inb).toLoadRect (harg8.unread x8) = x8 := fun inb => readAt_whole arg8 harg8 x8 inb
      have b8 : ∀ (inb : ∀ a, (![0, 0] : Fin 2 → ℕ) a + (![1, 256] : Fin 2 → ℕ) a ≤ S1x256.size a), arg8.view.readAt (Elt F) (Rect.unit (s := S1x256) ![0, 0] ![1, 256] inb).toLoadRect (harg8.unread x8) = x8 := fun inb => readAt_whole arg8 harg8 x8 inb
      have a9 : ∀ (inb : ∀ a, (![0, 0, 0] : Fin 3 → ℕ) a + (S1x2048x3.size : Fin 3 → ℕ) a ≤ S1x2048x3.size a), arg9.view.readAt (Elt F) (Rect.unit (s := S1x2048x3) ![0, 0, 0] S1x2048x3.size inb).toLoadRect (harg9.unread x9) = x9 := fun inb => readAt_whole arg9 harg9 x9 inb
      have b9 : ∀ (inb : ∀ a, (![0, 0, 0] : Fin 3 → ℕ) a + (![1, 2048, 3] : Fin 3 → ℕ) a ≤ S1x2048x3.size a), arg9.view.readAt (Elt F) (Rect.unit (s := S1x2048x3) ![0, 0, 0] ![1, 2048, 3] inb).toLoadRect (harg9.unread x9) = x9 := fun inb => readAt_whole arg9 harg9 x9 inb
      have a10 : ∀ (inb : ∀ a, (![0, 0, 0] : Fin 3 → ℕ) a + (S1x3x1024.size : Fin 3 → ℕ) a ≤ S1x3x1024.size a), arg10.view.readAt (Elt F) (Rect.unit (s := S1x3x1024) ![0, 0, 0] S1x3x1024.size inb).toLoadRect (harg10.unread x10) = x10 := fun inb => readAt_whole arg10 harg10 x10 inb
      have b10 : ∀ (inb : ∀ a, (![0, 0, 0] : Fin 3 → ℕ) a + (![1, 3, 1024] : Fin 3 → ℕ) a ≤ S1x3x1024.size a), arg10.view.readAt (Elt F) (Rect.unit (s := S1x3x1024) ![0, 0, 0] ![1, 3, 1024] inb).toLoadRect (harg10.unread x10) = x10 := fun inb => readAt_whole arg10 harg10 x10 inb
      have a11 : ∀ (inb : ∀ a, (![0, 0, 0] : Fin 3 → ℕ) a + (S1x2048x256.size : Fin 3 → ℕ) a ≤ S1x2048x256.size a), arg11.view.readAt (Elt F) (Rect.unit (s := S1x2048x256) ![0, 0, 0] S1x2048x256.size inb).toLoadRect (harg11.unread x11) = x11 := fun inb => readAt_whole arg11 harg11 x11 inb
      have b11 : ∀ (inb : ∀ a, (![0, 0, 0] : Fin 3 → ℕ) a + (![1, 2048, 256] : Fin 3 → ℕ) a ≤ S1x2048x256.size a), arg11.view.readAt (Elt F) (Rect.unit (s := S1x2048x256) ![0, 0, 0] ![1, 2048, 256] inb).toLoadRect (harg11.unread x11) = x11 := fun inb => readAt_whole arg11 harg11 x11 inb
      have a16 : ∀ (inb : ∀ a, (![0, 0] : Fin 2 → ℕ) a + (S1024x256.size : Fin 2 → ℕ) a ≤ S1024x256.size a), arg16.view.readAt (Elt F) (Rect.unit (s := S1024x256) ![0, 0] S1024x256.size inb).toLoadRect (harg16.unread x16) = x16 := fun inb => readAt_whole arg16 harg16 x16 inb
      have b16 : ∀ (inb : ∀ a, (![0, 0] : Fin 2 → ℕ) a + (![1024, 256] : Fin 2 → ℕ) a ≤ S1024x256.size a), arg16.view.readAt (Elt F) (Rect.unit (s := S1024x256) ![0, 0] ![1024, 256] inb).toLoadRect (harg16.unread x16) = x16 := fun inb => readAt_whole arg16 harg16 x16 inb
      repeat delta runC.sl.v52 runC.sl.v29 runC.sl.v45 runC.sl.cst_25 runC.sl.r_1 runC.sl.r_2 runC.sl.r_4 runC.sl.r runC.sl.v87 runC.sl.H14_4 runC.sl.v70 runC.sl.v90 runC.sl.v67 runC.sl.r_3
      simp only [View.readCov, View.writes_nil, readAt_row0, read_writes_row0, readAt_row0_lit, read_writes_row0_lit, readAt_row1, read_writes_row1, readAt_row1_lit, read_writes_row1_lit, readAt_row2, read_writes_row2, readAt_row2_lit, read_writes_row2_lit, readAt_row3, read_writes_row3, readAt_row3_lit, read_writes_row3_lit, row4_put4_ne 0 1 (by decide), row4_put4_ne 0 2 (by decide), row4_put4_ne 0 3 (by decide), row4_put4_ne 1 0 (by decide), row4_put4_ne 1 2 (by decide), row4_put4_ne 1 3 (by decide), row4_put4_ne 2 0 (by decide), row4_put4_ne 2 1 (by decide), row4_put4_ne 2 3 (by decide), row4_put4_ne 3 0 (by decide), row4_put4_ne 3 1 (by decide), row4_put4_ne 3 2 (by decide), row4_put4_same, read_writes_all4, readAt_get1024, read_writes_put1024, read_writes_all1024, readAt_get1024_lit, read_writes_put1024_lit, read_writes_all1024_lit, a1, a2, a3, a4, a5, a6, a7, a8, a9, a10, a11, a16, b1, b2, b3, b4, b5, b6, b7, b8, b9, b10, b11, b16, harg13.read_unread, harg14.read_unread, harg15.read_unread, harg16.read_unread]
      try rfl
    isplitl [H14]
    · iexists _; isplitr
      rotate_left
      · iexact H14
      ipureintro
      have a1 : ∀ (inb : ∀ a, (![0, 0, 0] : Fin 3 → ℕ) a + (S1x1024x512.size : Fin 3 → ℕ) a ≤ S1x1024x512.size a), arg1.view.readAt (Elt F) (Rect.unit (s := S1x1024x512) ![0, 0, 0] S1x1024x512.size inb).toLoadRect (harg1.unread x1) = x1 := fun inb => readAt_whole arg1 harg1 x1 inb
      have b1 : ∀ (inb : ∀ a, (![0, 0, 0] : Fin 3 → ℕ) a + (![1, 1024, 512] : Fin 3 → ℕ) a ≤ S1x1024x512.size a), arg1.view.readAt (Elt F) (Rect.unit (s := S1x1024x512) ![0, 0, 0] ![1, 1024, 512] inb).toLoadRect (harg1.unread x1) = x1 := fun inb => readAt_whole arg1 harg1 x1 inb
      have a2 : ∀ (inb : ∀ a, (![0, 0, 0] : Fin 3 → ℕ) a + (S1x4096x256.size : Fin 3 → ℕ) a ≤ S1x4096x256.size a), arg2.view.readAt (Elt F) (Rect.unit (s := S1x4096x256) ![0, 0, 0] S1x4096x256.size inb).toLoadRect (harg2.unread x2) = x2 := fun inb => readAt_whole arg2 harg2 x2 inb
      have b2 : ∀ (inb : ∀ a, (![0, 0, 0] : Fin 3 → ℕ) a + (![1, 4096, 256] : Fin 3 → ℕ) a ≤ S1x4096x256.size a), arg2.view.readAt (Elt F) (Rect.unit (s := S1x4096x256) ![0, 0, 0] ![1, 4096, 256] inb).toLoadRect (harg2.unread x2) = x2 := fun inb => readAt_whole arg2 harg2 x2 inb
      have a3 : ∀ (inb : ∀ a, (![0, 0] : Fin 2 → ℕ) a + (S512x256.size : Fin 2 → ℕ) a ≤ S512x256.size a), arg3.view.readAt (Elt F) (Rect.unit (s := S512x256) ![0, 0] S512x256.size inb).toLoadRect (harg3.unread x3) = x3 := fun inb => readAt_whole arg3 harg3 x3 inb
      have b3 : ∀ (inb : ∀ a, (![0, 0] : Fin 2 → ℕ) a + (![512, 256] : Fin 2 → ℕ) a ≤ S512x256.size a), arg3.view.readAt (Elt F) (Rect.unit (s := S512x256) ![0, 0] ![512, 256] inb).toLoadRect (harg3.unread x3) = x3 := fun inb => readAt_whole arg3 harg3 x3 inb
      have a4 : ∀ (inb : ∀ a, (![0, 0] : Fin 2 → ℕ) a + (S1x256.size : Fin 2 → ℕ) a ≤ S1x256.size a), arg4.view.readAt (Elt F) (Rect.unit (s := S1x256) ![0, 0] S1x256.size inb).toLoadRect (harg4.unread x4) = x4 := fun inb => readAt_whole arg4 harg4 x4 inb
      have b4 : ∀ (inb : ∀ a, (![0, 0] : Fin 2 → ℕ) a + (![1, 256] : Fin 2 → ℕ) a ≤ S1x256.size a), arg4.view.readAt (Elt F) (Rect.unit (s := S1x256) ![0, 0] ![1, 256] inb).toLoadRect (harg4.unread x4) = x4 := fun inb => readAt_whole arg4 harg4 x4 inb
      have a5 : ∀ (inb : ∀ a, (![0, 0] : Fin 2 → ℕ) a + (S256x256.size : Fin 2 → ℕ) a ≤ S256x256.size a), arg5.view.readAt (Elt F) (Rect.unit (s := S256x256) ![0, 0] S256x256.size inb).toLoadRect (harg5.unread x5) = x5 := fun inb => readAt_whole arg5 harg5 x5 inb
      have b5 : ∀ (inb : ∀ a, (![0, 0] : Fin 2 → ℕ) a + (![256, 256] : Fin 2 → ℕ) a ≤ S256x256.size a), arg5.view.readAt (Elt F) (Rect.unit (s := S256x256) ![0, 0] ![256, 256] inb).toLoadRect (harg5.unread x5) = x5 := fun inb => readAt_whole arg5 harg5 x5 inb
      have a6 : ∀ (inb : ∀ a, (![0, 0] : Fin 2 → ℕ) a + (S1x256.size : Fin 2 → ℕ) a ≤ S1x256.size a), arg6.view.readAt (Elt F) (Rect.unit (s := S1x256) ![0, 0] S1x256.size inb).toLoadRect (harg6.unread x6) = x6 := fun inb => readAt_whole arg6 harg6 x6 inb
      have b6 : ∀ (inb : ∀ a, (![0, 0] : Fin 2 → ℕ) a + (![1, 256] : Fin 2 → ℕ) a ≤ S1x256.size a), arg6.view.readAt (Elt F) (Rect.unit (s := S1x256) ![0, 0] ![1, 256] inb).toLoadRect (harg6.unread x6) = x6 := fun inb => readAt_whole arg6 harg6 x6 inb
      have a7 : ∀ (inb : ∀ a, (![0, 0] : Fin 2 → ℕ) a + (S1x256.size : Fin 2 → ℕ) a ≤ S1x256.size a), arg7.view.readAt (Elt F) (Rect.unit (s := S1x256) ![0, 0] S1x256.size inb).toLoadRect (harg7.unread x7) = x7 := fun inb => readAt_whole arg7 harg7 x7 inb
      have b7 : ∀ (inb : ∀ a, (![0, 0] : Fin 2 → ℕ) a + (![1, 256] : Fin 2 → ℕ) a ≤ S1x256.size a), arg7.view.readAt (Elt F) (Rect.unit (s := S1x256) ![0, 0] ![1, 256] inb).toLoadRect (harg7.unread x7) = x7 := fun inb => readAt_whole arg7 harg7 x7 inb
      have a8 : ∀ (inb : ∀ a, (![0, 0] : Fin 2 → ℕ) a + (S1x256.size : Fin 2 → ℕ) a ≤ S1x256.size a), arg8.view.readAt (Elt F) (Rect.unit (s := S1x256) ![0, 0] S1x256.size inb).toLoadRect (harg8.unread x8) = x8 := fun inb => readAt_whole arg8 harg8 x8 inb
      have b8 : ∀ (inb : ∀ a, (![0, 0] : Fin 2 → ℕ) a + (![1, 256] : Fin 2 → ℕ) a ≤ S1x256.size a), arg8.view.readAt (Elt F) (Rect.unit (s := S1x256) ![0, 0] ![1, 256] inb).toLoadRect (harg8.unread x8) = x8 := fun inb => readAt_whole arg8 harg8 x8 inb
      have a9 : ∀ (inb : ∀ a, (![0, 0, 0] : Fin 3 → ℕ) a + (S1x2048x3.size : Fin 3 → ℕ) a ≤ S1x2048x3.size a), arg9.view.readAt (Elt F) (Rect.unit (s := S1x2048x3) ![0, 0, 0] S1x2048x3.size inb).toLoadRect (harg9.unread x9) = x9 := fun inb => readAt_whole arg9 harg9 x9 inb
      have b9 : ∀ (inb : ∀ a, (![0, 0, 0] : Fin 3 → ℕ) a + (![1, 2048, 3] : Fin 3 → ℕ) a ≤ S1x2048x3.size a), arg9.view.readAt (Elt F) (Rect.unit (s := S1x2048x3) ![0, 0, 0] ![1, 2048, 3] inb).toLoadRect (harg9.unread x9) = x9 := fun inb => readAt_whole arg9 harg9 x9 inb
      have a10 : ∀ (inb : ∀ a, (![0, 0, 0] : Fin 3 → ℕ) a + (S1x3x1024.size : Fin 3 → ℕ) a ≤ S1x3x1024.size a), arg10.view.readAt (Elt F) (Rect.unit (s := S1x3x1024) ![0, 0, 0] S1x3x1024.size inb).toLoadRect (harg10.unread x10) = x10 := fun inb => readAt_whole arg10 harg10 x10 inb
      have b10 : ∀ (inb : ∀ a, (![0, 0, 0] : Fin 3 → ℕ) a + (![1, 3, 1024] : Fin 3 → ℕ) a ≤ S1x3x1024.size a), arg10.view.readAt (Elt F) (Rect.unit (s := S1x3x1024) ![0, 0, 0] ![1, 3, 1024] inb).toLoadRect (harg10.unread x10) = x10 := fun inb => readAt_whole arg10 harg10 x10 inb
      have a11 : ∀ (inb : ∀ a, (![0, 0, 0] : Fin 3 → ℕ) a + (S1x2048x256.size : Fin 3 → ℕ) a ≤ S1x2048x256.size a), arg11.view.readAt (Elt F) (Rect.unit (s := S1x2048x256) ![0, 0, 0] S1x2048x256.size inb).toLoadRect (harg11.unread x11) = x11 := fun inb => readAt_whole arg11 harg11 x11 inb
      have b11 : ∀ (inb : ∀ a, (![0, 0, 0] : Fin 3 → ℕ) a + (![1, 2048, 256] : Fin 3 → ℕ) a ≤ S1x2048x256.size a), arg11.view.readAt (Elt F) (Rect.unit (s := S1x2048x256) ![0, 0, 0] ![1, 2048, 256] inb).toLoadRect (harg11.unread x11) = x11 := fun inb => readAt_whole arg11 harg11 x11 inb
      have a16 : ∀ (inb : ∀ a, (![0, 0] : Fin 2 → ℕ) a + (S1024x256.size : Fin 2 → ℕ) a ≤ S1024x256.size a), arg16.view.readAt (Elt F) (Rect.unit (s := S1024x256) ![0, 0] S1024x256.size inb).toLoadRect (harg16.unread x16) = x16 := fun inb => readAt_whole arg16 harg16 x16 inb
      have b16 : ∀ (inb : ∀ a, (![0, 0] : Fin 2 → ℕ) a + (![1024, 256] : Fin 2 → ℕ) a ≤ S1024x256.size a), arg16.view.readAt (Elt F) (Rect.unit (s := S1024x256) ![0, 0] ![1024, 256] inb).toLoadRect (harg16.unread x16) = x16 := fun inb => readAt_whole arg16 harg16 x16 inb
      repeat delta runC.sl.v52 runC.sl.v29 runC.sl.v45 runC.sl.cst_25 runC.sl.r_1 runC.sl.r_2 runC.sl.r_4 runC.sl.r runC.sl.v87 runC.sl.H14_4 runC.sl.v70 runC.sl.v90 runC.sl.v67 runC.sl.r_3
      simp only [View.readCov, View.writes_nil, readAt_row0, read_writes_row0, readAt_row0_lit, read_writes_row0_lit, readAt_row1, read_writes_row1, readAt_row1_lit, read_writes_row1_lit, readAt_row2, read_writes_row2, readAt_row2_lit, read_writes_row2_lit, readAt_row3, read_writes_row3, readAt_row3_lit, read_writes_row3_lit, row4_put4_ne 0 1 (by decide), row4_put4_ne 0 2 (by decide), row4_put4_ne 0 3 (by decide), row4_put4_ne 1 0 (by decide), row4_put4_ne 1 2 (by decide), row4_put4_ne 1 3 (by decide), row4_put4_ne 2 0 (by decide), row4_put4_ne 2 1 (by decide), row4_put4_ne 2 3 (by decide), row4_put4_ne 3 0 (by decide), row4_put4_ne 3 1 (by decide), row4_put4_ne 3 2 (by decide), row4_put4_same, read_writes_all4, readAt_get1024, read_writes_put1024, read_writes_all1024, readAt_get1024_lit, read_writes_put1024_lit, read_writes_all1024_lit, a1, a2, a3, a4, a5, a6, a7, a8, a9, a10, a11, a16, b1, b2, b3, b4, b5, b6, b7, b8, b9, b10, b11, b16, harg13.read_unread, harg14.read_unread, harg15.read_unread, harg16.read_unread]
      try rfl
    isplitl [H15]
    · iexists _; isplitr
      rotate_left
      · iexact H15
      ipureintro
      have a1 : ∀ (inb : ∀ a, (![0, 0, 0] : Fin 3 → ℕ) a + (S1x1024x512.size : Fin 3 → ℕ) a ≤ S1x1024x512.size a), arg1.view.readAt (Elt F) (Rect.unit (s := S1x1024x512) ![0, 0, 0] S1x1024x512.size inb).toLoadRect (harg1.unread x1) = x1 := fun inb => readAt_whole arg1 harg1 x1 inb
      have b1 : ∀ (inb : ∀ a, (![0, 0, 0] : Fin 3 → ℕ) a + (![1, 1024, 512] : Fin 3 → ℕ) a ≤ S1x1024x512.size a), arg1.view.readAt (Elt F) (Rect.unit (s := S1x1024x512) ![0, 0, 0] ![1, 1024, 512] inb).toLoadRect (harg1.unread x1) = x1 := fun inb => readAt_whole arg1 harg1 x1 inb
      have a2 : ∀ (inb : ∀ a, (![0, 0, 0] : Fin 3 → ℕ) a + (S1x4096x256.size : Fin 3 → ℕ) a ≤ S1x4096x256.size a), arg2.view.readAt (Elt F) (Rect.unit (s := S1x4096x256) ![0, 0, 0] S1x4096x256.size inb).toLoadRect (harg2.unread x2) = x2 := fun inb => readAt_whole arg2 harg2 x2 inb
      have b2 : ∀ (inb : ∀ a, (![0, 0, 0] : Fin 3 → ℕ) a + (![1, 4096, 256] : Fin 3 → ℕ) a ≤ S1x4096x256.size a), arg2.view.readAt (Elt F) (Rect.unit (s := S1x4096x256) ![0, 0, 0] ![1, 4096, 256] inb).toLoadRect (harg2.unread x2) = x2 := fun inb => readAt_whole arg2 harg2 x2 inb
      have a3 : ∀ (inb : ∀ a, (![0, 0] : Fin 2 → ℕ) a + (S512x256.size : Fin 2 → ℕ) a ≤ S512x256.size a), arg3.view.readAt (Elt F) (Rect.unit (s := S512x256) ![0, 0] S512x256.size inb).toLoadRect (harg3.unread x3) = x3 := fun inb => readAt_whole arg3 harg3 x3 inb
      have b3 : ∀ (inb : ∀ a, (![0, 0] : Fin 2 → ℕ) a + (![512, 256] : Fin 2 → ℕ) a ≤ S512x256.size a), arg3.view.readAt (Elt F) (Rect.unit (s := S512x256) ![0, 0] ![512, 256] inb).toLoadRect (harg3.unread x3) = x3 := fun inb => readAt_whole arg3 harg3 x3 inb
      have a4 : ∀ (inb : ∀ a, (![0, 0] : Fin 2 → ℕ) a + (S1x256.size : Fin 2 → ℕ) a ≤ S1x256.size a), arg4.view.readAt (Elt F) (Rect.unit (s := S1x256) ![0, 0] S1x256.size inb).toLoadRect (harg4.unread x4) = x4 := fun inb => readAt_whole arg4 harg4 x4 inb
      have b4 : ∀ (inb : ∀ a, (![0, 0] : Fin 2 → ℕ) a + (![1, 256] : Fin 2 → ℕ) a ≤ S1x256.size a), arg4.view.readAt (Elt F) (Rect.unit (s := S1x256) ![0, 0] ![1, 256] inb).toLoadRect (harg4.unread x4) = x4 := fun inb => readAt_whole arg4 harg4 x4 inb
      have a5 : ∀ (inb : ∀ a, (![0, 0] : Fin 2 → ℕ) a + (S256x256.size : Fin 2 → ℕ) a ≤ S256x256.size a), arg5.view.readAt (Elt F) (Rect.unit (s := S256x256) ![0, 0] S256x256.size inb).toLoadRect (harg5.unread x5) = x5 := fun inb => readAt_whole arg5 harg5 x5 inb
      have b5 : ∀ (inb : ∀ a, (![0, 0] : Fin 2 → ℕ) a + (![256, 256] : Fin 2 → ℕ) a ≤ S256x256.size a), arg5.view.readAt (Elt F) (Rect.unit (s := S256x256) ![0, 0] ![256, 256] inb).toLoadRect (harg5.unread x5) = x5 := fun inb => readAt_whole arg5 harg5 x5 inb
      have a6 : ∀ (inb : ∀ a, (![0, 0] : Fin 2 → ℕ) a + (S1x256.size : Fin 2 → ℕ) a ≤ S1x256.size a), arg6.view.readAt (Elt F) (Rect.unit (s := S1x256) ![0, 0] S1x256.size inb).toLoadRect (harg6.unread x6) = x6 := fun inb => readAt_whole arg6 harg6 x6 inb
      have b6 : ∀ (inb : ∀ a, (![0, 0] : Fin 2 → ℕ) a + (![1, 256] : Fin 2 → ℕ) a ≤ S1x256.size a), arg6.view.readAt (Elt F) (Rect.unit (s := S1x256) ![0, 0] ![1, 256] inb).toLoadRect (harg6.unread x6) = x6 := fun inb => readAt_whole arg6 harg6 x6 inb
      have a7 : ∀ (inb : ∀ a, (![0, 0] : Fin 2 → ℕ) a + (S1x256.size : Fin 2 → ℕ) a ≤ S1x256.size a), arg7.view.readAt (Elt F) (Rect.unit (s := S1x256) ![0, 0] S1x256.size inb).toLoadRect (harg7.unread x7) = x7 := fun inb => readAt_whole arg7 harg7 x7 inb
      have b7 : ∀ (inb : ∀ a, (![0, 0] : Fin 2 → ℕ) a + (![1, 256] : Fin 2 → ℕ) a ≤ S1x256.size a), arg7.view.readAt (Elt F) (Rect.unit (s := S1x256) ![0, 0] ![1, 256] inb).toLoadRect (harg7.unread x7) = x7 := fun inb => readAt_whole arg7 harg7 x7 inb
      have a8 : ∀ (inb : ∀ a, (![0, 0] : Fin 2 → ℕ) a + (S1x256.size : Fin 2 → ℕ) a ≤ S1x256.size a), arg8.view.readAt (Elt F) (Rect.unit (s := S1x256) ![0, 0] S1x256.size inb).toLoadRect (harg8.unread x8) = x8 := fun inb => readAt_whole arg8 harg8 x8 inb
      have b8 : ∀ (inb : ∀ a, (![0, 0] : Fin 2 → ℕ) a + (![1, 256] : Fin 2 → ℕ) a ≤ S1x256.size a), arg8.view.readAt (Elt F) (Rect.unit (s := S1x256) ![0, 0] ![1, 256] inb).toLoadRect (harg8.unread x8) = x8 := fun inb => readAt_whole arg8 harg8 x8 inb
      have a9 : ∀ (inb : ∀ a, (![0, 0, 0] : Fin 3 → ℕ) a + (S1x2048x3.size : Fin 3 → ℕ) a ≤ S1x2048x3.size a), arg9.view.readAt (Elt F) (Rect.unit (s := S1x2048x3) ![0, 0, 0] S1x2048x3.size inb).toLoadRect (harg9.unread x9) = x9 := fun inb => readAt_whole arg9 harg9 x9 inb
      have b9 : ∀ (inb : ∀ a, (![0, 0, 0] : Fin 3 → ℕ) a + (![1, 2048, 3] : Fin 3 → ℕ) a ≤ S1x2048x3.size a), arg9.view.readAt (Elt F) (Rect.unit (s := S1x2048x3) ![0, 0, 0] ![1, 2048, 3] inb).toLoadRect (harg9.unread x9) = x9 := fun inb => readAt_whole arg9 harg9 x9 inb
      have a10 : ∀ (inb : ∀ a, (![0, 0, 0] : Fin 3 → ℕ) a + (S1x3x1024.size : Fin 3 → ℕ) a ≤ S1x3x1024.size a), arg10.view.readAt (Elt F) (Rect.unit (s := S1x3x1024) ![0, 0, 0] S1x3x1024.size inb).toLoadRect (harg10.unread x10) = x10 := fun inb => readAt_whole arg10 harg10 x10 inb
      have b10 : ∀ (inb : ∀ a, (![0, 0, 0] : Fin 3 → ℕ) a + (![1, 3, 1024] : Fin 3 → ℕ) a ≤ S1x3x1024.size a), arg10.view.readAt (Elt F) (Rect.unit (s := S1x3x1024) ![0, 0, 0] ![1, 3, 1024] inb).toLoadRect (harg10.unread x10) = x10 := fun inb => readAt_whole arg10 harg10 x10 inb
      have a11 : ∀ (inb : ∀ a, (![0, 0, 0] : Fin 3 → ℕ) a + (S1x2048x256.size : Fin 3 → ℕ) a ≤ S1x2048x256.size a), arg11.view.readAt (Elt F) (Rect.unit (s := S1x2048x256) ![0, 0, 0] S1x2048x256.size inb).toLoadRect (harg11.unread x11) = x11 := fun inb => readAt_whole arg11 harg11 x11 inb
      have b11 : ∀ (inb : ∀ a, (![0, 0, 0] : Fin 3 → ℕ) a + (![1, 2048, 256] : Fin 3 → ℕ) a ≤ S1x2048x256.size a), arg11.view.readAt (Elt F) (Rect.unit (s := S1x2048x256) ![0, 0, 0] ![1, 2048, 256] inb).toLoadRect (harg11.unread x11) = x11 := fun inb => readAt_whole arg11 harg11 x11 inb
      have a16 : ∀ (inb : ∀ a, (![0, 0] : Fin 2 → ℕ) a + (S1024x256.size : Fin 2 → ℕ) a ≤ S1024x256.size a), arg16.view.readAt (Elt F) (Rect.unit (s := S1024x256) ![0, 0] S1024x256.size inb).toLoadRect (harg16.unread x16) = x16 := fun inb => readAt_whole arg16 harg16 x16 inb
      have b16 : ∀ (inb : ∀ a, (![0, 0] : Fin 2 → ℕ) a + (![1024, 256] : Fin 2 → ℕ) a ≤ S1024x256.size a), arg16.view.readAt (Elt F) (Rect.unit (s := S1024x256) ![0, 0] ![1024, 256] inb).toLoadRect (harg16.unread x16) = x16 := fun inb => readAt_whole arg16 harg16 x16 inb
      unfold bnStep accStep
      repeat delta runC.sl.v52 runC.sl.v29 runC.sl.v45 runC.sl.cst_25 runC.sl.r_1 runC.sl.r_2 runC.sl.r_4 runC.sl.r runC.sl.v87 runC.sl.H14_4 runC.sl.v70 runC.sl.v90 runC.sl.v67 runC.sl.r_3
      simp only [View.readCov, View.writes_nil, readAt_row0, read_writes_row0, readAt_row0_lit, read_writes_row0_lit, readAt_row1, read_writes_row1, readAt_row1_lit, read_writes_row1_lit, readAt_row2, read_writes_row2, readAt_row2_lit, read_writes_row2_lit, readAt_row3, read_writes_row3, readAt_row3_lit, read_writes_row3_lit, row4_put4_ne 0 1 (by decide), row4_put4_ne 0 2 (by decide), row4_put4_ne 0 3 (by decide), row4_put4_ne 1 0 (by decide), row4_put4_ne 1 2 (by decide), row4_put4_ne 1 3 (by decide), row4_put4_ne 2 0 (by decide), row4_put4_ne 2 1 (by decide), row4_put4_ne 2 3 (by decide), row4_put4_ne 3 0 (by decide), row4_put4_ne 3 1 (by decide), row4_put4_ne 3 2 (by decide), row4_put4_same, read_writes_all4, readAt_get1024, read_writes_put1024, read_writes_all1024, readAt_get1024_lit, read_writes_put1024_lit, read_writes_all1024_lit, a1, a2, a3, a4, a5, a6, a7, a8, a9, a10, a11, a16, b1, b2, b3, b4, b5, b6, b7, b8, b9, b10, b11, b16, harg13.read_unread, harg14.read_unread, harg15.read_unread, harg16.read_unread]
      try rfl
    · iexists _; isplitr; · ipureintro; exact harg16.read_unread _
      iexact H16

end Cert.KernelIdeal.Run

end
-- ==== Proof.IRunD.lean ====
module

public import proofs.«01_k».proof.Proof.IState

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)

set_option maxHeartbeats 4000000 in
/-- A grid point of the second phase that starts a batch: its features are normalised. -/
theorem runD
  (arg1 : Memref sig .tc .vmem S1x1024x512 .f32) (harg1 : arg1.IsWhole)
  (arg2 : Memref sig .tc .vmem S1x4096x256 .f32) (harg2 : arg2.IsWhole)
  (arg3 : Memref sig .tc .vmem S512x256 .f32) (harg3 : arg3.IsWhole)
  (arg4 : Memref sig .tc .vmem S1x256 .f32) (harg4 : arg4.IsWhole)
  (arg5 : Memref sig .tc .vmem S256x256 .f32) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S1x256 .f32) (harg8 : arg8.IsWhole)
  (arg9 : Memref sig .tc .vmem S1x2048x3 .f32) (harg9 : arg9.IsWhole)
  (arg10 : Memref sig .tc .vmem S1x3x1024 .f32) (harg10 : arg10.IsWhole)
  (arg11 : Memref sig .tc .vmem S1x2048x256 .f32) (harg11 : arg11.IsWhole)
  (arg12 : Memref sig .tc .vmem S1x2048x256 .f32) (harg12 : arg12.IsWhole)
  (arg13 : Memref sig .tc .vmem S16384x256 .f32) (harg13 : arg13.IsWhole)
  (arg14 : Memref sig .tc .vmem S4x256 .f32) (harg14 : arg14.IsWhole)
  (arg15 : Memref sig .tc .vmem S4x256 .f32) (harg15 : arg15.IsWhole)
  (arg16 : Memref sig .tc .vmem S1024x256 .f32) (harg16 : arg16.IsWhole)
  (h1 : ¬condInit i) (h2 : ¬k0_cond2 i = 1#1) (h4 : k0_cond4 i = 1#1) (h5 : k0_cond5 i = 1#1)
  (x1 : Vec F S1x1024x512 .f32)
  (x2 : Vec F S1x4096x256 .f32)
  (x3 : Vec F S512x256 .f32)
  (x4 : Vec F S1x256 .f32)
  (x5 : Vec F S256x256 .f32)
  (x6 : Vec F S1x256 .f32)
  (x7 : Vec F S1x256 .f32)
  (x8 : Vec F S1x256 .f32)
  (x9 : Vec F S1x2048x3 .f32)
  (x10 : Vec F S1x3x1024 .f32)
  (x11 : Vec F S1x2048x256 .f32)
  (x13 : Vec F S16384x256 .f32)
  (x14 : Vec F S4x256 .f32)
  (x15 : Vec F S4x256 .f32)
  (x16 : Vec F S1024x256 .f32)
 (E : Set ℕ) (K : PUnit → sProp 𝕄) :
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ owns (c : Thread nD τ) arg13 fullShare x13 ∗ owns (c : Thread nD τ) arg14 fullShare x14 ∗ owns (c : Thread nD τ) arg15 fullShare x15 ∗ owns (c : Thread nD τ) arg16 fullShare x16
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (outStep x5 x6 x9 x10 x11 x15 (k0_pay21 (get1024 (k0_off2 i) (k0_off2_inb i h4 h5) x13) (row4 0 x15) (row4 1 x15))) ∗ owns (c : Thread nD τ) arg13 fullShare x13 ∗ owns (c : Thread nD τ) arg14 fullShare x14 ∗ owns (c : Thread nD τ) arg15 fullShare x15 ∗ owns (c : Thread nD τ) arg16 fullShare (k0_pay21 (get1024 (k0_off2 i) (k0_off2_inb i h4 h5) x13) (row4 0 x15) (row4 1 x15))) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0__body_eq_skeleton]; unfold cc0__body_skel
    simp only [k0_part1_eq_skeleton, k0_part2_eq_skeleton, k0_part3_eq_skeleton, k0_part4_eq_skeleton, k0_part5_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14; obtain rfl := harg15.eq_unread hf15; obtain rfl := harg16.eq_unread hf16
    sl_exec (disch := first | sl_exact h1 | sl_exact h2 | sl_exact h4 | sl_exact h5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr
      rotate_left
      · iexact H12
      ipureintro
      have a1 : ∀ (inb : ∀ a, (![0, 0, 0] : Fin 3 → ℕ) a + (S1x1024x512.size : Fin 3 → ℕ) a ≤ S1x1024x512.size a), arg1.view.readAt (Elt F) (Rect.unit (s := S1x1024x512) ![0, 0, 0] S1x1024x512.size inb).toLoadRect (harg1.unread x1) = x1 := fun inb => readAt_whole arg1 harg1 x1 inb
      have b1 : ∀ (inb : ∀ a, (![0, 0, 0] : Fin 3 → ℕ) a + (![1, 1024, 512] : Fin 3 → ℕ) a ≤ S1x1024x512.size a), arg1.view.readAt (Elt F) (Rect.unit (s := S1x1024x512) ![0, 0, 0] ![1, 1024, 512] inb).toLoadRect (harg1.unread x1) = x1 := fun inb => readAt_whole arg1 harg1 x1 inb
      have a2 : ∀ (inb : ∀ a, (![0, 0, 0] : Fin 3 → ℕ) a + (S1x4096x256.size : Fin 3 → ℕ) a ≤ S1x4096x256.size a), arg2.view.readAt (Elt F) (Rect.unit (s := S1x4096x256) ![0, 0, 0] S1x4096x256.size inb).toLoadRect (harg2.unread x2) = x2 := fun inb => readAt_whole arg2 harg2 x2 inb
      have b2 : ∀ (inb : ∀ a, (![0, 0, 0] : Fin 3 → ℕ) a + (![1, 4096, 256] : Fin 3 → ℕ) a ≤ S1x4096x256.size a), arg2.view.readAt (Elt F) (Rect.unit (s := S1x4096x256) ![0, 0, 0] ![1, 4096, 256] inb).toLoadRect (harg2.unread x2) = x2 := fun inb => readAt_whole arg2 harg2 x2 inb
      have a3 : ∀ (inb : ∀ a, (![0, 0] : Fin 2 → ℕ) a + (S512x256.size : Fin 2 → ℕ) a ≤ S512x256.size a), arg3.view.readAt (Elt F) (Rect.unit (s := S512x256) ![0, 0] S512x256.size inb).toLoadRect (harg3.unread x3) = x3 := fun inb => readAt_whole arg3 harg3 x3 inb
      have b3 : ∀ (inb : ∀ a, (![0, 0] : Fin 2 → ℕ) a + (![512, 256] : Fin 2 → ℕ) a ≤ S512x256.size a), arg3.view.readAt (Elt F) (Rect.unit (s := S512x256) ![0, 0] ![512, 256] inb).toLoadRect (harg3.unread x3) = x3 := fun inb => readAt_whole arg3 harg3 x3 inb
      have a4 : ∀ (inb : ∀ a, (![0, 0] : Fin 2 → ℕ) a + (S1x256.size : Fin 2 → ℕ) a ≤ S1x256.size a), arg4.view.readAt (Elt F) (Rect.unit (s := S1x256) ![0, 0] S1x256.size inb).toLoadRect (harg4.unread x4) = x4 := fun inb => readAt_whole arg4 harg4 x4 inb
      have b4 : ∀ (inb : ∀ a, (![0, 0] : Fin 2 → ℕ) a + (![1, 256] : Fin 2 → ℕ) a ≤ S1x256.size a), arg4.view.readAt (Elt F) (Rect.unit (s := S1x256) ![0, 0] ![1, 256] inb).toLoadRect (harg4.unread x4) = x4 := fun inb => readAt_whole arg4 harg4 x4 inb
      have a5 : ∀ (inb : ∀ a, (![0, 0] : Fin 2 → ℕ) a + (S256x256.size : Fin 2 → ℕ) a ≤ S256x256.size a), arg5.view.readAt (Elt F) (Rect.unit (s := S256x256) ![0, 0] S256x256.size inb).toLoadRect (harg5.unread x5) = x5 := fun inb => readAt_whole arg5 harg5 x5 inb
      have b5 : ∀ (inb : ∀ a, (![0, 0] : Fin 2 → ℕ) a + (![256, 256] : Fin 2 → ℕ) a ≤ S256x256.size a), arg5.view.readAt (Elt F) (Rect.unit (s := S256x256) ![0, 0] ![256, 256] inb).toLoadRect (harg5.unread x5) = x5 := fun inb => readAt_whole arg5 harg5 x5 inb
      have a6 : ∀ (inb : ∀ a, (![0, 0] : Fin 2 → ℕ) a + (S1x256.size : Fin 2 → ℕ) a ≤ S1x256.size a), arg6.view.readAt (Elt F) (Rect.unit (s := S1x256) ![0, 0] S1x256.size inb).toLoadRect (harg6.unread x6) = x6 := fun inb => readAt_whole arg6 harg6 x6 inb
      have b6 : ∀ (inb : ∀ a, (![0, 0] : Fin 2 → ℕ) a + (![1, 256] : Fin 2 → ℕ) a ≤ S1x256.size a), arg6.view.readAt (Elt F) (Rect.unit (s := S1x256) ![0, 0] ![1, 256] inb).toLoadRect (harg6.unread x6) = x6 := fun inb => readAt_whole arg6 harg6 x6 inb
      have a7 : ∀ (inb : ∀ a, (![0, 0] : Fin 2 → ℕ) a + (S1x256.size : Fin 2 → ℕ) a ≤ S1x256.size a), arg7.view.readAt (Elt F) (Rect.unit (s := S1x256) ![0, 0] S1x256.size inb).toLoadRect (harg7.unread x7) = x7 := fun inb => readAt_whole arg7 harg7 x7 inb
      have b7 : ∀ (inb : ∀ a, (![0, 0] : Fin 2 → ℕ) a + (![1, 256] : Fin 2 → ℕ) a ≤ S1x256.size a), arg7.view.readAt (Elt F) (Rect.unit (s := S1x256) ![0, 0] ![1, 256] inb).toLoadRect (harg7.unread x7) = x7 := fun inb => readAt_whole arg7 harg7 x7 inb
      have a8 : ∀ (inb : ∀ a, (![0, 0] : Fin 2 → ℕ) a + (S1x256.size : Fin 2 → ℕ) a ≤ S1x256.size a), arg8.view.readAt (Elt F) (Rect.unit (s := S1x256) ![0, 0] S1x256.size inb).toLoadRect (harg8.unread x8) = x8 := fun inb => readAt_whole arg8 harg8 x8 inb
      have b8 : ∀ (inb : ∀ a, (![0, 0] : Fin 2 → ℕ) a + (![1, 256] : Fin 2 → ℕ) a ≤ S1x256.size a), arg8.view.readAt (Elt F) (Rect.unit (s := S1x256) ![0, 0] ![1, 256] inb).toLoadRect (harg8.unread x8) = x8 := fun inb => readAt_whole arg8 harg8 x8 inb
      have a9 : ∀ (inb : ∀ a, (![0, 0, 0] : Fin 3 → ℕ) a + (S1x2048x3.size : Fin 3 → ℕ) a ≤ S1x2048x3.size a), arg9.view.readAt (Elt F) (Rect.unit (s := S1x2048x3) ![0, 0, 0] S1x2048x3.size inb).toLoadRect (harg9.unread x9) = x9 := fun inb => readAt_whole arg9 harg9 x9 inb
      have b9 : ∀ (inb : ∀ a, (![0, 0, 0] : Fin 3 → ℕ) a + (![1, 2048, 3] : Fin 3 → ℕ) a ≤ S1x2048x3.size a), arg9.view.readAt (Elt F) (Rect.unit (s := S1x2048x3) ![0, 0, 0] ![1, 2048, 3] inb).toLoadRect (harg9.unread x9) = x9 := fun inb => readAt_whole arg9 harg9 x9 inb
      have a10 : ∀ (inb : ∀ a, (![0, 0, 0] : Fin 3 → ℕ) a + (S1x3x1024.size : Fin 3 → ℕ) a ≤ S1x3x1024.size a), arg10.view.readAt (Elt F) (Rect.unit (s := S1x3x1024) ![0, 0, 0] S1x3x1024.size inb).toLoadRect (harg10.unread x10) = x10 := fun inb => readAt_whole arg10 harg10 x10 inb
      have b10 : ∀ (inb : ∀ a, (![0, 0, 0] : Fin 3 → ℕ) a + (![1, 3, 1024] : Fin 3 → ℕ) a ≤ S1x3x1024.size a), arg10.view.readAt (Elt F) (Rect.unit (s := S1x3x1024) ![0, 0, 0] ![1, 3, 1024] inb).toLoadRect (harg10.unread x10) = x10 := fun inb => readAt_whole arg10 harg10 x10 inb
      have a11 : ∀ (inb : ∀ a, (![0, 0, 0] : Fin 3 → ℕ) a + (S1x2048x256.size : Fin 3 → ℕ) a ≤ S1x2048x256.size a), arg11.view.readAt (Elt F) (Rect.unit (s := S1x2048x256) ![0, 0, 0] S1x2048x256.size inb).toLoadRect (harg11.unread x11) = x11 := fun inb => readAt_whole arg11 harg11 x11 inb
      have b11 : ∀ (inb : ∀ a, (![0, 0, 0] : Fin 3 → ℕ) a + (![1, 2048, 256] : Fin 3 → ℕ) a ≤ S1x2048x256.size a), arg11.view.readAt (Elt F) (Rect.unit (s := S1x2048x256) ![0, 0, 0] ![1, 2048, 256] inb).toLoadRect (harg11.unread x11) = x11 := fun inb => readAt_whole arg11 harg11 x11 inb
      have a16 : ∀ (inb : ∀ a, (![0, 0] : Fin 2 → ℕ) a + (S1024x256.size : Fin 2 → ℕ) a ≤ S1024x256.size a), arg16.view.readAt (Elt F) (Rect.unit (s := S1024x256) ![0, 0] S1024x256.size inb).toLoadRect (harg16.unread x16) = x16 := fun inb => readAt_whole arg16 harg16 x16 inb
      have b16 : ∀ (inb : ∀ a, (![0, 0] : Fin 2 → ℕ) a + (![1024, 256] : Fin 2 → ℕ) a ≤ S1024x256.size a), arg16.view.readAt (Elt F) (Rect.unit (s := S1024x256) ![0, 0] ![1024, 256] inb).toLoadRect (harg16.unread x16) = x16 := fun inb => readAt_whole arg16 harg16 x16 inb
      refine (View.read_writes_full _ _ _ _ _).trans ?_
      repeat delta runD.sl.v128 runD.sl.r_6 runD.sl.r_3 runD.sl.r_2 runD.sl.r_1 runD.sl.r_4 runD.sl.r runD.sl.r_8 runD.sl.r_7 runD.sl.r_10 runD.sl.r_9 runD.sl.H16_1 runD.sl.r_5
      simp only [View.readCov, View.writes_nil, readAt_row0, read_writes_row0, readAt_row0_lit, read_writes_row0_lit, readAt_row1, read_writes_row1, readAt_row1_lit, read_writes_row1_lit, readAt_row2, read_writes_row2, readAt_row2_lit, read_writes_row2_lit, readAt_row3, read_writes_row3, readAt_row3_lit, read_writes_row3_lit, row4_put4_ne 0 1 (by decide), row4_put4_ne 0 2 (by decide), row4_put4_ne 0 3 (by decide), row4_put4_ne 1 0 (by decide), row4_put4_ne 1 2 (by decide), row4_put4_ne 1 3 (by decide), row4_put4_ne 2 0 (by decide), row4_put4_ne 2 1 (by decide), row4_put4_ne 2 3 (by decide), row4_put4_ne 3 0 (by decide), row4_put4_ne 3 1 (by decide), row4_put4_ne 3 2 (by decide), row4_put4_same, read_writes_all4, readAt_get1024, read_writes_put1024, read_writes_all1024, readAt_get1024_lit, read_writes_put1024_lit, read_writes_all1024_lit, a1, a2, a3, a4, a5, a6, a7, a8, a9, a10, a11, a16, b1, b2, b3, b4, b5, b6, b7, b8, b9, b10, b11, b16, harg13.read_unread, harg14.read_unread, harg15.read_unread, harg16.read_unread, readAt_all1024_lit]
      try rfl
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    · iexists _; isplitr
      rotate_left
      · iexact H16
      ipureintro
      have a1 : ∀ (inb : ∀ a, (![0, 0, 0] : Fin 3 → ℕ) a + (S1x1024x512.size : Fin 3 → ℕ) a ≤ S1x1024x512.size a), arg1.view.readAt (Elt F) (Rect.unit (s := S1x1024x512) ![0, 0, 0] S1x1024x512.size inb).toLoadRect (harg1.unread x1) = x1 := fun inb => readAt_whole arg1 harg1 x1 inb
      have b1 : ∀ (inb : ∀ a, (![0, 0, 0] : Fin 3 → ℕ) a + (![1, 1024, 512] : Fin 3 → ℕ) a ≤ S1x1024x512.size a), arg1.view.readAt (Elt F) (Rect.unit (s := S1x1024x512) ![0, 0, 0] ![1, 1024, 512] inb).toLoadRect (harg1.unread x1) = x1 := fun inb => readAt_whole arg1 harg1 x1 inb
      have a2 : ∀ (inb : ∀ a, (![0, 0, 0] : Fin 3 → ℕ) a + (S1x4096x256.size : Fin 3 → ℕ) a ≤ S1x4096x256.size a), arg2.view.readAt (Elt F) (Rect.unit (s := S1x4096x256) ![0, 0, 0] S1x4096x256.size inb).toLoadRect (harg2.unread x2) = x2 := fun inb => readAt_whole arg2 harg2 x2 inb
      have b2 : ∀ (inb : ∀ a, (![0, 0, 0] : Fin 3 → ℕ) a + (![1, 4096, 256] : Fin 3 → ℕ) a ≤ S1x4096x256.size a), arg2.view.readAt (Elt F) (Rect.unit (s := S1x4096x256) ![0, 0, 0] ![1, 4096, 256] inb).toLoadRect (harg2.unread x2) = x2 := fun inb => readAt_whole arg2 harg2 x2 inb
      have a3 : ∀ (inb : ∀ a, (![0, 0] : Fin 2 → ℕ) a + (S512x256.size : Fin 2 → ℕ) a ≤ S512x256.size a), arg3.view.readAt (Elt F) (Rect.unit (s := S512x256) ![0, 0] S512x256.size inb).toLoadRect (harg3.unread x3) = x3 := fun inb => readAt_whole arg3 harg3 x3 inb
      have b3 : ∀ (inb : ∀ a, (![0, 0] : Fin 2 → ℕ) a + (![512, 256] : Fin 2 → ℕ) a ≤ S512x256.size a), arg3.view.readAt (Elt F) (Rect.unit (s := S512x256) ![0, 0] ![512, 256] inb).toLoadRect (harg3.unread x3) = x3 := fun inb => readAt_whole arg3 harg3 x3 inb
      have a4 : ∀ (inb : ∀ a, (![0, 0] : Fin 2 → ℕ) a + (S1x256.size : Fin 2 → ℕ) a ≤ S1x256.size a), arg4.view.readAt (Elt F) (Rect.unit (s := S1x256) ![0, 0] S1x256.size inb).toLoadRect (harg4.unread x4) = x4 := fun inb => readAt_whole arg4 harg4 x4 inb
      have b4 : ∀ (inb : ∀ a, (![0, 0] : Fin 2 → ℕ) a + (![1, 256] : Fin 2 → ℕ) a ≤ S1x256.size a), arg4.view.readAt (Elt F) (Rect.unit (s := S1x256) ![0, 0] ![1, 256] inb).toLoadRect (harg4.unread x4) = x4 := fun inb => readAt_whole arg4 harg4 x4 inb
      have a5 : ∀ (inb : ∀ a, (![0, 0] : Fin 2 → ℕ) a + (S256x256.size : Fin 2 → ℕ) a ≤ S256x256.size a), arg5.view.readAt (Elt F) (Rect.unit (s := S256x256) ![0, 0] S256x256.size inb).toLoadRect (harg5.unread x5) = x5 := fun inb => readAt_whole arg5 harg5 x5 inb
      have b5 : ∀ (inb : ∀ a, (![0, 0] : Fin 2 → ℕ) a + (![256, 256] : Fin 2 → ℕ) a ≤ S256x256.size a), arg5.view.readAt (Elt F) (Rect.unit (s := S256x256) ![0, 0] ![256, 256] inb).toLoadRect (harg5.unread x5) = x5 := fun inb => readAt_whole arg5 harg5 x5 inb
      have a6 : ∀ (inb : ∀ a, (![0, 0] : Fin 2 → ℕ) a + (S1x256.size : Fin 2 → ℕ) a ≤ S1x256.size a), arg6.view.readAt (Elt F) (Rect.unit (s := S1x256) ![0, 0] S1x256.size inb).toLoadRect (harg6.unread x6) = x6 := fun inb => readAt_whole arg6 harg6 x6 inb
      have b6 : ∀ (inb : ∀ a, (![0, 0] : Fin 2 → ℕ) a + (![1, 256] : Fin 2 → ℕ) a ≤ S1x256.size a), arg6.view.readAt (Elt F) (Rect.unit (s := S1x256) ![0, 0] ![1, 256] inb).toLoadRect (harg6.unread x6) = x6 := fun inb => readAt_whole arg6 harg6 x6 inb
      have a7 : ∀ (inb : ∀ a, (![0, 0] : Fin 2 → ℕ) a + (S1x256.size : Fin 2 → ℕ) a ≤ S1x256.size a), arg7.view.readAt (Elt F) (Rect.unit (s := S1x256) ![0, 0] S1x256.size inb).toLoadRect (harg7.unread x7) = x7 := fun inb => readAt_whole arg7 harg7 x7 inb
      have b7 : ∀ (inb : ∀ a, (![0, 0] : Fin 2 → ℕ) a + (![1, 256] : Fin 2 → ℕ) a ≤ S1x256.size a), arg7.view.readAt (Elt F) (Rect.unit (s := S1x256) ![0, 0] ![1, 256] inb).toLoadRect (harg7.unread x7) = x7 := fun inb => readAt_whole arg7 harg7 x7 inb
      have a8 : ∀ (inb : ∀ a, (![0, 0] : Fin 2 → ℕ) a + (S1x256.size : Fin 2 → ℕ) a ≤ S1x256.size a), arg8.view.readAt (Elt F) (Rect.unit (s := S1x256) ![0, 0] S1x256.size inb).toLoadRect (harg8.unread x8) = x8 := fun inb => readAt_whole arg8 harg8 x8 inb
      have b8 : ∀ (inb : ∀ a, (![0, 0] : Fin 2 → ℕ) a + (![1, 256] : Fin 2 → ℕ) a ≤ S1x256.size a), arg8.view.readAt (Elt F) (Rect.unit (s := S1x256) ![0, 0] ![1, 256] inb).toLoadRect (harg8.unread x8) = x8 := fun inb => readAt_whole arg8 harg8 x8 inb
      have a9 : ∀ (inb : ∀ a, (![0, 0, 0] : Fin 3 → ℕ) a + (S1x2048x3.size : Fin 3 → ℕ) a ≤ S1x2048x3.size a), arg9.view.readAt (Elt F) (Rect.unit (s := S1x2048x3) ![0, 0, 0] S1x2048x3.size inb).toLoadRect (harg9.unread x9) = x9 := fun inb => readAt_whole arg9 harg9 x9 inb
      have b9 : ∀ (inb : ∀ a, (![0, 0, 0] : Fin 3 → ℕ) a + (![1, 2048, 3] : Fin 3 → ℕ) a ≤ S1x2048x3.size a), arg9.view.readAt (Elt F) (Rect.unit (s := S1x2048x3) ![0, 0, 0] ![1, 2048, 3] inb).toLoadRect (harg9.unread x9) = x9 := fun inb => readAt_whole arg9 harg9 x9 inb
      have a10 : ∀ (inb : ∀ a, (![0, 0, 0] : Fin 3 → ℕ) a + (S1x3x1024.size : Fin 3 → ℕ) a ≤ S1x3x1024.size a), arg10.view.readAt (Elt F) (Rect.unit (s := S1x3x1024) ![0, 0, 0] S1x3x1024.size inb).toLoadRect (harg10.unread x10) = x10 := fun inb => readAt_whole arg10 harg10 x10 inb
      have b10 : ∀ (inb : ∀ a, (![0, 0, 0] : Fin 3 → ℕ) a + (![1, 3, 1024] : Fin 3 → ℕ) a ≤ S1x3x1024.size a), arg10.view.readAt (Elt F) (Rect.unit (s := S1x3x1024) ![0, 0, 0] ![1, 3, 1024] inb).toLoadRect (harg10.unread x10) = x10 := fun inb => readAt_whole arg10 harg10 x10 inb
      have a11 : ∀ (inb : ∀ a, (![0, 0, 0] : Fin 3 → ℕ) a + (S1x2048x256.size : Fin 3 → ℕ) a ≤ S1x2048x256.size a), arg11.view.readAt (Elt F) (Rect.unit (s := S1x2048x256) ![0, 0, 0] S1x2048x256.size inb).toLoadRect (harg11.unread x11) = x11 := fun inb => readAt_whole arg11 harg11 x11 inb
      have b11 : ∀ (inb : ∀ a, (![0, 0, 0] : Fin 3 → ℕ) a + (![1, 2048, 256] : Fin 3 → ℕ) a ≤ S1x2048x256.size a), arg11.view.readAt (Elt F) (Rect.unit (s := S1x2048x256) ![0, 0, 0] ![1, 2048, 256] inb).toLoadRect (harg11.unread x11) = x11 := fun inb => readAt_whole arg11 harg11 x11 inb
      have a16 : ∀ (inb : ∀ a, (![0, 0] : Fin 2 → ℕ) a + (S1024x256.size : Fin 2 → ℕ) a ≤ S1024x256.size a), arg16.view.readAt (Elt F) (Rect.unit (s := S1024x256) ![0, 0] S1024x256.size inb).toLoadRect (harg16.unread x16) = x16 := fun inb => readAt_whole arg16 harg16 x16 inb
      have b16 : ∀ (inb : ∀ a, (![0, 0] : Fin 2 → ℕ) a + (![1024, 256] : Fin 2 → ℕ) a ≤ S1024x256.size a), arg16.view.readAt (Elt F) (Rect.unit (s := S1024x256) ![0, 0] ![1024, 256] inb).toLoadRect (harg16.unread x16) = x16 := fun inb => readAt_whole arg16 harg16 x16 inb
      repeat delta runD.sl.v128 runD.sl.r_6 runD.sl.r_3 runD.sl.r_2 runD.sl.r_1 runD.sl.r_4 runD.sl.r runD.sl.r_8 runD.sl.r_7 runD.sl.r_10 runD.sl.r_9 runD.sl.H16_1 runD.sl.r_5
      simp only [View.readCov, View.writes_nil, readAt_row0, read_writes_row0, readAt_row0_lit, read_writes_row0_lit, readAt_row1, read_writes_row1, readAt_row1_lit, read_writes_row1_lit, readAt_row2, read_writes_row2, readAt_row2_lit, read_writes_row2_lit, readAt_row3, read_writes_row3, readAt_row3_lit, read_writes_row3_lit, row4_put4_ne 0 1 (by decide), row4_put4_ne 0 2 (by decide), row4_put4_ne 0 3 (by decide), row4_put4_ne 1 0 (by decide), row4_put4_ne 1 2 (by decide), row4_put4_ne 1 3 (by decide), row4_put4_ne 2 0 (by decide), row4_put4_ne 2 1 (by decide), row4_put4_ne 2 3 (by decide), row4_put4_ne 3 0 (by decide), row4_put4_ne 3 1 (by decide), row4_put4_ne 3 2 (by decide), row4_put4_same, read_writes_all4, readAt_get1024, read_writes_put1024, read_writes_all1024, readAt_get1024_lit, read_writes_put1024_lit, read_writes_all1024_lit, a1, a2, a3, a4, a5, a6, a7, a8, a9, a10, a11, a16, b1, b2, b3, b4, b5, b6, b7, b8, b9, b10, b11, b16, harg13.read_unread, harg14.read_unread, harg15.read_unread, harg16.read_unread]
      try rfl

end Cert.KernelIdeal.Run

end
-- ==== Proof.IRunE.lean ====
module

public import proofs.«01_k».proof.Proof.IState

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)

set_option maxHeartbeats 4000000 in
/-- A grid point of the second phase that continues a batch. -/
theorem runE
  (arg1 : Memref sig .tc .vmem S1x1024x512 .f32) (harg1 : arg1.IsWhole)
  (arg2 : Memref sig .tc .vmem S1x4096x256 .f32) (harg2 : arg2.IsWhole)
  (arg3 : Memref sig .tc .vmem S512x256 .f32) (harg3 : arg3.IsWhole)
  (arg4 : Memref sig .tc .vmem S1x256 .f32) (harg4 : arg4.IsWhole)
  (arg5 : Memref sig .tc .vmem S256x256 .f32) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S1x256 .f32) (harg8 : arg8.IsWhole)
  (arg9 : Memref sig .tc .vmem S1x2048x3 .f32) (harg9 : arg9.IsWhole)
  (arg10 : Memref sig .tc .vmem S1x3x1024 .f32) (harg10 : arg10.IsWhole)
  (arg11 : Memref sig .tc .vmem S1x2048x256 .f32) (harg11 : arg11.IsWhole)
  (arg12 : Memref sig .tc .vmem S1x2048x256 .f32) (harg12 : arg12.IsWhole)
  (arg13 : Memref sig .tc .vmem S16384x256 .f32) (harg13 : arg13.IsWhole)
  (arg14 : Memref sig .tc .vmem S4x256 .f32) (harg14 : arg14.IsWhole)
  (arg15 : Memref sig .tc .vmem S4x256 .f32) (harg15 : arg15.IsWhole)
  (arg16 : Memref sig .tc .vmem S1024x256 .f32) (harg16 : arg16.IsWhole)
  (h1 : ¬condInit i) (h2 : ¬k0_cond2 i = 1#1) (h4 : k0_cond4 i = 1#1) (h5 : ¬k0_cond5 i = 1#1)
  (x1 : Vec F S1x1024x512 .f32)
  (x2 : Vec F S1x4096x256 .f32)
  (x3 : Vec F S512x256 .f32)
  (x4 : Vec F S1x256 .f32)
  (x5 : Vec F S256x256 .f32)
  (x6 : Vec F S1x256 .f32)
  (x7 : Vec F S1x256 .f32)
  (x8 : Vec F S1x256 .f32)
  (x9 : Vec F S1x2048x3 .f32)
  (x10 : Vec F S1x3x1024 .f32)
  (x11 : Vec F S1x2048x256 .f32)
  (x13 : Vec F S16384x256 .f32)
  (x14 : Vec F S4x256 .f32)
  (x15 : Vec F S4x256 .f32)
  (x16 : Vec F S1024x256 .f32)
 (E : Set ℕ) (K : PUnit → sProp 𝕄) :
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ owns (c : Thread nD τ) arg13 fullShare x13 ∗ owns (c : Thread nD τ) arg14 fullShare x14 ∗ owns (c : Thread nD τ) arg15 fullShare x15 ∗ owns (c : Thread nD τ) arg16 fullShare x16
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (outStep x5 x6 x9 x10 x11 x15 x16) ∗ owns (c : Thread nD τ) arg13 fullShare x13 ∗ owns (c : Thread nD τ) arg14 fullShare x14 ∗ owns (c : Thread nD τ) arg15 fullShare x15 ∗ owns (c : Thread nD τ) arg16 fullShare x16) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0__body_eq_skeleton]; unfold cc0__body_skel
    simp only [k0_part1_eq_skeleton, k0_part2_eq_skeleton, k0_part3_eq_skeleton, k0_part4_eq_skeleton, k0_part5_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14; obtain rfl := harg15.eq_unread hf15; obtain rfl := harg16.eq_unread hf16
    sl_exec (disch := first | sl_exact h1 | sl_exact h2 | sl_exact h4 | sl_exact h5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr
      rotate_left
      · iexact H12
      ipureintro
      have a1 : ∀ (inb : ∀ a, (![0, 0, 0] : Fin 3 → ℕ) a + (S1x1024x512.size : Fin 3 → ℕ) a ≤ S1x1024x512.size a), arg1.view.readAt (Elt F) (Rect.unit (s := S1x1024x512) ![0, 0, 0] S1x1024x512.size inb).toLoadRect (harg1.unread x1) = x1 := fun inb => readAt_whole arg1 harg1 x1 inb
      have b1 : ∀ (inb : ∀ a, (![0, 0, 0] : Fin 3 → ℕ) a + (![1, 1024, 512] : Fin 3 → ℕ) a ≤ S1x1024x512.size a), arg1.view.readAt (Elt F) (Rect.unit (s := S1x1024x512) ![0, 0, 0] ![1, 1024, 512] inb).toLoadRect (harg1.unread x1) = x1 := fun inb => readAt_whole arg1 harg1 x1 inb
      have a2 : ∀ (inb : ∀ a, (![0, 0, 0] : Fin 3 → ℕ) a + (S1x4096x256.size : Fin 3 → ℕ) a ≤ S1x4096x256.size a), arg2.view.readAt (Elt F) (Rect.unit (s := S1x4096x256) ![0, 0, 0] S1x4096x256.size inb).toLoadRect (harg2.unread x2) = x2 := fun inb => readAt_whole arg2 harg2 x2 inb
      have b2 : ∀ (inb : ∀ a, (![0, 0, 0] : Fin 3 → ℕ) a + (![1, 4096, 256] : Fin 3 → ℕ) a ≤ S1x4096x256.size a), arg2.view.readAt (Elt F) (Rect.unit (s := S1x4096x256) ![0, 0, 0] ![1, 4096, 256] inb).toLoadRect (harg2.unread x2) = x2 := fun inb => readAt_whole arg2 harg2 x2 inb
      have a3 : ∀ (inb : ∀ a, (![0, 0] : Fin 2 → ℕ) a + (S512x256.size : Fin 2 → ℕ) a ≤ S512x256.size a), arg3.view.readAt (Elt F) (Rect.unit (s := S512x256) ![0, 0] S512x256.size inb).toLoadRect (harg3.unread x3) = x3 := fun inb => readAt_whole arg3 harg3 x3 inb
      have b3 : ∀ (inb : ∀ a, (![0, 0] : Fin 2 → ℕ) a + (![512, 256] : Fin 2 → ℕ) a ≤ S512x256.size a), arg3.view.readAt (Elt F) (Rect.unit (s := S512x256) ![0, 0] ![512, 256] inb).toLoadRect (harg3.unread x3) = x3 := fun inb => readAt_whole arg3 harg3 x3 inb
      have a4 : ∀ (inb : ∀ a, (![0, 0] : Fin 2 → ℕ) a + (S1x256.size : Fin 2 → ℕ) a ≤ S1x256.size a), arg4.view.readAt (Elt F) (Rect.unit (s := S1x256) ![0, 0] S1x256.size inb).toLoadRect (harg4.unread x4) = x4 := fun inb => readAt_whole arg4 harg4 x4 inb
      have b4 : ∀ (inb : ∀ a, (![0, 0] : Fin 2 → ℕ) a + (![1, 256] : Fin 2 → ℕ) a ≤ S1x256.size a), arg4.view.readAt (Elt F) (Rect.unit (s := S1x256) ![0, 0] ![1, 256] inb).toLoadRect (harg4.unread x4) = x4 := fun inb => readAt_whole arg4 harg4 x4 inb
      have a5 : ∀ (inb : ∀ a, (![0, 0] : Fin 2 → ℕ) a + (S256x256.size : Fin 2 → ℕ) a ≤ S256x256.size a), arg5.view.readAt (Elt F) (Rect.unit (s := S256x256) ![0, 0] S256x256.size inb).toLoadRect (harg5.unread x5) = x5 := fun inb => readAt_whole arg5 harg5 x5 inb
      have b5 : ∀ (inb : ∀ a, (![0, 0] : Fin 2 → ℕ) a + (![256, 256] : Fin 2 → ℕ) a ≤ S256x256.size a), arg5.view.readAt (Elt F) (Rect.unit (s := S256x256) ![0, 0] ![256, 256] inb).toLoadRect (harg5.unread x5) = x5 := fun inb => readAt_whole arg5 harg5 x5 inb
      have a6 : ∀ (inb : ∀ a, (![0, 0] : Fin 2 → ℕ) a + (S1x256.size : Fin 2 → ℕ) a ≤ S1x256.size a), arg6.view.readAt (Elt F) (Rect.unit (s := S1x256) ![0, 0] S1x256.size inb).toLoadRect (harg6.unread x6) = x6 := fun inb => readAt_whole arg6 harg6 x6 inb
      have b6 : ∀ (inb : ∀ a, (![0, 0] : Fin 2 → ℕ) a + (![1, 256] : Fin 2 → ℕ) a ≤ S1x256.size a), arg6.view.readAt (Elt F) (Rect.unit (s := S1x256) ![0, 0] ![1, 256] inb).toLoadRect (harg6.unread x6) = x6 := fun inb => readAt_whole arg6 harg6 x6 inb
      have a7 : ∀ (inb : ∀ a, (![0, 0] : Fin 2 → ℕ) a + (S1x256.size : Fin 2 → ℕ) a ≤ S1x256.size a), arg7.view.readAt (Elt F) (Rect.unit (s := S1x256) ![0, 0] S1x256.size inb).toLoadRect (harg7.unread x7) = x7 := fun inb => readAt_whole arg7 harg7 x7 inb
      have b7 : ∀ (inb : ∀ a, (![0, 0] : Fin 2 → ℕ) a + (![1, 256] : Fin 2 → ℕ) a ≤ S1x256.size a), arg7.view.readAt (Elt F) (Rect.unit (s := S1x256) ![0, 0] ![1, 256] inb).toLoadRect (harg7.unread x7) = x7 := fun inb => readAt_whole arg7 harg7 x7 inb
      have a8 : ∀ (inb : ∀ a, (![0, 0] : Fin 2 → ℕ) a + (S1x256.size : Fin 2 → ℕ) a ≤ S1x256.size a), arg8.view.readAt (Elt F) (Rect.unit (s := S1x256) ![0, 0] S1x256.size inb).toLoadRect (harg8.unread x8) = x8 := fun inb => readAt_whole arg8 harg8 x8 inb
      have b8 : ∀ (inb : ∀ a, (![0, 0] : Fin 2 → ℕ) a + (![1, 256] : Fin 2 → ℕ) a ≤ S1x256.size a), arg8.view.readAt (Elt F) (Rect.unit (s := S1x256) ![0, 0] ![1, 256] inb).toLoadRect (harg8.unread x8) = x8 := fun inb => readAt_whole arg8 harg8 x8 inb
      have a9 : ∀ (inb : ∀ a, (![0, 0, 0] : Fin 3 → ℕ) a + (S1x2048x3.size : Fin 3 → ℕ) a ≤ S1x2048x3.size a), arg9.view.readAt (Elt F) (Rect.unit (s := S1x2048x3) ![0, 0, 0] S1x2048x3.size inb).toLoadRect (harg9.unread x9) = x9 := fun inb => readAt_whole arg9 harg9 x9 inb
      have b9 : ∀ (inb : ∀ a, (![0, 0, 0] : Fin 3 → ℕ) a + (![1, 2048, 3] : Fin 3 → ℕ) a ≤ S1x2048x3.size a), arg9.view.readAt (Elt F) (Rect.unit (s := S1x2048x3) ![0, 0, 0] ![1, 2048, 3] inb).toLoadRect (harg9.unread x9) = x9 := fun inb => readAt_whole arg9 harg9 x9 inb
      have a10 : ∀ (inb : ∀ a, (![0, 0, 0] : Fin 3 → ℕ) a + (S1x3x1024.size : Fin 3 → ℕ) a ≤ S1x3x1024.size a), arg10.view.readAt (Elt F) (Rect.unit (s := S1x3x1024) ![0, 0, 0] S1x3x1024.size inb).toLoadRect (harg10.unread x10) = x10 := fun inb => readAt_whole arg10 harg10 x10 inb
      have b10 : ∀ (inb : ∀ a, (![0, 0, 0] : Fin 3 → ℕ) a + (![1, 3, 1024] : Fin 3 → ℕ) a ≤ S1x3x1024.size a), arg10.view.readAt (Elt F) (Rect.unit (s := S1x3x1024) ![0, 0, 0] ![1, 3, 1024] inb).toLoadRect (harg10.unread x10) = x10 := fun inb => readAt_whole arg10 harg10 x10 inb
      have a11 : ∀ (inb : ∀ a, (![0, 0, 0] : Fin 3 → ℕ) a + (S1x2048x256.size : Fin 3 → ℕ) a ≤ S1x2048x256.size a), arg11.view.readAt (Elt F) (Rect.unit (s := S1x2048x256) ![0, 0, 0] S1x2048x256.size inb).toLoadRect (harg11.unread x11) = x11 := fun inb => readAt_whole arg11 harg11 x11 inb
      have b11 : ∀ (inb : ∀ a, (![0, 0, 0] : Fin 3 → ℕ) a + (![1, 2048, 256] : Fin 3 → ℕ) a ≤ S1x2048x256.size a), arg11.view.readAt (Elt F) (Rect.unit (s := S1x2048x256) ![0, 0, 0] ![1, 2048, 256] inb).toLoadRect (harg11.unread x11) = x11 := fun inb => readAt_whole arg11 harg11 x11 inb
      have a16 : ∀ (inb : ∀ a, (![0, 0] : Fin 2 → ℕ) a + (S1024x256.size : Fin 2 → ℕ) a ≤ S1024x256.size a), arg16.view.readAt (Elt F) (Rect.unit (s := S1024x256) ![0, 0] S1024x256.size inb).toLoadRect (harg16.unread x16) = x16 := fun inb => readAt_whole arg16 harg16 x16 inb
      have b16 : ∀ (inb : ∀ a, (![0, 0] : Fin 2 → ℕ) a + (![1024, 256] : Fin 2 → ℕ) a ≤ S1024x256.size a), arg16.view.readAt (Elt F) (Rect.unit (s := S1024x256) ![0, 0] ![1024, 256] inb).toLoadRect (harg16.unread x16) = x16 := fun inb => readAt_whole arg16 harg16 x16 inb
      refine (View.read_writes_full _ _ _ _ _).trans ?_
      repeat delta runE.sl.r_4 runE.sl.r runE.sl.r_8 runE.sl.r_10 runE.sl.r_9 runE.sl.r_2 runE.sl.r_1 runE.sl.r_5 runE.sl.r_6 runE.sl.r_3 runE.sl.r_7
      simp only [View.readCov, View.writes_nil, readAt_row0, read_writes_row0, readAt_row0_lit, read_writes_row0_lit, readAt_row1, read_writes_row1, readAt_row1_lit, read_writes_row1_lit, readAt_row2, read_writes_row2, readAt_row2_lit, read_writes_row2_lit, readAt_row3, read_writes_row3, readAt_row3_lit, read_writes_row3_lit, row4_put4_ne 0 1 (by decide), row4_put4_ne 0 2 (by decide), row4_put4_ne 0 3 (by decide), row4_put4_ne 1 0 (by decide), row4_put4_ne 1 2 (by decide), row4_put4_ne 1 3 (by decide), row4_put4_ne 2 0 (by decide), row4_put4_ne 2 1 (by decide), row4_put4_ne 2 3 (by decide), row4_put4_ne 3 0 (by decide), row4_put4_ne 3 1 (by decide), row4_put4_ne 3 2 (by decide), row4_put4_same, read_writes_all4, readAt_get1024, read_writes_put1024, read_writes_all1024, readAt_get1024_lit, read_writes_put1024_lit, read_writes_all1024_lit, a1, a2, a3, a4, a5, a6, a7, a8, a9, a10, a11, a16, b1, b2, b3, b4, b5, b6, b7, b8, b9, b10, b11, b16, harg13.read_unread, harg14.read_unread, harg15.read_unread, harg16.read_unread]
      try rfl
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    · iexists _; isplitr; · ipureintro; exact harg16.read_unread _
      iexact H16

end Cert.KernelIdeal.Run

end
-- ==== Proof.IFrame.lean ====
module

public import proofs.«01_k».proof.Proof.IInv
public import proofs.«01_k».proof.Proof.IRunA
public import proofs.«01_k».proof.Proof.IRunB
public import proofs.«01_k».proof.Proof.IRunC
public import proofs.«01_k».proof.Proof.IRunD
public import proofs.«01_k».proof.Proof.IRunE
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's invariant before point `n`: the scratch buffers at contents the run allows, and the generator register. -/
def PhiS (c : Dev nD) (n : ℕ) (_ : n ≤ cfg0.N) : sProp 𝕄 :=
  iprop(∃ (x13 : Vec F S16384x256 .f32) (x14 : Vec F S4x256 .f32) (x15 : Vec F S4x256 .f32) (x16 : Vec F S1024x256 .f32),
    ⌜Inv m c n x13 x14 x15 x16⌝
      ∗ (owns (c : Thread nD τ) (Memref.whole cc0_scratch0) fullShare x13
        ∗ owns (c : Thread nD τ) (Memref.whole cc0_scratch1) fullShare x14
        ∗ owns (c : Thread nD τ) (Memref.whole cc0_scratch2) fullShare x15
        ∗ owns (c : Thread nD τ) (Memref.whole cc0_scratch3) fullShare x16)
      ∗ (∃ r, prngReg c r))

/-- The proof data of the pipeline: the inputs' buffers stay at their blocks, the result's buffer is left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
  Φ t := PhiS m c t.val (Nat.le_of_lt_succ t.isLt)
  q w := Pipeline.shareOf spec0 w
  owed _ := 0

/-- The arrays as the region finds them. -/
theorem A_eq (c : Dev nD) (w : Fin cfg0.W) : (dats m 0 c).A w = V m c (Pipeline.arrRef spec0 w) := by
  dsimp only [dats]

/-- An input window's share of its array: windows on one array divide it. -/
theorem q_eq (c : Dev nD) (w : Fin cfg0.W) (_ : (spec0 w).isOut = false) : (dats m 0 c).q w = Pipeline.shareOf spec0 w := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Window 0 is left at its block. -/
theorem after0_0 (c : Dev nD) (t : Fin cfg0.N) : (dats m 0 c).after 0 t = iblk m c 0 t := by dsimp only [dats]
/-- Window 0 holds its block. -/
theorem before0_0 (c : Dev nD) (t : Fin cfg0.N) (d) : (dats m 0 c).before 0 t d = iblk m c 0 t :=
  before0_0_of m (dats m 0 c) (A_eq m c 0) (after0_0 m c) t d
/-- What window 0 is left at, read off. -/
theorem leaves0_0 (c : Dev nD) (t : Fin cfg0.N) :
    (dats m 0 c).leavesExact 0 t = owns (c : Thread nD τ) (st0_0 t) fullShare (iblk m c 0 t) := by
  unfold Dat.leavesExact
  rw [show cfg0.idle 0 (cfg0.grid.coords t) = false from rfl, after0_0]
/-- Window 1 is left at its block. -/
theorem after0_1 (c : Dev nD) (t : Fin cfg0.N) : (dats m 0 c).after 1 t = iblk m c 1 t := by dsimp only [dats]
/-- Window 1 holds its block. -/
theorem before0_1 (c : Dev nD) (t : Fin cfg0.N) (d) : (dats m 0 c).before 1 t d = iblk m c 1 t :=
  before0_1_of m (dats m 0 c) (A_eq m c 1) (after0_1 m c) t d
/-- What window 1 is left at, read off. -/
theorem leaves0_1 (c : Dev nD) (t : Fin cfg0.N) :
    (dats m 0 c).leavesExact 1 t = owns (c : Thread nD τ) (st0_1 t) fullShare (iblk m c 1 t) := by
  unfold Dat.leavesExact
  rw [show cfg0.idle 1 (cfg0.grid.coords t) = false from rfl, after0_1]
/-- Window 2 is left at its block. -/
theorem after0_2 (c : Dev nD) (t : Fin cfg0.N) : (dats m 0 c).after 2 t = iblk m c 2 t := by dsimp only [dats]
/-- Window 2 holds its block. -/
theorem before0_2 (c : Dev nD) (t : Fin cfg0.N) (d) : (dats m 0 c).before 2 t d = iblk m c 2 t :=
  before0_2_of m (dats m 0 c) (A_eq m c 2) (after0_2 m c) t d
/-- What window 2 is left at, read off. -/
theorem leaves0_2 (c : Dev nD) (t : Fin cfg0.N) :
    (dats m 0 c).leavesExact 2 t = owns (c : Thread nD τ) (st0_2 t) fullShare (iblk m c 2 t) := by
  unfold Dat.leavesExact
  rw [show cfg0.idle 2 (cfg0.grid.coords t) = false from rfl, after0_2]
/-- Window 3 is left at its block. -/
theorem after0_3 (c : Dev nD) (t : Fin cfg0.N) : (dats m 0 c).after 3 t = iblk m c 3 t := by dsimp only [dats]
/-- Window 3 holds its block. -/
theorem before0_3 (c : Dev nD) (t : Fin cfg0.N) (d) : (dats m 0 c).before 3 t d = iblk m c 3 t :=
  before0_3_of m (dats m 0 c) (A_eq m c 3) (after0_3 m c) t d
/-- What window 3 is left at, read off. -/
theorem leaves0_3 (c : Dev nD) (t : Fin cfg0.N) :
    (dats m 0 c).leavesExact 3 t = owns (c : Thread nD τ) (st0_3 t) fullShare (iblk m c 3 t) := by
  unfold Dat.leavesExact
  rw [show cfg0.idle 3 (cfg0.grid.coords t) = false from rfl, after0_3]
/-- Window 4 is left at its block. -/
theorem after0_4 (c : Dev nD) (t : Fin cfg0.N) : (dats m 0 c).after 4 t = iblk m c 4 t := by dsimp only [dats]
/-- Window 4 holds its block. -/
theorem before0_4 (c : Dev nD) (t : Fin cfg0.N) (d) : (dats m 0 c).before 4 t d = iblk m c 4 t :=
  before0_4_of m (dats m 0 c) (A_eq m c 4) (after0_4 m c) t d
/-- What window 4 is left at, read off. -/
theorem leaves0_4 (c : Dev nD) (t : Fin cfg0.N) :
    (dats m 0 c).leavesExact 4 t = owns (c : Thread nD τ) (st0_4 t) fullShare (iblk m c 4 t) := by
  unfold Dat.leavesExact
  rw [show cfg0.idle 4 (cfg0.grid.coords t) = false from rfl, after0_4]
/-- Window 5 is left at its block. -/
theorem after0_5 (c : Dev nD) (t : Fin cfg0.N) : (dats m 0 c).after 5 t = iblk m c 5 t := by dsimp only [dats]
/-- Window 5 holds its block. -/
theorem before0_5 (c : Dev nD) (t : Fin cfg0.N) (d) : (dats m 0 c).before 5 t d = iblk m c 5 t :=
  before0_5_of m (dats m 0 c) (A_eq m c 5) (after0_5 m c) t d
/-- What window 5 is left at, read off. -/
theorem leaves0_5 (c : Dev nD) (t : Fin cfg0.N) :
    (dats m 0 c).leavesExact 5 t = owns (c : Thread nD τ) (st0_5 t) fullShare (iblk m c 5 t) := by
  unfold Dat.leavesExact
  rw [show cfg0.idle 5 (cfg0.grid.coords t) = false from rfl, after0_5]
/-- Window 6 is left at its block. -/
theorem after0_6 (c : Dev nD) (t : Fin cfg0.N) : (dats m 0 c).after 6 t = iblk m c 6 t := by dsimp only [dats]
/-- Window 6 holds its block. -/
theorem before0_6 (c : Dev nD) (t : Fin cfg0.N) (d) : (dats m 0 c).before 6 t d = iblk m c 6 t :=
  before0_6_of m (dats m 0 c) (A_eq m c 6) (after0_6 m c) t d
/-- What window 6 is left at, read off. -/
theorem leaves0_6 (c : Dev nD) (t : Fin cfg0.N) :
    (dats m 0 c).leavesExact 6 t = owns (c : Thread nD τ) (st0_6 t) fullShare (iblk m c 6 t) := by
  unfold Dat.leavesExact
  rw [show cfg0.idle 6 (cfg0.grid.coords t) = false from rfl, after0_6]
/-- Window 7 is left at its block. -/
theorem after0_7 (c : Dev nD) (t : Fin cfg0.N) : (dats m 0 c).after 7 t = iblk m c 7 t := by dsimp only [dats]
/-- Window 7 holds its block. -/
theorem before0_7 (c : Dev nD) (t : Fin cfg0.N) (d) : (dats m 0 c).before 7 t d = iblk m c 7 t :=
  before0_7_of m (dats m 0 c) (A_eq m c 7) (after0_7 m c) t d
/-- What window 7 is left at, read off. -/
theorem leaves0_7 (c : Dev nD) (t : Fin cfg0.N) :
    (dats m 0 c).leavesExact 7 t = owns (c : Thread nD τ) (st0_7 t) fullShare (iblk m c 7 t) := by
  unfold Dat.leavesExact
  rw [show cfg0.idle 7 (cfg0.grid.coords t) = false from rfl, after0_7]
/-- Window 8 is left at its block. -/
theorem after0_8 (c : Dev nD) (t : Fin cfg0.N) : (dats m 0 c).after 8 t = iblk m c 8 t := by dsimp only [dats]
/-- Window 8 holds its block. -/
theorem before0_8 (c : Dev nD) (t : Fin cfg0.N) (d) : (dats m 0 c).before 8 t d = iblk m c 8 t :=
  before0_8_of m (dats m 0 c) (A_eq m c 8) (after0_8 m c) t d
/-- What window 8 is left at, read off. -/
theorem leaves0_8 (c : Dev nD) (t : Fin cfg0.N) :
    (dats m 0 c).leavesExact 8 t = owns (c : Thread nD τ) (st0_8 t) fullShare (iblk m c 8 t) := by
  unfold Dat.leavesExact
  rw [show cfg0.idle 8 (cfg0.grid.coords t) = false from rfl, after0_8]
/-- Window 9 is left at its block. -/
theorem after0_9 (c : Dev nD) (t : Fin cfg0.N) : (dats m 0 c).after 9 t = iblk m c 9 t := by dsimp only [dats]
/-- Window 9 holds its block. -/
theorem before0_9 (c : Dev nD) (t : Fin cfg0.N) (d) : (dats m 0 c).before 9 t d = iblk m c 9 t :=
  before0_9_of m (dats m 0 c) (A_eq m c 9) (after0_9 m c) t d
/-- What window 9 is left at, read off. -/
theorem leaves0_9 (c : Dev nD) (t : Fin cfg0.N) :
    (dats m 0 c).leavesExact 9 t = owns (c : Thread nD τ) (st0_9 t) fullShare (iblk m c 9 t) := by
  unfold Dat.leavesExact
  rw [show cfg0.idle 9 (cfg0.grid.coords t) = false from rfl, after0_9]
/-- Window 10 is left at its block. -/
theorem after0_10 (c : Dev nD) (t : Fin cfg0.N) : (dats m 0 c).after 10 t = iblk m c 10 t := by dsimp only [dats]
/-- Window 10 holds its block. -/
theorem before0_10 (c : Dev nD) (t : Fin cfg0.N) (d) : (dats m 0 c).before 10 t d = iblk m c 10 t :=
  before0_10_of m (dats m 0 c) (A_eq m c 10) (after0_10 m c) t d
/-- What window 10 is left at, read off. -/
theorem leaves0_10 (c : Dev nD) (t : Fin cfg0.N) :
    (dats m 0 c).leavesExact 10 t = owns (c : Thread nD τ) (st0_10 t) fullShare (iblk m c 10 t) := by
  unfold Dat.leavesExact
  rw [show cfg0.idle 10 (cfg0.grid.coords t) = false from rfl, after0_10]
/-- The result's block. -/
theorem after0_11 (c : Dev nD) (t : Fin cfg0.N) : (dats m 0 c).after 11 t = outAt m c t := by dsimp only [dats]

/-- The result's window is idle in the first phase. -/
theorem idle11 (t : Fin cfg0.N) : cfg0.idle 11 (cfg0.grid.coords t) = decide (t.val < 16) := by
  show (!(k0_cond4 (grid0.coords t) == 1#1)) = _
  by_cases h : 16 ≤ t.val
  · rw [(h4Iff t).mpr h, decide_eq_false (by omega)]; rfl
  · rw [decide_eq_true (by omega)]
    have : k0_cond4 (grid0.coords t) ≠ 1#1 := fun e => h ((h4Iff t).mp e)
    simp [this]

/-- In the first phase the result's buffer is handed back as it was. -/
theorem leaves0_11_idle (c : Dev nD) (t : Fin cfg0.N) (h : t.val < 16) :
    (dats m 0 c).leavesExact 11 t
      = iprop(∃ d, owns (c : Thread nD τ) (st0_11 t) fullShare ((dats m 0 c).before 11 t d)) := by
  unfold Dat.leavesExact
  rw [idle11, decide_eq_true h]
  rw [show (cfg0.win 11).flush t = false from (flush11 t).trans (decide_eq_false (by omega))]

/-- In the second phase the result's buffer is left at its block. -/
theorem leaves0_11 (c : Dev nD) (t : Fin cfg0.N) (h : 16 ≤ t.val) :
    (dats m 0 c).leavesExact 11 t = owns (c : Thread nD τ) (st0_11 t) fullShare (outAt m c t) := by
  unfold Dat.leavesExact
  rw [idle11, decide_eq_false (by omega), after0_11]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
/-- The body at any point: the run of the case the point is in, the invariant's contents going in and coming out. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, leaves0_0, leaves0_1, leaves0_2, leaves0_3, leaves0_4, leaves0_5, leaves0_6, leaves0_7, leaves0_8, leaves0_9, leaves0_10]
  rw [show (dats m 0 c).owesAt () t.succ = (dats m 0 c).owesAt () t.castSucc from rfl]
  rw [show (dats m 0 c).Φ t.succ = PhiS m c (t.val + 1) t.isLt from rfl, PhiS_castSucc]
  unfold PhiS
  have hN : t.val < 48 := Nat.lt_of_lt_of_eq t.isLt N_0
  iintro ⟨⟨%x13, %x14, %x15, %x16, %hI, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  by_cases hp : t.val < 16
  · rw [leaves0_11_idle m c t hp]
    have hc2 : k0_cond2 (grid0.coords t) = 1#1 := (h2Iff t).mpr hp
    have hc4 : ¬k0_cond4 (grid0.coords t) = 1#1 := fun e => absurd ((h4Iff t).mp e) (by omega)
    by_cases hz : t.val = 0
    · have hf : ¬condFin (grid0.coords t) := fun e => absurd ((hFin t).mp e) (by omega)
      iapply (runA c (grid0.coords t) _ _ _ _ _ _ _ _ _ _ _ _ _ _ _ _ _ _ _ _ _ _ _ _ _ _ _ _ _ _ _ _ ((hInit t).mpr hz) hc2 hf hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) x13 x14 x15 x16 ((dats m 0 c).before 11 t d11) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      isplitl [HS2]; · iexact HS2
      isplitl [HS3]; · iexact HS3
      iintro ⟨H0, H1, H2, H3, H4, H5, H6, H7, H8, H9, H10, H11, HS0, HS1, HS2, HS3⟩
      isplitl [HS0 HS1 HS2 HS3 Hg]
      · iexists _; iexists _; iexists _; iexists _
        isplitr
        rotate_left
        · isplitl [HS0 HS1 HS2 HS3]
          · isplitl [HS0]; · iexact HS0
            isplitl [HS1]; · iexact HS1
            isplitl [HS2]; · iexact HS2
            iexact HS3
          iexact Hg
        ipureintro
        exact inv_first m c t hp hI _ _ (by rw [hz]; rfl) (fun e => absurd e (by omega))
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
    · have hi : ¬condInit (grid0.coords t) := fun e => hz ((hInit t).mp e)
      have ha : x14 = accAt m c t.val := by
        rw [hI.acc (by omega), Nat.min_eq_left (by omega)]
      by_cases hl : t.val = 15
      · iapply (runC c (grid0.coords t) _ _ _ _ _ _ _ _ _ _ _ _ _ _ _ _ _ _ _ _ _ _ _ _ _ _ _ _ _ _ _ _ hi hc2 ((hFin t).mpr hl) hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) x13 x14 x15 x16 ((dats m 0 c).before 11 t d11) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        isplitl [HS2]; · iexact HS2
        isplitl [HS3]; · iexact HS3
        iintro ⟨H0, H1, H2, H3, H4, H5, H6, H7, H8, H9, H10, H11, HS0, HS1, HS2, HS3⟩
        isplitl [HS0 HS1 HS2 HS3 Hg]
        · iexists _; iexists _; iexists _; iexists _
          isplitr
          rotate_left
          · isplitl [HS0 HS1 HS2 HS3]
            · isplitl [HS0]; · iexact HS0
              isplitl [HS1]; · iexact HS1
              isplitl [HS2]; · iexact HS2
              iexact HS3
            iexact Hg
          ipureintro
          exact inv_first m c t hp hI _ _ (by rw [ha]) (fun _ => rfl)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
      · iapply (runB c (grid0.coords t) _ _ _ _ _ _ _ _ _ _ _ _ _ _ _ _ _ _ _ _ _ _ _ _ _ _ _ _ _ _ _ _ hi hc2 (fun e => hl ((hFin t).mp e)) hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) x13 x14 x15 x16 ((dats m 0 c).before 11 t d11) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        isplitl [HS2]; · iexact HS2
        isplitl [HS3]; · iexact HS3
        iintro ⟨H0, H1, H2, H3, H4, H5, H6, H7, H8, H9, H10, H11, HS0, HS1, HS2, HS3⟩
        isplitl [HS0 HS1 HS2 HS3 Hg]
        · iexists _; iexists _; iexists _; iexists _
          isplitr
          rotate_left
          · isplitl [HS0 HS1 HS2 HS3]
            · isplitl [HS0]; · iexact HS0
              isplitl [HS1]; · iexact HS1
              isplitl [HS2]; · iexact HS2
              iexact HS3
            iexact Hg
          ipureintro
          exact inv_first m c t hp hI _ _ (by rw [ha]) (fun e => absurd e hl)
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
  · have hq : 16 ≤ t.val := by omega
    rw [leaves0_11 m c t hq]
    have hi : ¬condInit (grid0.coords t) := fun e => absurd ((hInit t).mp e) (by omega)
    have hc2 : ¬k0_cond2 (grid0.coords t) = 1#1 := fun e => hp ((h2Iff t).mp e)
    have hc4 : k0_cond4 (grid0.coords t) = 1#1 := (h4Iff t).mpr hq
    by_cases he : t.val % 2 = 0
    · have hc5 : k0_cond5 (grid0.coords t) = 1#1 := (h5Iff' t hq).mpr he
      have hF := feat_of_inv m c t hq hI (k0_off2_inb (grid0.coords t) hc4 hc5)
      iapply (runD c (grid0.coords t) _ _ _ _ _ _ _ _ _ _ _ _ _ _ _ _ _ _ _ _ _ _ _ _ _ _ _ _ _ _ _ _ hi hc2 hc4 hc5 (iblk m c 0 t) (iblk m c 1 t) (iblk m c 2 t) (iblk m c 3 t) (iblk m c 4 t) (iblk m c 5 t) (iblk m c 6 t) (iblk m c 7 t) (iblk m c 8 t) (iblk m c 9 t) (iblk m c 10 t) x13 x14 x15 x16  Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      isplitl [HS2]; · iexact HS2
      isplitl [HS3]; · iexact HS3
      iintro ⟨H0, H1, H2, H3, H4, H5, H6, H7, H8, H9, H10, H11, HS0, HS1, HS2, HS3⟩
      isplitl [HS0 HS1 HS2 HS3 Hg]
      · iexists _; iexists _; iexists _; iexists _
        isplitr
        rotate_left
        · isplitl [HS0 HS1 HS2 HS3]
          · isplitl [HS0]; · iexact HS0
            isplitl [HS1]; · iexact HS1
            isplitl [HS2]; · iexact HS2
            iexact HS3
          iexact Hg
        ipureintro
        exact inv_second m c t hq hI _ hF
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      rw [out_of_inv m c t hq hI _ hF]
      iexact H11
    · have hc5 : ¬k0_cond5 (grid0.coords t) = 1#1 := fun e => he ((h5Iff' t hq).mp e)
      have hF := feat_odd m c t hq he hI
      iapply (runE c (grid0.coords t) _ _ _ _ _ _ _ _ _ _ _ _ _ _ _ _ _ _ _ _ _ _ _ _ _ _ _ _ _ _ _ _ hi hc2 hc4 hc5 (iblk m c 0 t) (iblk m c 1 t) (iblk m c 2 t) (iblk m c 3 t) (iblk m c 4 t) (iblk m c 5 t) (iblk m c 6 t) (iblk m c 7 t) (iblk m c 8 t) (iblk m c 9 t) (iblk m c 10 t) x13 x14 x15 x16  Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      isplitl [HS2]; · iexact HS2
      isplitl [HS3]; · iexact HS3
      iintro ⟨H0, H1, H2, H3, H4, H5, H6, H7, H8, H9, H10, H11, HS0, HS1, HS2, HS3⟩
      isplitl [HS0 HS1 HS2 HS3 Hg]
      · iexists _; iexists _; iexists _; iexists _
        isplitr
        rotate_left
        · isplitl [HS0 HS1 HS2 HS3]
          · isplitl [HS0]; · iexact HS0
            isplitl [HS1]; · iexact HS1
            isplitl [HS2]; · iexact HS2
            iexact HS3
          iexact Hg
        ipureintro
        exact inv_second m c t hq hI _ hF
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      rw [out_of_inv m c t hq hI _ hF]
      iexact H11

/-- The body obligation of the pipeline. -/
theorem body_obligation (c : Dev nD) :
    BodyObligation (dats (F := F) m 0 c) (defs₀ (F := F)) Variants.none () Set.univ := fun t => by
  rw [bigSep_W0, bigSep_W0]
  exact triple_restated (sound_body m c t) rfl .rfl fun _ => .rfl

/-- The region's scratch buffers at anything, read off. -/
theorem PhiA_eq (c : Dev nD) : (Pipeline.ΦA spec0 c : sProp 𝕄)
    = iprop(iprop((∃ d : Vec F S16384x256 .f32, owns (c : Thread nD τ) (Memref.whole cc0_scratch0) fullShare d)
        ∗ (∃ d : Vec F S4x256 .f32, owns (c : Thread nD τ) (Memref.whole cc0_scratch1) fullShare d)
        ∗ (∃ d : Vec F S4x256 .f32, owns (c : Thread nD τ) (Memref.whole cc0_scratch2) fullShare d)
        ∗ (∃ d : Vec F S1024x256 .f32, owns (c : Thread nD τ) (Memref.whole cc0_scratch3) fullShare d)) ∗ (∃ r, prngReg c r)) := by
  unfold Pipeline.ΦA
  rw [scopedRest0_eq]
  simp only [owns_whole]
  try rfl

/-- The launch gives the invariant before the first point. -/
theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%x13, H0⟩, ⟨%x14, H1⟩, ⟨%x15, H2⟩, ⟨%x16, H3⟩⟩, Hg⟩
  iexists x13; iexists x14; iexists x15; iexists x16
  isplitr
  · ipureintro; exact inv_zero m c _ _ _ _
  isplitl [H0 H1 H2 H3]
  · isplitl [H0]; · iexact H0
    isplitl [H1]; · iexact H1
    isplitl [H2]; · iexact H2
    iexact H3
  iexact Hg

/-- After the last point the scratch buffers are handed back. -/
theorem hout (c : Dev nD) : (dats m 0 c).Φ (Fin.last cfg0.N) ⊢ Pipeline.ΦA spec0 c := by
  rw [show (dats m 0 c).Φ (Fin.last cfg0.N) = PhiS m c cfg0.N le_rfl from rfl, PhiA_eq]
  unfold PhiS
  iintro ⟨%x13, %x14, %x15, %x16, -, ⟨H0, H1, H2, H3⟩, Hg⟩
  isplitl [H0 H1 H2 H3]
  · isplitl [H0]; · iexists _; iexact H0
    isplitl [H1]; · iexists _; iexact H1
    isplitl [H2]; · iexists _; iexact H2
    iexists _; iexact H3
  iexact Hg

set_option maxHeartbeats 2000000 in
set_option backward.isDefEq.respectTransparency.types false in
/-- The run: every argument and result array of the pipeline at what the proof data says, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := q_eq m) (howed := fun _ _ => rfl) (V := V m)
    (hmain := hmain m Variants.none) (hA := A_eq m) (hin := hin m) (hout := hout m)

/-- The frame: from any memory the run ends with the arguments unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Run

end
-- ==== Proof.RFrame.lean ====
/- The reference's frame: it runs, its arguments end unchanged, and it has no semaphore to leave unsettled. -/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.ReferenceIdeal.Run

open Idealize.ShloMosaic Idealize.SL.Sem Cert.ReferenceIdeal

/-- The reference terminates without a fault, leaves its ten arguments as they were, and ends with every counter at zero. -/
theorem frame_run : Cert.quiescent_ReferenceIdeal := fun m ρ _ =>
  (θ_run Cert.ReferenceIdeal.defs _ _).mono
    (fun r h => ⟨fun c => ⟨(h c).2.2.1, (h c).2.2.2.1, (h c).2.2.2.2.1, (h c).2.2.2.2.2.1, (h c).2.2.2.2.2.2.1, (h c).2.2.2.2.2.2.2.1,
      (h c).2.2.2.2.2.2.2.2.1, (h c).2.2.2.2.2.2.2.2.2.1, (h c).2.2.2.2.2.2.2.2.2.2.1, (h c).2.2.2.2.2.2.2.2.2.2.2⟩,
      sem_eq_zero_of_no_sems (by decide) _⟩)
    (Cert.ReferenceIdeal.Value.run (F := Ideal) m ρ)

end Cert.ReferenceIdeal.Run

end
-- ==== Proof.Spec.lean ====
/- The mathematics of the upsampling, over the reals: two linear layers, each followed by a batch normalisation and a positive part,
   squared distances between points, the three nearest points, and the weighted sum of their features. -/
module

public import Idealize.ShloMosaic.PureOps.Ideal
public import Idealize.ShloMosaic.PureOps.Ideal.Laws
public import Mathlib.Algebra.BigOperators.Fin
public import Mathlib.Tactic.FieldSimp
public import Mathlib.Tactic.Ring
public import Mathlib.Tactic.Positivity
public import Mathlib.Tactic.Linarith

@[expose] public section

noncomputable section

namespace Cert.Math

open Idealize.ShloMosaic

/-! ## The constants -/

/-- The normalisation's small constant, the rational that the float word for 1e-5 is. -/
def eps : ℝ := (Ideal.ofBits .f32 0x3727C5AC#32).toReal
/-- The distance's small constant, the rational that the float word for 1e-8 is. -/
def del : ℝ := (Ideal.ofBits .f32 0x322BCC77#32).toReal
/-- The least squared distance, the rational that the float word for 1e-12 is. -/
def sep : ℝ := (Ideal.ofBits .f32 0x2B8CBCCC#32).toReal

/-- The word for 1e-5 is its real number. -/
theorem ofBits_eps : Ideal.ofBits .f32 0x3727C5AC#32 = (eps : EReal) := by
  unfold eps; simp [Ideal.ofBits, Ideal.ieee, -EReal.coe_mul]
/-- The word for 1e-8 is its real number. -/
theorem ofBits_del : Ideal.ofBits .f32 0x322BCC77#32 = (del : EReal) := by
  unfold del; simp [Ideal.ofBits, Ideal.ieee, -EReal.coe_mul]
/-- The word for 1e-12 is its real number. -/
theorem ofBits_sep : Ideal.ofBits .f32 0x2B8CBCCC#32 = (sep : EReal) := by
  unfold sep; simp [Ideal.ofBits, Ideal.ieee, -EReal.coe_mul]
/-- That number is positive. -/
theorem eps_pos : 0 < eps := by
  unfold eps; simp [Ideal.ofBits, Ideal.ieee, -EReal.coe_mul]
/-- That number is positive. -/
theorem del_pos : 0 < del := by
  unfold del; simp [Ideal.ofBits, Ideal.ieee, -EReal.coe_mul]
/-- That number is positive. -/
theorem sep_pos : 0 < sep := by
  unfold sep; simp [Ideal.ofBits, Ideal.ieee, -EReal.coe_mul]
/-- The word for one. -/
theorem ofBits_one : Ideal.ofBits .f32 0x3F800000#32 = ((1 : ℝ) : EReal) := by
  simp [Ideal.ofBits, Ideal.ieee, -EReal.coe_mul]; norm_num
/-- The word for two. -/
theorem ofBits_two : Ideal.ofBits .f32 0x40000000#32 = ((2 : ℝ) : EReal) := by
  simp [Ideal.ofBits, Ideal.ieee, -EReal.coe_mul]; norm_num
/-- The word for 16384. -/
theorem ofBits_16384 : Ideal.ofBits .f32 0x46800000#32 = ((16384 : ℝ) : EReal) := by
  simp [Ideal.ofBits, Ideal.ieee, -EReal.coe_mul]; norm_num
/-- The word for 65536. -/
theorem ofBits_65536 : Ideal.ofBits .f32 0x47800000#32 = ((65536 : ℝ) : EReal) := by
  simp [Ideal.ofBits, Ideal.ieee, -EReal.coe_mul]; norm_num
/-- The word for plus infinity. -/
theorem ofBits_inf : Ideal.ofBits .f32 0x7F800000#32 = (⊤ : EReal) := by
  simp [Ideal.ofBits, Ideal.ieee, -EReal.coe_mul]
/-- The word for zero, as a real. -/
theorem ofBits_zero : Ideal.ofBits .f32 0x00000000#32 = ((0 : ℝ) : EReal) := by
  rw [Ideal.ofBits_zero_f32]; rfl

/-! ## Sums of reals among the extended reals -/

/-- A sum of reals, taken among the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A maximum of reals, taken among the extended reals, is the real maximum. -/
theorem coe_max (a b : ℝ) : max (a : EReal) (b : EReal) = ((max a b : ℝ) : EReal) :=
  (Monotone.map_max (f := Real.toEReal) (fun _ _ h => EReal.coe_le_coe_iff.mpr h)).symm

/-- A quotient of reals with a divisor that is not zero. -/
theorem div_real (a : ℝ) {b : ℝ} (h : b ≠ 0) : Ideal.div (a : EReal) (b : EReal) = ((a / b : ℝ) : EReal) := by
  rw [Ideal.div_coe h, ← EReal.coe_mul, mul_one_div]

/-- The reciprocal square root of a positive real. -/
theorem rsqrt_real {a : ℝ} (h : 0 < a) : Ideal.rsqrt (a : EReal) = (((Real.sqrt a)⁻¹ : ℝ) : EReal) := by
  rw [Ideal.rsqrt_coe, if_neg (not_lt.mpr h.le), if_neg h.ne']

/-- The square root of a real that is not negative. -/
theorem sqrt_real {a : ℝ} (h : 0 ≤ a) : Ideal.sqrt (a : EReal) = ((Real.sqrt a : ℝ) : EReal) := by
  rw [Ideal.sqrt_coe, if_neg (not_lt.mpr h)]

/-! ## The layers -/

/-- A row times a matrix, plus a bias. -/
def lin {K : ℕ} (x : Fin K → ℝ) (W : Fin K → Fin 256 → ℝ) (b : Fin 256 → ℝ) (c : Fin 256) : ℝ := (∑ k, x k * W k c) + b c

/-- The mean over sixteen batches of `n` rows. -/
def mean {n : ℕ} (N : ℝ) (t : Fin 16 → Fin n → ℝ) : ℝ := (∑ b, ∑ i, t b i) / N

/-- The variance over sixteen batches of `n` rows. -/
def var {n : ℕ} (N : ℝ) (t : Fin 16 → Fin n → ℝ) : ℝ := (∑ b, ∑ i, (t b i - mean N t) * (t b i - mean N t)) / N

/-- A value normalised by a mean and a variance, scaled, shifted, and cut below at zero. -/
def bnrelu (mu v ga : ℝ) (be : EReal) (x : ℝ) : EReal := max ((((x - mu) * (Real.sqrt (v + eps))⁻¹ * ga : ℝ) : EReal) + be) 0

/-- The squared distance of two points, as the sum of their squared norms less twice their product. -/
def sqd (s p : Fin 3 → ℝ) : ℝ := (∑ d, s d * s d) + (∑ d, p d * p d) - 2 * ∑ d, s d * p d

/-- A variance is not negative. -/
theorem var_nonneg {n : ℕ} {N : ℝ} (hN : 0 < N) (t : Fin 16 → Fin n → ℝ) : 0 ≤ var N t :=
  div_nonneg (Finset.sum_nonneg fun b _ => Finset.sum_nonneg fun i _ => mul_self_nonneg _) hN.le

/-- The mean of the squares less the square of the mean is the variance. -/
theorem var_eq {n : ℕ} {N : ℝ} (hN : N = 16 * n) (h0 : N ≠ 0) (t : Fin 16 → Fin n → ℝ) :
    (∑ b, ∑ i, t b i * t b i) / N - mean N t * mean N t = var N t := by
  have e : ∑ b, ∑ i, (t b i - mean N t) * (t b i - mean N t)
      = (∑ b, ∑ i, t b i * t b i) - 2 * mean N t * (∑ b, ∑ i, t b i) + N * (mean N t * mean N t) := by
    have h1 : ∀ b i, (t b i - mean N t) * (t b i - mean N t) = t b i * t b i - 2 * mean N t * t b i + mean N t * mean N t := fun b i => by ring
    simp only [h1, Finset.sum_add_distrib, Finset.sum_sub_distrib, ← Finset.mul_sum, Finset.sum_const, Finset.card_univ,
      Fintype.card_fin, nsmul_eq_mul, smul_eq_mul]
    rw [hN]; push_cast; ring
  have hm : ∑ b, ∑ i, t b i = N * mean N t := by unfold mean; field_simp
  unfold var
  rw [e, hm]
  field_simp
  ring

/-- The kernel's normalisation, a scale and a shift, is the reference's. -/
theorem bn_eq (mu v ga : ℝ) (be : EReal) (x : ℝ) :
    ((x * (ga * (Real.sqrt (v + eps))⁻¹) : ℝ) : EReal) + (be - ((mu * (ga * (Real.sqrt (v + eps))⁻¹) : ℝ) : EReal))
      = (((x - mu) * (Real.sqrt (v + eps))⁻¹ * ga : ℝ) : EReal) + be := by
  rw [sub_eq_add_neg, add_comm be, ← add_assoc, ← EReal.coe_neg, ← EReal.coe_add]
  congr 2
  ring

/-! ## The three nearest -/

/-- `i` comes before `j` in the order by value and then by index, or is `j`. -/
def Le {n : ℕ} (f : Fin n → ℝ) (i j : Fin n) : Prop := f i < f j ∨ (f i = f j ∧ i ≤ j)

/-- `i1`, `i2`, `i3` are the first three in the order by value and then by index. -/
structure Sel {n : ℕ} (f : Fin n → ℝ) (i1 i2 i3 : Fin n) : Prop where
  n12 : i1 ≠ i2
  n13 : i1 ≠ i3
  n23 : i2 ≠ i3
  h1 : ∀ j, Le f i1 j
  h2 : ∀ j, j ≠ i1 → Le f i2 j
  h3 : ∀ j, j ≠ i1 → j ≠ i2 → Le f i3 j

/-- The order is antisymmetric. -/
theorem Le.antisymm {n : ℕ} {f : Fin n → ℝ} {i j : Fin n} (h : Le f i j) (h' : Le f j i) : i = j := by
  rcases h with h | ⟨e, h⟩ <;> rcases h' with h' | ⟨e', h'⟩
  · exact absurd h' (lt_asymm h)
  · rw [e'] at h; exact absurd h (lt_irrefl _)
  · rw [e] at h'; exact absurd h' (lt_irrefl _)
  · exact le_antisymm h h'

/-- The first three are determined. -/
theorem Sel.unique {n : ℕ} {f : Fin n → ℝ} {i1 i2 i3 j1 j2 j3 : Fin n} (h : Sel f i1 i2 i3) (h' : Sel f j1 j2 j3) :
    i1 = j1 ∧ i2 = j2 ∧ i3 = j3 := by
  have e1 : i1 = j1 := (h.h1 j1).antisymm (h'.h1 i1)
  subst e1
  have e2 : i2 = j2 := (h.h2 j2 h'.n12.symm).antisymm (h'.h2 i2 h.n12.symm)
  subst e2
  exact ⟨rfl, rfl, (h.h3 j3 h'.n13.symm h'.n23.symm).antisymm (h'.h3 i3 h.n13.symm h.n23.symm)⟩

/-- A strictly monotone change of the values keeps the first three. -/
theorem Sel.of_mono {n : ℕ} {f g : Fin n → ℝ} {i1 i2 i3 : Fin n} (hg : ∀ i j, g i < g j ↔ f i < f j) (h : Sel g i1 i2 i3) :
    Sel f i1 i2 i3 := by
  have key : ∀ i j, Le g i j → Le f i j := fun i j hl => by
    rcases hl with hl | ⟨e, hl⟩
    · exact .inl ((hg i j).mp hl)
    · refine .inr ⟨le_antisymm (not_lt.mp fun hlt => ?_) (not_lt.mp fun hlt => ?_), hl⟩
      · exact absurd ((hg j i).mpr hlt) (by rw [e]; exact lt_irrefl _)
      · exact absurd ((hg i j).mpr hlt) (by rw [e]; exact lt_irrefl _)
  exact ⟨h.n12, h.n13, h.n23, fun j => key _ _ (h.h1 j), fun j a => key _ _ (h.h2 j a), fun j a b => key _ _ (h.h3 j a b)⟩

/-- The distance of a squared distance, with the small constant added. -/
def dst (x : ℝ) : ℝ := Real.sqrt x + del

/-- Such a distance is positive. -/
theorem dst_pos (x : ℝ) : 0 < dst x := add_pos_of_nonneg_of_pos (Real.sqrt_nonneg x) del_pos

/-- The sum of the three reciprocal distances. -/
def wsum (p1 p2 p3 : ℝ) : ℝ := 1 / p1 + 1 / p2 + 1 / p3

/-- The weighted sum of three values by reciprocal distance. -/
def blend (p1 p2 p3 : ℝ) (v1 v2 v3 : EReal) : EReal :=
  v1 * ((1 / p1 / wsum p1 p2 p3 : ℝ) : EReal) + v2 * ((1 / p2 / wsum p1 p2 p3 : ℝ) : EReal) + v3 * ((1 / p3 / wsum p1 p2 p3 : ℝ) : EReal)

/-- The kernel's weights, products of distances over the sum of the products, are the reciprocal ones. -/
theorem blend_eq {p1 p2 p3 : ℝ} (h1 : 0 < p1) (h2 : 0 < p2) (h3 : 0 < p3) (v1 v2 v3 : EReal) :
    ((p2 * p3 * (1 / (p2 * p3 + p1 * p3 + p1 * p2)) : ℝ) : EReal) * v1 + ((p1 * p3 * (1 / (p2 * p3 + p1 * p3 + p1 * p2)) : ℝ) : EReal) * v2
      + ((p1 * p2 * (1 / (p2 * p3 + p1 * p3 + p1 * p2)) : ℝ) : EReal) * v3 = blend p1 p2 p3 v1 v2 v3 := by
  have hs : p2 * p3 + p1 * p3 + p1 * p2 ≠ 0 := by positivity
  have hw : wsum p1 p2 p3 = (p2 * p3 + p1 * p3 + p1 * p2) / (p1 * p2 * p3) := by unfold wsum; field_simp
  have e1 : p2 * p3 * (1 / (p2 * p3 + p1 * p3 + p1 * p2)) = 1 / p1 / wsum p1 p2 p3 := by rw [hw]; field_simp
  have e2 : p1 * p3 * (1 / (p2 * p3 + p1 * p3 + p1 * p2)) = 1 / p2 / wsum p1 p2 p3 := by rw [hw]; field_simp
  have e3 : p1 * p2 * (1 / (p2 * p3 + p1 * p3 + p1 * p2)) = 1 / p3 / wsum p1 p2 p3 := by rw [hw]; field_simp
  unfold blend
  rw [e1, e2, e3, mul_comm v1, mul_comm v2, mul_comm v3]

end Cert.Math

end
-- ==== Proof.Near.lean ====
/- The three nearest, found in two ways: by three rounds of minimum, lowest position of the minimum, and removal; and by a stable
   sort. Both find the first three in the order by value and then by position. -/
module

public import proofs.«01_k».proof.Proof.Spec
public import Idealize.ShloMosaic.Lib.SortFacts

@[expose] public section

noncomputable section

namespace Cert.Math

open Idealize.ShloMosaic

/-! ## By rounds of minima -/

variable {n : ℕ}

/-- The least of a row, plus infinity for none. -/
def mn (g : Fin n → EReal) : EReal := Finset.univ.fold min ⊤ g

/-- The position of the least of a row, the lowest of several, as a number. -/
def am (g : Fin n → EReal) : EReal := mn fun i => if g i = mn g then (((i.val : ℝ)) : EReal) else ⊤

/-- A row with the entry at a position, given as a number, replaced by plus infinity. -/
def rem (g : Fin n → EReal) (p : EReal) : Fin n → EReal := fun i => if (((i.val : ℝ)) : EReal) = p then ⊤ else g i

/-- A lower bound that is attained is the least. -/
theorem mn_eq {g : Fin n → EReal} {i : Fin n} (h : ∀ j, g i ≤ g j) : mn g = g i := by
  unfold mn
  apply le_antisymm
  · exact (Finset.le_fold_min (c := _) |>.mp le_rfl).2 i (Finset.mem_univ i)
  · exact Finset.le_fold_min (c := _) |>.mpr ⟨le_top, fun j _ => h j⟩

/-- Positions as numbers are different when the positions are. -/
theorem pos_inj {i j : Fin n} : (((i.val : ℝ)) : EReal) = (((j.val : ℝ)) : EReal) ↔ i = j := by
  rw [EReal.coe_eq_coe_iff, Nat.cast_inj, Fin.val_inj]

/-- The first in the order by value and position: the least of the row, and its position. -/
theorem am_eq {g : Fin n → EReal} {i : Fin n} (h : ∀ j, g i < g j ∨ (g i = g j ∧ i ≤ j)) :
    mn g = g i ∧ am g = (((i.val : ℝ)) : EReal) := by
  have hm : mn g = g i := mn_eq fun j => (h j).elim le_of_lt fun e => e.1.le
  refine ⟨hm, ?_⟩
  unfold am
  rw [mn_eq (i := i), hm, if_pos rfl]
  intro j
  rw [hm, if_pos rfl]
  by_cases e : g j = g i
  · rw [if_pos e]
    rcases h j with hl | ⟨_, hl⟩
    · rw [e] at hl; exact absurd hl (lt_irrefl _)
    · exact EReal.coe_le_coe_iff.mpr (Nat.cast_le.mpr hl)
  · rw [if_neg e]; exact le_top

/-- Removal at a position. -/
theorem rem_eq (g : Fin n → EReal) (i : Fin n) : rem g (((i.val : ℝ)) : EReal) = fun j => if j = i then ⊤ else g j := by
  funext j; unfold rem; simp only [pos_inj]

/-- Three rounds on a row of reals of at least three entries find the first three, their values and their positions. -/
theorem rounds (f : Fin n → ℝ) {i1 i2 i3 : Fin n} (h : Sel f i1 i2 i3) :
    let g : Fin n → EReal := fun i => (f i : EReal)
    let g1 := rem g (am g)
    let g2 := rem g1 (am g1)
    mn g = (f i1 : EReal) ∧ am g = (((i1.val : ℝ)) : EReal)
      ∧ mn g1 = (f i2 : EReal) ∧ am g1 = (((i2.val : ℝ)) : EReal)
      ∧ mn g2 = (f i3 : EReal) ∧ am g2 = (((i3.val : ℝ)) : EReal) := by
  intro g g1 g2
  have cv : ∀ i j, Le f i j → (g i < g j ∨ (g i = g j ∧ i ≤ j)) := fun i j hl => by
    rcases hl with hl | ⟨e, hl⟩
    · exact .inl (EReal.coe_lt_coe_iff.mpr hl)
    · exact .inr ⟨congrArg Real.toEReal e, hl⟩
  have a1 := am_eq (g := g) (i := i1) fun j => cv _ _ (h.h1 j)
  have e1 : g1 = fun j => if j = i1 then ⊤ else g j := by show rem g (am g) = _; rw [a1.2, rem_eq]
  have a2 : mn g1 = g i2 ∧ am g1 = (((i2.val : ℝ)) : EReal) := by
    have v : g1 i2 = g i2 := by rw [e1]; exact if_neg h.n12.symm
    rw [← v]
    refine am_eq fun j => ?_
    rw [v]
    by_cases hj : j = i1
    · rw [e1, hj]; left; simp only [if_true]; exact EReal.coe_lt_top _
    · rw [e1]; simp only [if_neg hj]; exact cv _ _ (h.h2 j hj)
  have e2 : g2 = fun j => if j = i2 then ⊤ else g1 j := by show rem g1 (am g1) = _; rw [a2.2, rem_eq]
  have a3 : mn g2 = g i3 ∧ am g2 = (((i3.val : ℝ)) : EReal) := by
    have v : g2 i3 = g i3 := by rw [e2, e1]; simp only [if_neg h.n13.symm, if_neg h.n23.symm]
    rw [← v]
    refine am_eq fun j => ?_
    rw [v]
    by_cases hj2 : j = i2
    · rw [e2, hj2]; left; simp only [if_true]; exact EReal.coe_lt_top _
    by_cases hj : j = i1
    · rw [e2, e1, hj]; left; simp only [if_neg h.n12, if_true]; exact EReal.coe_lt_top _
    · rw [e2, e1]; simp only [if_neg hj, if_neg hj2]; exact cv _ _ (h.h3 j hj hj2)
  exact ⟨a1.1, a1.2, a2.1, a2.2, a3.1, a3.2⟩

/-! ## By a stable sort -/

/-- On a list in increasing order, inserting by value alone is inserting by value and then position. -/
theorem stableSort_lex (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The first three of a stable sort by value are the first three in the order by value and then position. -/
theorem sel_sorted (f : Fin n → ℝ) (R : Fin n → Fin n → Bool) (hR : ∀ a b, R a b = decide (f a < f b)) (h3 : 3 ≤ n) :
    Sel f (sortedFrom R ⟨0, by omega⟩) (sortedFrom R ⟨1, by omega⟩) (sortedFrom R ⟨2, by omega⟩) := by
  let R' : Fin n → Fin n → Bool := fun a b => decide (f a < f b ∨ (f a = f b ∧ a < b))
  have hRR : sortedFrom R = sortedFrom R' := by
    funext k
    unfold sortedFrom
    have : sortPositions n R = sortPositions n R' := stableSort_lex R R' _ (List.pairwise_lt_finRange n) fun a b hab => by
      rw [hR]; simp only [R', decide_eq_decide]
      exact ⟨.inl, fun h => h.resolve_right fun e => absurd e.2 (not_lt.mpr hab.le)⟩
    rw [List.get_of_eq this]; rfl
  have ord : ∀ i j : Fin n, i < j → Le f (sortedFrom R i) (sortedFrom R j) := fun i j hij => by
    rw [hRR]
    have hn := sortedFrom_noInversion R' R' (fun a b hab => by
        simp only [R', decide_eq_true_eq, decide_eq_false_iff_not] at hab ⊢
        rintro (h | ⟨e, h⟩) <;> rcases hab with h' | ⟨e', h'⟩
        · exact lt_asymm h h'
        · rw [e'] at h; exact lt_irrefl _ h
        · rw [e] at h'; exact lt_irrefl _ h'
        · exact lt_asymm h h') (fun _ _ => id) (fun a b c hab hbc => by
        simp only [R', decide_eq_false_iff_not, not_or, not_lt, not_and] at hab hbc ⊢
        refine ⟨hbc.1.trans hab.1, fun e => ?_⟩
        have e1 : f a = f b := le_antisymm (e.le.trans hbc.1) hab.1
        have e2 : f b = f c := e1.symm.trans e
        exact (hbc.2 e2).trans (hab.2 e1)) i j hij
    simp only [R', decide_eq_false_iff_not, not_or, not_lt, not_and] at hn
    rcases lt_or_eq_of_le hn.1 with h | h
    · exact .inl h
    · exact .inr ⟨h, hn.2 h.symm⟩
  have inj := sortedFrom_injective R
  have le' : ∀ i j : Fin n, i ≤ j → Le f (sortedFrom R i) (sortedFrom R j) := fun i j hij => by
    rcases lt_or_eq_of_le hij with h | h
    · exact ord i j h
    · rw [h]; exact .inr ⟨rfl, le_rfl⟩
  have ne : ∀ i j : Fin n, i ≠ j → sortedFrom R i ≠ sortedFrom R j := fun i j hij e => hij (inj e)
  refine ⟨ne _ _ (by simp), ne _ _ (by simp), ne _ _ (by simp), fun j => ?_, fun j hj => ?_, fun j hj hj' => ?_⟩
  all_goals obtain ⟨k, rfl⟩ := sortedFrom_surjective R j
  · exact le' _ _ (Fin.mk_le_of_le_val (Nat.zero_le _))
  · refine le' _ _ (Fin.mk_le_of_le_val ?_)
    have : k.val ≠ 0 := fun e => hj (congrArg _ (Fin.ext e))
    omega
  · refine le' _ _ (Fin.mk_le_of_le_val ?_)
    have h0 : k.val ≠ 0 := fun e => hj (congrArg _ (Fin.ext e))
    have h1 : k.val ≠ 1 := fun e => hj' (congrArg _ (Fin.ext e))
    omega

end Cert.Math

end
-- ==== Proof.Model.lean ====
/- What both programs compute, from arguments that are real (the last shift may be infinite): two dense layers, each normalised over all rows and cut below at zero, and the first
   of them carried from the coarse points to the fine ones by the three nearest. -/
module

public import proofs.«01_k».proof.Proof.Near

@[expose] public section

noncomputable section

namespace Cert.Math

open Idealize.ShloMosaic

/-- The arguments, as reals, the last of them apart. -/
structure Data where
  /-- the coarse points -/
  px : Fin 16 → Fin 1024 → Fin 3 → ℝ
  /-- their features -/
  pf : Fin 16 → Fin 1024 → Fin 512 → ℝ
  /-- the fine points -/
  sx : Fin 16 → Fin 4096 → Fin 3 → ℝ
  /-- their features -/
  sf : Fin 16 → Fin 4096 → Fin 256 → ℝ
  /-- the first layer's weights -/
  wa : Fin 512 → Fin 256 → ℝ
  /-- its bias -/
  ba : Fin 256 → ℝ
  /-- the second layer's weights -/
  wb : Fin 256 → Fin 256 → ℝ
  /-- its bias -/
  bb : Fin 256 → ℝ
  /-- the scale after normalising -/
  ga : Fin 256 → ℝ
  /-- the shift after normalising -/
  be : Fin 256 → EReal

/-- The first three of a row, in the order by value and then by position. -/
def near {n : ℕ} (h : 3 ≤ n) (f : Fin n → ℝ) (k : Fin 3) : Fin n :=
  sortedFrom (fun a b => decide (f a < f b)) ⟨k.val, by omega⟩

/-- They are the first three. -/
theorem near_sel {n : ℕ} (h : 3 ≤ n) (f : Fin n → ℝ) : Sel f (near h f 0) (near h f 1) (near h f 2) :=
  sel_sorted f _ (fun _ _ => rfl) h

/-- A value at a fine point from the values at the coarse ones, given the squared distances. -/
def interp (f : Fin 1024 → ℝ) (v : Fin 1024 → EReal) : EReal :=
  blend (dst (f (near (by decide) f 0))) (dst (f (near (by decide) f 1))) (dst (f (near (by decide) f 2)))
    (v (near (by decide) f 0)) (v (near (by decide) f 1)) (v (near (by decide) f 2))

/-- The same at any three that are the first. -/
theorem interp_eq {f : Fin 1024 → ℝ} {i1 i2 i3 : Fin 1024} (h : Sel f i1 i2 i3) (v : Fin 1024 → EReal) :
    blend (dst (f i1)) (dst (f i2)) (dst (f i3)) (v i1) (v i2) (v i3) = interp f v := by
  obtain ⟨e1, e2, e3⟩ := h.unique (near_sel (by decide) f)
  unfold interp
  rw [← e1, ← e2, ← e3]

namespace Data

variable (D : Data)

/-- The first layer. -/
def low (b : Fin 16) (i : Fin 1024) (c : Fin 256) : ℝ := lin (D.pf b i) D.wa D.ba c
/-- The second layer. -/
def high (b : Fin 16) (i : Fin 4096) (c : Fin 256) : ℝ := lin (D.sf b i) D.wb D.bb c
/-- The normalised first layer. -/
def feat (b : Fin 16) (i : Fin 1024) (c : Fin 256) : EReal :=
  bnrelu (mean 16384 fun b i => D.low b i c) (var 16384 fun b i => D.low b i c) (D.ga c) (D.be c) (D.low b i c)
/-- The normalised second layer. -/
def skip (b : Fin 16) (i : Fin 4096) (c : Fin 256) : EReal :=
  bnrelu (mean 65536 fun b i => D.high b i c) (var 65536 fun b i => D.high b i c) (D.ga c) (D.be c) (D.high b i c)
/-- The squared distances of a fine point to the coarse ones. -/
def sq (b : Fin 16) (i : Fin 4096) (j : Fin 1024) : ℝ := sqd (D.sx b i) (D.px b j)
/-- The second result. -/
def out (b : Fin 16) (i : Fin 4096) (c : Fin 256) : EReal := interp (D.sq b i) (fun j => D.feat b j c) + D.skip b i c

end Data

end Cert.Math
-- ==== Proof.IPay.lean ====
/- The body's vector expressions of the first phase, and of the scales and shifts, read at an index when what they read is real. -/
module

public import proofs.«01_k».proof.Proof.Model
public import proofs.«01_k».proof.Proof.IState
public import Idealize.ShloMosaic.Lib.Pointwise

@[expose] public section

noncomputable section

namespace Cert.KernelIdeal.Val

open Cert.KernelIdeal Cert.KernelIdeal.Gen Cert.KernelIdeal.Run Idealize.ShloMosaic Cert.Math

/-! ## The first phase -/

/-- The first layer's block. -/
theorem pay16_apply {x1 : Vec Ideal S1x1024x512 .f32} {x3 : Vec Ideal S512x256 .f32} {x4 : Vec Ideal S1x256 .f32}
    {X : Fin 1024 → Fin 512 → ℝ} {W : Fin 512 → Fin 256 → ℝ} {B : Fin 256 → ℝ} (h1 : ∀ i k, x1 (ix3 0 i k) = (X i k : EReal))
    (h3 : ∀ k c, x3 (ix2 k c) = (W k c : EReal)) (h4 : ∀ c, x4 (ix2 0 c) = (B c : EReal)) (i : Fin 1024) (c : Fin 256) :
    k0_pay16 x1 x3 x4 (ix2 i c) = ((lin (X i) W B c : ℝ) : EReal) := by
  pointwise [k0_pay16]
  simp only [h1, h3, h4, ← EReal.coe_mul, coe_sum, ← EReal.coe_add]
  rfl

/-- The second layer's block. -/
theorem pay2_apply {x2 : Vec Ideal S1x4096x256 .f32} {x5 : Vec Ideal S256x256 .f32} {x6 : Vec Ideal S1x256 .f32}
    {X : Fin 4096 → Fin 256 → ℝ} {W : Fin 256 → Fin 256 → ℝ} {B : Fin 256 → ℝ} (h2 : ∀ i k, x2 (ix3 0 i k) = (X i k : EReal))
    (h5 : ∀ k c, x5 (ix2 k c) = (W k c : EReal)) (h6 : ∀ c, x6 (ix2 0 c) = (B c : EReal)) (i : Fin 4096) (c : Fin 256) :
    k0_pay2 (k0_pay20 x2) x5 (constant S4096x256 .f32 0x00000000#32) x6 (ix2 i c) = ((lin (X i) W B c : ℝ) : EReal) := by
  pointwise [k0_pay2, k0_pay20]
  simp only [h2, h5, h6, ← EReal.coe_mul, coe_sum, ← EReal.coe_add]
  rfl

/-- The first row of sums after one point. -/
theorem pay18_apply {x1 : Vec Ideal S1x1024x512 .f32} {x3 : Vec Ideal S512x256 .f32} {x4 a : Vec Ideal S1x256 .f32}
    {t : Fin 1024 → ℝ} {c : Fin 256} {s : ℝ} (h : ∀ i, k0_pay16 x1 x3 x4 (ix2 i c) = (t i : EReal)) (ha : a (ix2 0 c) = (s : EReal)) :
    k0_pay18 x1 x3 x4 a (ix2 0 c) = ((s + ∑ i, t i : ℝ) : EReal) := by
  pointwise [k0_pay18]
  simp only [h, ha, coe_sum, ← EReal.coe_add]

/-- The second row of sums after one point. -/
theorem pay19_apply {x1 : Vec Ideal S1x1024x512 .f32} {x3 : Vec Ideal S512x256 .f32} {x4 a : Vec Ideal S1x256 .f32}
    {t : Fin 1024 → ℝ} {c : Fin 256} {s : ℝ} (h : ∀ i, k0_pay16 x1 x3 x4 (ix2 i c) = (t i : EReal)) (ha : a (ix2 0 c) = (s : EReal)) :
    k0_pay19 x1 x3 x4 a (ix2 0 c) = ((s + ∑ i, t i * t i : ℝ) : EReal) := by
  pointwise [k0_pay19]
  simp only [h, ha, ← EReal.coe_mul, coe_sum, ← EReal.coe_add]

/-- The third row of sums after one point. -/
theorem pay3_apply {x2 : FVec Ideal S4096x256 .f32} {x5 : Vec Ideal S256x256 .f32} {z : FVec Ideal S4096x256 .f32} {x6 a : Vec Ideal S1x256 .f32}
    {t : Fin 4096 → ℝ} {c : Fin 256} {s : ℝ} (h : ∀ i, k0_pay2 x2 x5 z x6 (ix2 i c) = (t i : EReal)) (ha : a (ix2 0 c) = (s : EReal)) :
    k0_pay3 x2 x5 z x6 a (ix2 0 c) = ((s + ∑ i, t i : ℝ) : EReal) := by
  pointwise [k0_pay3]
  simp only [h, ha, coe_sum, ← EReal.coe_add]

/-- The fourth row of sums after one point. -/
theorem pay4_apply {x2 : FVec Ideal S4096x256 .f32} {x5 : Vec Ideal S256x256 .f32} {z : FVec Ideal S4096x256 .f32} {x6 a : Vec Ideal S1x256 .f32}
    {t : Fin 4096 → ℝ} {c : Fin 256} {s : ℝ} (h : ∀ i, k0_pay2 x2 x5 z x6 (ix2 i c) = (t i : EReal)) (ha : a (ix2 0 c) = (s : EReal)) :
    k0_pay4 x2 x5 z x6 a (ix2 0 c) = ((s + ∑ i, t i * t i : ℝ) : EReal) := by
  pointwise [k0_pay4]
  simp only [h, ha, ← EReal.coe_mul, coe_sum, ← EReal.coe_add]

/-! ## The scales and shifts -/

/-- The scale of the first layer. -/
theorem pay12_apply {x7 a b : Vec Ideal S1x256 .f32} {c : Fin 256} {g s q v : ℝ} (h7 : x7 (ix2 0 c) = (g : EReal)) (ha : a (ix2 0 c) = (s : EReal))
    (hb : b (ix2 0 c) = (q : EReal)) (hv : q / 16384 - s / 16384 * (s / 16384) = v) (h0 : 0 ≤ v) :
    k0_pay12 x7 a b (ix2 0 c) = ((g * (Real.sqrt (v + eps))⁻¹ : ℝ) : EReal) := by
  pointwise [k0_pay12, k0_pay11, k0_pay10, k0_pay8]
  rw [h7, ha, hb, ofBits_16384, ofBits_eps, div_real _ (by norm_num), div_real _ (by norm_num), ← EReal.coe_mul, ← EReal.coe_sub, hv,
    ← EReal.coe_add, rsqrt_real (add_pos_of_nonneg_of_pos h0 eps_pos), ← EReal.coe_mul]

/-- The shift of the first layer. -/
theorem pay13_apply {x7 x8 a b : Vec Ideal S1x256 .f32} {c : Fin 256} {g s q v : ℝ} {e : EReal} (h7 : x7 (ix2 0 c) = (g : EReal)) (h8 : x8 (ix2 0 c) = e)
    (ha : a (ix2 0 c) = (s : EReal)) (hb : b (ix2 0 c) = (q : EReal)) (hv : q / 16384 - s / 16384 * (s / 16384) = v) (h0 : 0 ≤ v) :
    k0_pay13 x7 x8 a b (ix2 0 c) = e - ((s / 16384 * (g * (Real.sqrt (v + eps))⁻¹) : ℝ) : EReal) := by
  pointwise [k0_pay13, k0_pay11, k0_pay10, k0_pay9, k0_pay8]
  rw [h7, h8, ha, hb, ofBits_16384, ofBits_eps, div_real _ (by norm_num), div_real _ (by norm_num), ← EReal.coe_mul, ← EReal.coe_sub, hv,
    ← EReal.coe_add, rsqrt_real (add_pos_of_nonneg_of_pos h0 eps_pos), ← EReal.coe_mul, ← EReal.coe_mul]

/-- The scale of the second layer. -/
theorem pay15_apply {x7 a b : Vec Ideal S1x256 .f32} {c : Fin 256} {g s q v : ℝ} (h7 : x7 (ix2 0 c) = (g : EReal)) (ha : a (ix2 0 c) = (s : EReal))
    (hb : b (ix2 0 c) = (q : EReal)) (hv : q / 65536 - s / 65536 * (s / 65536) = v) (h0 : 0 ≤ v) :
    k0_pay15 x7 a b (ix2 0 c) = ((g * (Real.sqrt (v + eps))⁻¹ : ℝ) : EReal) := by
  pointwise [k0_pay15, k0_pay14, k0_pay8]
  rw [h7, ha, hb, ofBits_65536, ofBits_eps, div_real _ (by norm_num), div_real _ (by norm_num), ← EReal.coe_mul, ← EReal.coe_sub, hv,
    ← EReal.coe_add, rsqrt_real (add_pos_of_nonneg_of_pos h0 eps_pos), ← EReal.coe_mul]

/-- The stored scale is the scale. -/
theorem pay5_apply (x : FVec Ideal S1x256 .f32) (c : Fin 256) : k0_pay5 x (ix2 0 c) = x (ix2 0 c) := by
  pointwise [k0_pay5]

/-- The shift of the second layer. -/
theorem pay6_apply {x8 a k : Vec Ideal S1x256 .f32} {c : Fin 256} {e : EReal} {s w : ℝ} (h8 : x8 (ix2 0 c) = e) (ha : a (ix2 0 c) = (s : EReal))
    (hk : k (ix2 0 c) = (w : EReal)) : k0_pay6 (k0_pay9 x8) (k0_pay14 a) k (ix2 0 c) = e - ((s / 65536 * w : ℝ) : EReal) := by
  pointwise [k0_pay6, k0_pay9, k0_pay14]
  rw [h8, ha, hk, ofBits_65536, div_real _ (by norm_num), ← EReal.coe_mul]

end Cert.KernelIdeal.Val
-- ==== Proof.IPayB.lean ====
/- The body's vector expressions of the second phase, read at an index when what they read is real. -/
module

public import proofs.«01_k».proof.Proof.IPay

@[expose] public section

noncomputable section

namespace Cert.KernelIdeal.Val

open Cert.KernelIdeal Cert.KernelIdeal.Gen Cert.KernelIdeal.Run Idealize.ShloMosaic Cert.Math

/-- The squared distances of a block. -/
theorem pay25_apply {x9 : Vec Ideal S1x2048x3 .f32} {x10 : Vec Ideal S1x3x1024 .f32} {S : Fin 2048 → Fin 3 → ℝ} {P : Fin 1024 → Fin 3 → ℝ}
    (h9 : ∀ i k, x9 (ix3 0 i k) = (S i k : EReal)) (h10 : ∀ k j, x10 (ix3 0 k j) = (P j k : EReal)) (hsep : ∀ i j, sep ≤ sqd (S i) (P j))
    (i : Fin 2048) (j : Fin 1024) :
    k0_pay25 (k0_pay22 x9) (k0_pay23 x10) (k0_pay24 x9) (ix2 i j) = ((sqd (S i) (P j) : ℝ) : EReal) := by
  pointwise [k0_pay25, k0_pay22, k0_pay23, k0_pay24]
  simp only [h9, h10, ofBits_two, ofBits_sep, ← EReal.coe_mul, coe_sum, ← EReal.coe_add, ← EReal.coe_sub]
  exact (coe_max _ _).trans (congrArg Real.toEReal (max_eq_left (hsep i j)))

end Cert.KernelIdeal.Val
-- ==== Proof.IPayC.lean ====
/- The body's vector expressions of the second phase, the three rounds of a row's least. -/
module

public import proofs.«01_k».proof.Proof.IPay

@[expose] public section

noncomputable section

namespace Cert.KernelIdeal.Val

open Cert.KernelIdeal Cert.KernelIdeal.Gen Cert.KernelIdeal.Run Idealize.ShloMosaic Cert.Math

variable (a : FVec Ideal S2048x3 .f32) (b : FVec Ideal S3x1024 .f32) (q : FVec Ideal S2048x3 .f32)

/-- A position as a word, read as a number. -/
theorem word_pos (j : Fin 1024) : (FloatOps.sitofp .f32 (BitVec.ofNat 32 j.val) : Ideal .f32) = ((j.val : ℝ) : EReal) := by
  show (((BitVec.ofNat 32 j.val).toInt : ℝ) : EReal) = _
  have := j.isLt
  rw [BitVec.toInt_eq_toNat_of_lt (by rw [BitVec.toNat_ofNat]; omega), BitVec.toNat_ofNat, Nat.mod_eq_of_lt (by omega)]
  rfl

/-- The positions along a row. -/
theorem pay26_apply (i : Fin 2048) (j : Fin 1024) : (k0_pay26 (F := Ideal)) (ix2 i j) = ((j.val : ℝ) : EReal) := by
  pointwise [k0_pay26]
  exact word_pos j

/-- A block with the entry at each row's position replaced by plus infinity. -/
def cut (o w : FVec Ideal S2048x1024 .f32) (v : FVec Ideal S2048x1 .f32) : FVec Ideal S2048x1024 .f32 :=
  select (cmpf .oeq o (broadcastTo S2048x1024 v broadcasts_S2048x1_S2048x1024)) (broadcast S2048x1024 (Scalar.ofBits .f32 0x7F800000#32)) w

/-- Such a block at an index. -/
theorem cut_apply (o w : FVec Ideal S2048x1024 .f32) (v : FVec Ideal S2048x1 .f32) (i : Fin 2048) (j : Fin 1024) :
    cut o w v (ix2 i j) = if o (ix2 i j) = v (ix2 i 0) then ⊤ else w (ix2 i j) := by
  pointwise [cut]
  simp only [ofBits_inf]

/-- The positions where a block has each row's value. -/
def mark (o w : FVec Ideal S2048x1024 .f32) (v : FVec Ideal S2048x1 .f32) : FVec Ideal S2048x1024 .f32 :=
  select (cmpf .oeq w (broadcastTo S2048x1024 v broadcasts_S2048x1_S2048x1024)) o (broadcast S2048x1024 (Scalar.ofBits .f32 0x7F800000#32))

/-- Such a block at an index. -/
theorem mark_apply (o w : FVec Ideal S2048x1024 .f32) (v : FVec Ideal S2048x1 .f32) (i : Fin 2048) (j : Fin 1024) :
    mark o w v (ix2 i j) = if w (ix2 i j) = v (ix2 i 0) then o (ix2 i j) else ⊤ := by
  pointwise [mark]
  simp only [ofBits_inf]

/-- A row of squared distances. -/
def row25 (i : Fin 2048) (j : Fin 1024) : EReal := k0_pay25 a b q (ix2 i j)

/-- The least of a row. -/
theorem pay27_apply (i : Fin 2048) : k0_pay27 a b q (ix2 i 0) = mn (row25 a b q i) := by
  pointwise [k0_pay27]
  rw [ofBits_inf]; rfl

/-- Its position. -/
theorem pay28_apply (i : Fin 2048) : k0_pay28 a b q (ix2 i 0) = am (row25 a b q i) := by
  pointwise [k0_pay28]
  simp only [ofBits_inf, pay27_apply, pay26_apply]; rfl

/-- The row without it. -/
theorem pay29_apply (i : Fin 2048) (j : Fin 1024) :
    k0_pay29 a b q (ix2 i j) = rem (row25 a b q i) (am (row25 a b q i)) j :=
  (cut_apply k0_pay26 (k0_pay25 a b q) (k0_pay28 a b q) i j).trans (by rw [pay26_apply, pay28_apply]; rfl)

/-- A row without its least. -/
def row29 (i : Fin 2048) : Fin 1024 → EReal := rem (row25 a b q i) (am (row25 a b q i))

/-- The second least of a row. -/
theorem pay30_apply (i : Fin 2048) : k0_pay30 a b q (ix2 i 0) = mn (row29 a b q i) := by
  pointwise [k0_pay30]
  simp only [ofBits_inf, pay29_apply]; rfl

/-- Its position. -/
theorem pay31_apply (i : Fin 2048) : k0_pay31 a b q (ix2 i 0) = am (row29 a b q i) := by
  pointwise [k0_pay31]
  simp only [ofBits_inf, pay30_apply, pay29_apply, pay26_apply]; rfl

/-- A row without its least two. -/
def row32 (i : Fin 2048) : Fin 1024 → EReal := rem (row29 a b q i) (am (row29 a b q i))

/-- The row without the two. -/
theorem pay32_apply (i : Fin 2048) (j : Fin 1024) : k0_pay32 a b q (ix2 i j) = row32 a b q i j :=
  (cut_apply k0_pay26 (k0_pay29 a b q) (k0_pay31 a b q) i j).trans (by rw [pay26_apply, pay31_apply, pay29_apply]; rfl)

/-- The third least of a row. -/
theorem pay33_apply (i : Fin 2048) : k0_pay33 a b q (ix2 i 0) = mn (row32 a b q i) := by
  pointwise [k0_pay33]
  simp only [ofBits_inf, pay32_apply]; rfl

/-- Its position is the least of these. -/
theorem pay34_apply (i : Fin 2048) (j : Fin 1024) :
    k0_pay34 a b q (ix2 i j) = if row32 a b q i j = mn (row32 a b q i) then ((j.val : ℝ) : EReal) else ⊤ :=
  (mark_apply k0_pay26 (k0_pay32 a b q) (k0_pay33 a b q) i j).trans (by rw [pay26_apply, pay33_apply, pay32_apply])

end Cert.KernelIdeal.Val
-- ==== Proof.IPayD.lean ====
/- The body's vector expressions of the second phase, the weighted features and the result. -/
module

public import proofs.«01_k».proof.Proof.IPay

@[expose] public section

noncomputable section

namespace Cert.KernelIdeal.Val

open Cert.KernelIdeal Cert.KernelIdeal.Gen Cert.KernelIdeal.Run Idealize.ShloMosaic Cert.Math

variable (a : FVec Ideal S2048x3 .f32) (b : FVec Ideal S3x1024 .f32) (q : FVec Ideal S2048x3 .f32)

/-- A sum along a row of weights put at three different positions. -/
theorem spread {n : ℕ} {i1 i2 i3 : Fin n} (n12 : i1 ≠ i2) (n13 : i1 ≠ i3) (n23 : i2 ≠ i3) (a1 a2 a3 : EReal) (v : Fin n → EReal) :
    ∑ x, (if x = i1 then a1 else if x = i2 then a2 else if x = i3 then a3 else 0) * v x = a1 * v i1 + a2 * v i2 + a3 * v i3 := by
  have e : ∀ x, (if x = i1 then a1 else if x = i2 then a2 else if x = i3 then a3 else 0) * v x
      = (if x = i1 then a1 * v x else 0) + (if x = i2 then a2 * v x else 0) + (if x = i3 then a3 * v x else 0) := fun x => by
    by_cases h1 : x = i1
    · subst h1; simp [n12, n13]
    · by_cases h2 : x = i2
      · subst h2; simp [h1, n23]
      · simp [h1, h2]
  simp only [e, Finset.sum_add_distrib, Finset.sum_ite_eq', Finset.sum_ite_eq, Finset.mem_univ, if_true]

/-- The kernel's weights at the three positions, summed along a row, blend the three values. -/
theorem pick3 {s1 s2 s3 : ℝ} {i1 i2 i3 : Fin 1024} (p1 : 0 ≤ s1) (p2 : 0 ≤ s2) (p3 : 0 ≤ s3) (n12 : i1 ≠ i2) (n13 : i1 ≠ i3) (n23 : i2 ≠ i3)
    (v : Fin 1024 → EReal) :
    (∑ x : Fin 1024, (if x = i1 then ((dst s2 : ℝ) : EReal) * (dst s3 : ℝ) * Ideal.div ((1 : ℝ) : EReal) ((dst s2 : ℝ) * (dst s3 : ℝ) + (dst s1 : ℝ) * (dst s3 : ℝ) + (dst s1 : ℝ) * (dst s2 : ℝ))
      else if x = i2 then ((dst s1 : ℝ) : EReal) * (dst s3 : ℝ) * Ideal.div ((1 : ℝ) : EReal) ((dst s2 : ℝ) * (dst s3 : ℝ) + (dst s1 : ℝ) * (dst s3 : ℝ) + (dst s1 : ℝ) * (dst s2 : ℝ))
      else if x = i3 then ((dst s1 : ℝ) : EReal) * (dst s2 : ℝ) * Ideal.div ((1 : ℝ) : EReal) ((dst s2 : ℝ) * (dst s3 : ℝ) + (dst s1 : ℝ) * (dst s3 : ℝ) + (dst s1 : ℝ) * (dst s2 : ℝ))
      else ((0 : ℝ) : EReal)) * v x)
      = blend (dst s1) (dst s2) (dst s3) (v i1) (v i2) (v i3) := by
  have q1 := dst_pos s1
  have q2 := dst_pos s2
  have q3 := dst_pos s3
  have hs : dst s2 * dst s3 + dst s1 * dst s3 + dst s1 * dst s2 ≠ 0 := by positivity
  simp only [← EReal.coe_mul, ← EReal.coe_add, div_real 1 hs]
  rw [← blend_eq q1 q2 q3, EReal.coe_zero]
  exact spread n12 n13 n23 _ _ _ v

/-- The weighted sum of three rows of features, the weights put at the three positions. -/
theorem pay35_apply {o : FVec Ideal S2048x1024 .f32} {v62 v68 v74 v80 v86 : FVec Ideal S2048x1 .f32} {v90 : FVec Ideal S2048x1024 .f32} {x16 : Vec Ideal S1024x256 .f32}
    {i : Fin 2048} {c : Fin 256} {s1 s2 s3 : ℝ} {i1 i2 i3 : Fin 1024} (v : Fin 1024 → EReal) (p1 : 0 ≤ s1) (p2 : 0 ≤ s2) (p3 : 0 ≤ s3)
    (n12 : i1 ≠ i2) (n13 : i1 ≠ i3) (n23 : i2 ≠ i3)
    (ho : ∀ i j, o (ix2 i j) = ((j.val : ℝ) : EReal))
    (h62 : v62 (ix2 i 0) = (s1 : EReal)) (h74 : v74 (ix2 i 0) = (s2 : EReal)) (h86 : v86 (ix2 i 0) = (s3 : EReal))
    (h68 : v68 (ix2 i 0) = ((i1.val : ℝ) : EReal)) (h80 : v80 (ix2 i 0) = ((i2.val : ℝ) : EReal))
    (h90 : mn (fun j => v90 (ix2 i j)) = ((i3.val : ℝ) : EReal)) (hv : ∀ j, x16 (ix2 j c) = v j) :
    k0_pay35 o v62 v68 v74 v80 v86 v90 x16 (ix2 i c)
      = blend (dst s1) (dst s2) (dst s3) (v i1) (v i2) (v i3) := by
  pointwise [k0_pay35]
  have h92 : Finset.fold min (Ideal.ofBits .f32 0x7F800000#32) (fun j => v90 (ix2 i j)) Finset.univ = ((i3.val : ℝ) : EReal) := by
    rw [ofBits_inf]; exact h90
  simp only [h62, h68, h74, h80, h86, h92, hv, ho, pos_inj, ofBits_one, ofBits_zero, ofBits_del, sqrt_real p1, sqrt_real p2, sqrt_real p3]
  exact pick3 p1 p2 p3 n12 n13 n23 v

/-- The product of the fine features with the weights. -/
theorem pay36_apply {x11 : Vec Ideal S1x2048x256 .f32} {x5 : Vec Ideal S256x256 .f32} {X : Fin 2048 → Fin 256 → ℝ} {W : Fin 256 → Fin 256 → ℝ}
    (h11 : ∀ i k, x11 (ix3 0 i k) = (X i k : EReal)) (h5 : ∀ k c, x5 (ix2 k c) = (W k c : EReal)) (i : Fin 2048) (c : Fin 256) :
    k0_pay36 x11 x5 (ix2 i c) = ((∑ k, X i k * W k c : ℝ) : EReal) := by
  pointwise [k0_pay36]
  simp only [h11, h5, ← EReal.coe_mul, coe_sum]

/-- The block of the result. -/
theorem pay7_apply {v w : FVec Ideal S2048x256 .f32} {x6 x s : Vec Ideal S1x256 .f32} {i : Fin 2048} {c : Fin 256} {d e f : ℝ} {a g : EReal}
    (hv : v (ix2 i c) = a) (hw : w (ix2 i c) = (d : EReal)) (h6 : x6 (ix2 0 c) = (e : EReal)) (hx : x (ix2 0 c) = (f : EReal))
    (hs : s (ix2 0 c) = g) : k0_pay7 v w x6 x s (ix3 0 i c) = a + max ((((d + e) * f : ℝ) : EReal) + g) 0 := by
  pointwise [k0_pay7]
  simp only [hv, hw, h6, hx, hs, ofBits_zero, EReal.coe_zero, ← EReal.coe_mul, ← EReal.coe_add]

/-- The coarse features of a batch, scaled, shifted and cut off below zero. -/
theorem pay21_apply {w : Vec Ideal S1024x256 .f32} {x s : Vec Ideal S1x256 .f32} {i : Fin 1024} {c : Fin 256} {d f : ℝ} {g : EReal}
    (hw : w (ix2 i c) = (d : EReal)) (hx : x (ix2 0 c) = (f : EReal)) (hs : s (ix2 0 c) = g) :
    k0_pay21 w x s (ix2 i c) = max (((d * f : ℝ) : EReal) + g) 0 := by
  pointwise [k0_pay21]
  simp only [hw, hx, hs, ofBits_zero, EReal.coe_zero, ← EReal.coe_mul]

/-- What the coarse features are multiplied by. -/
theorem pay17_eq (x1 : Vec Ideal S1x1024x512 .f32) (x3 : Vec Ideal S512x256 .f32) (x4 : Vec Ideal S1x256 .f32) (i : Fin 1024) (c : Fin 256) :
    k0_pay17 x1 x3 x4 (ix2 i c) = k0_pay16 x1 x3 x4 (ix2 i c) := by
  pointwise [k0_pay17]

end Cert.KernelIdeal.Val
-- ==== Proof.IStep.lean ====
/- One grid point of either phase, read at an index when what it reads is real. -/
module

public import proofs.«01_k».proof.Proof.IPayB
public import proofs.«01_k».proof.Proof.IPayC
public import proofs.«01_k».proof.Proof.IPayD

@[expose] public section

noncomputable section

namespace Cert.KernelIdeal.Val

open Cert.KernelIdeal Cert.KernelIdeal.Gen Cert.KernelIdeal.Run Idealize.ShloMosaic Cert.Math

/-- The block of the result at a point of the second phase. -/
theorem outStep_apply {x5 : Vec Ideal S256x256 .f32} {x6 : Vec Ideal S1x256 .f32} {x9 : Vec Ideal S1x2048x3 .f32} {x10 : Vec Ideal S1x3x1024 .f32}
    {x11 : Vec Ideal S1x2048x256 .f32} {x15 : Vec Ideal S4x256 .f32} {x16 : Vec Ideal S1024x256 .f32}
    {S : Fin 2048 → Fin 3 → ℝ} {P : Fin 1024 → Fin 3 → ℝ} {X : Fin 2048 → Fin 256 → ℝ} {W : Fin 256 → Fin 256 → ℝ} {B : Fin 256 → ℝ}
    {v : Fin 1024 → EReal} {f : ℝ} {g : EReal} {c : Fin 256}
    (h5 : ∀ k c, x5 (ix2 k c) = (W k c : EReal)) (h6 : ∀ c, x6 (ix2 0 c) = (B c : EReal))
    (h9 : ∀ i k, x9 (ix3 0 i k) = (S i k : EReal)) (h10 : ∀ k j, x10 (ix3 0 k j) = (P j k : EReal))
    (h11 : ∀ i k, x11 (ix3 0 i k) = (X i k : EReal)) (hsep : ∀ i j, sep ≤ sqd (S i) (P j))
    (hf : row4 2 x15 (ix2 0 c) = (f : EReal)) (hg : row4 3 x15 (ix2 0 c) = g) (hv : ∀ j, x16 (ix2 j c) = v j) (i : Fin 2048) :
    outStep x5 x6 x9 x10 x11 x15 x16 (ix3 0 i c) = interp (fun j => sqd (S i) (P j)) v + max (((lin (X i) W B c * f : ℝ) : EReal) + g) 0 := by
  have hr : row25 (k0_pay22 x9) (k0_pay23 x10) (k0_pay24 x9) i = fun j => ((sqd (S i) (P j) : ℝ) : EReal) :=
    funext fun j => pay25_apply h9 h10 hsep i j
  have hs := near_sel (by decide) fun j => sqd (S i) (P j)
  have h0 : ∀ j, 0 ≤ sqd (S i) (P j) := fun j => sep_pos.le.trans (hsep i j)
  obtain ⟨m1, a1, m2, a2, m3, a3⟩ := rounds (fun j => sqd (S i) (P j)) hs
  rw [← hr] at m1 a1 m2 a2 m3 a3
  have hp := pay35_apply (o := k0_pay26) (c := c) v (h0 _) (h0 _) (h0 _) hs.n12 hs.n13 hs.n23 (fun i j => pay26_apply i j)
    ((pay27_apply _ _ _ i).trans m1) ((pay30_apply _ _ _ i).trans m2) ((pay33_apply _ _ _ i).trans m3)
    ((pay28_apply _ _ _ i).trans a1) ((pay31_apply _ _ _ i).trans a2)
    ((congrArg mn (funext fun j => pay34_apply _ _ _ i j)).trans a3) hv
  exact pay7_apply (hp.trans (interp_eq hs v)) (pay36_apply h11 h5 i c) (h6 c) hf hg

/-- A row of zeros. -/
theorem row4_zero (k : Fin 4) (c : Fin 256) : row4 (F := Ideal) k (k0_pay1 (F := Ideal)) (ix2 0 c) = ((0 : ℝ) : EReal) := by
  show Ideal.ofBits .f32 0x00000000#32 = _
  exact ofBits_zero

section Acc

variable {x1 : Vec Ideal S1x1024x512 .f32} {x2 : Vec Ideal S1x4096x256 .f32} {x3 : Vec Ideal S512x256 .f32} {x4 : Vec Ideal S1x256 .f32}
    {x5 : Vec Ideal S256x256 .f32} {x6 : Vec Ideal S1x256 .f32} {x14 : Vec Ideal S4x256 .f32}
    {c : Fin 256} {t : Fin 1024 → ℝ} {u : Fin 4096 → ℝ} {s : ℝ}

/-- The first row of sums after a point. -/
theorem acc0 (h : ∀ i, k0_pay16 x1 x3 x4 (ix2 i c) = (t i : EReal)) (ha : row4 0 x14 (ix2 0 c) = (s : EReal)) :
    row4 0 (accStep x1 x2 x3 x4 x5 x6 x14) (ix2 0 c) = ((s + ∑ i, t i : ℝ) : EReal) := by
  unfold accStep
  rw [row4_put4_ne 3 0 (by decide), row4_put4_ne 2 0 (by decide), row4_put4_ne 1 0 (by decide), row4_put4_same]
  exact pay18_apply h ha

/-- The second row of sums after a point. -/
theorem acc1 (h : ∀ i, k0_pay16 x1 x3 x4 (ix2 i c) = (t i : EReal)) (ha : row4 1 x14 (ix2 0 c) = (s : EReal)) :
    row4 1 (accStep x1 x2 x3 x4 x5 x6 x14) (ix2 0 c) = ((s + ∑ i, t i * t i : ℝ) : EReal) := by
  unfold accStep
  rw [row4_put4_ne 3 1 (by decide), row4_put4_ne 2 1 (by decide), row4_put4_same]
  exact pay19_apply h ha

/-- The third row of sums after a point. -/
theorem acc2 (h : ∀ i, k0_pay2 (k0_pay20 x2) x5 (constant S4096x256 .f32 0x00000000#32) x6 (ix2 i c) = (u i : EReal))
    (ha : row4 2 x14 (ix2 0 c) = (s : EReal)) :
    row4 2 (accStep x1 x2 x3 x4 x5 x6 x14) (ix2 0 c) = ((s + ∑ i, u i : ℝ) : EReal) := by
  unfold accStep
  rw [row4_put4_ne 3 2 (by decide), row4_put4_same]
  exact pay3_apply h ha

/-- The fourth row of sums after a point. -/
theorem acc3 (h : ∀ i, k0_pay2 (k0_pay20 x2) x5 (constant S4096x256 .f32 0x00000000#32) x6 (ix2 i c) = (u i : EReal))
    (ha : row4 3 x14 (ix2 0 c) = (s : EReal)) :
    row4 3 (accStep x1 x2 x3 x4 x5 x6 x14) (ix2 0 c) = ((s + ∑ i, u i * u i : ℝ) : EReal) := by
  unfold accStep
  rw [row4_put4_same]
  exact pay4_apply h ha

end Acc

section Bn

variable {x7 x8 : Vec Ideal S1x256 .f32} {a x15 : Vec Ideal S4x256 .f32} {c : Fin 256} {g s q v : ℝ} {e : EReal}

/-- The first layer's scale. -/
theorem bn0 (h7 : x7 (ix2 0 c) = (g : EReal)) (ha : row4 0 a (ix2 0 c) = (s : EReal)) (hb : row4 1 a (ix2 0 c) = (q : EReal))
    (hv : q / 16384 - s / 16384 * (s / 16384) = v) (h0 : 0 ≤ v) :
    row4 0 (bnStep x7 x8 a x15) (ix2 0 c) = ((g * (Real.sqrt (v + eps))⁻¹ : ℝ) : EReal) := by
  unfold bnStep
  rw [row4_put4_ne 3 0 (by decide), row4_put4_ne 2 0 (by decide), row4_put4_ne 1 0 (by decide), row4_put4_same]
  exact pay12_apply h7 ha hb hv h0

/-- The first layer's shift. -/
theorem bn1 (h7 : x7 (ix2 0 c) = (g : EReal)) (h8 : x8 (ix2 0 c) = e) (ha : row4 0 a (ix2 0 c) = (s : EReal))
    (hb : row4 1 a (ix2 0 c) = (q : EReal)) (hv : q / 16384 - s / 16384 * (s / 16384) = v) (h0 : 0 ≤ v) :
    row4 1 (bnStep x7 x8 a x15) (ix2 0 c) = e - ((s / 16384 * (g * (Real.sqrt (v + eps))⁻¹) : ℝ) : EReal) := by
  unfold bnStep
  rw [row4_put4_ne 3 1 (by decide), row4_put4_ne 2 1 (by decide), row4_put4_same]
  exact pay13_apply h7 h8 ha hb hv h0

/-- The second layer's scale. -/
theorem bn2 (h7 : x7 (ix2 0 c) = (g : EReal)) (ha : row4 2 a (ix2 0 c) = (s : EReal)) (hb : row4 3 a (ix2 0 c) = (q : EReal))
    (hv : q / 65536 - s / 65536 * (s / 65536) = v) (h0 : 0 ≤ v) :
    row4 2 (bnStep x7 x8 a x15) (ix2 0 c) = ((g * (Real.sqrt (v + eps))⁻¹ : ℝ) : EReal) := by
  unfold bnStep
  rw [row4_put4_ne 3 2 (by decide), row4_put4_same]
  exact (pay5_apply _ c).trans (pay15_apply h7 ha hb hv h0)

/-- The second layer's shift. -/
theorem bn3 (h7 : x7 (ix2 0 c) = (g : EReal)) (h8 : x8 (ix2 0 c) = e) (ha : row4 2 a (ix2 0 c) = (s : EReal))
    (hb : row4 3 a (ix2 0 c) = (q : EReal)) (hv : q / 65536 - s / 65536 * (s / 65536) = v) (h0 : 0 ≤ v) :
    row4 3 (bnStep x7 x8 a x15) (ix2 0 c) = e - ((s / 65536 * (g * (Real.sqrt (v + eps))⁻¹) : ℝ) : EReal) := by
  unfold bnStep
  rw [row4_put4_same]
  exact pay6_apply h8 ha (pay15_apply h7 ha hb hv h0)

end Bn

end Cert.KernelIdeal.Val
-- ==== Proof.IBlk.lean ====
/- The windows' blocks read at an index: which element of which argument. -/
module

public import proofs.«01_k».proof.Proof.IInv
public import Idealize.ShloMosaic.Lib.Pointwise
public import Idealize.ShloMosaic.Lib.Claim
public import Idealize.ShloMosaic.Lib.Pipeline.ValueKit

@[expose] public section

noncomputable section

namespace Cert.KernelIdeal.Val

open Cert.KernelIdeal Cert.KernelIdeal.Gen Cert.KernelIdeal.Run Idealize.ShloMosaic

/-- Which blocks the windows hold at a grid point. -/
theorem idx : ∀ t : Fin cfg0.N, win0_0.index t = ![min t.val 15, 0, 0] ∧ win0_1.index t = ![min t.val 15, 0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![(t.val - 16) / 2, (t.val - 16) % 2, 0]
    ∧ win0_9.index t = ![(t.val - 16) / 2, 0, 0] ∧ win0_10.index t = ![(t.val - 16) / 2, (t.val - 16) % 2, 0]
    ∧ win0_11.index t = ![(t.val - 16) / 2, (t.val - 16) % 2, 0] := by
  decide +kernel

variable (m : (ℓ : Loc nD τ sig) → Buf (Elt Ideal) ℓ) (d : Dev nD)

/-- The first phase's block of coarse features. -/
theorem blk0 (n : ℕ) (hn : n < 16) (i : Fin 1024) (k : Fin 512) :
    (iblk m d 0 (pt n) : Vec Ideal S1x1024x512 .f32) (ix3 0 i k) = m ((d.tc : Thread nD τ).loc main_arg1) (ix3 ⟨n, hn⟩ i k) := by
  have e := (pt n).isLt
  have hp : (pt n).val = n := Nat.mod_eq_of_lt (by omega)
  blk_ext [iblk, V_main_arg1, idx (pt n), hp]

/-- The first layer's weights. -/
theorem blk2 (t : Fin cfg0.N) (k : Fin 512) (c : Fin 256) :
    (iblk m d 2 t : Vec Ideal S512x256 .f32) (ix2 k c) = m ((d.tc : Thread nD τ).loc main_arg4) (ix2 k c) := by
  blk_ext [iblk, V_main_arg4, idx t]

/-- The first layer's bias. -/
theorem blk3 (t : Fin cfg0.N) (c : Fin 256) :
    (iblk m d 3 t : Vec Ideal S1x256 .f32) (ix2 0 c) = m ((d.tc : Thread nD τ).loc main_arg5) (ix1 c) := by
  have e : ((View.whole main_call0_v0).slice (win0_3.rect t)).emb (ix2 0 c) = ix2 0 c := by blk_ext [idx t]
  blk_simp [iblk, idx t]
  entry_read
  rw [e]
  show shapeCast S1x256 (m ((d.tc : Thread nD τ).loc main_arg5)) _ (ix2 0 c) = _
  pointwise

/-- The second layer's bias. -/
theorem blk5 (t : Fin cfg0.N) (c : Fin 256) :
    (iblk m d 5 t : Vec Ideal S1x256 .f32) (ix2 0 c) = m ((d.tc : Thread nD τ).loc main_arg7) (ix1 c) := by
  have e : ((View.whole main_call0_v1).slice (win0_5.rect t)).emb (ix2 0 c) = ix2 0 c := by blk_ext [idx t]
  blk_simp [iblk, idx t]
  entry_read
  rw [e]
  show shapeCast S1x256 (m ((d.tc : Thread nD τ).loc main_arg7)) _ (ix2 0 c) = _
  pointwise

/-- The scale. -/
theorem blk6 (t : Fin cfg0.N) (c : Fin 256) :
    (iblk m d 6 t : Vec Ideal S1x256 .f32) (ix2 0 c) = m ((d.tc : Thread nD τ).loc main_arg8) (ix1 c) := by
  have e : ((View.whole main_call0_v2).slice (win0_6.rect t)).emb (ix2 0 c) = ix2 0 c := by blk_ext [idx t]
  blk_simp [iblk, idx t]
  entry_read
  rw [e]
  show shapeCast S1x256 (m ((d.tc : Thread nD τ).loc main_arg8)) _ (ix2 0 c) = _
  pointwise

/-- The shift. -/
theorem blk7 (t : Fin cfg0.N) (c : Fin 256) :
    (iblk m d 7 t : Vec Ideal S1x256 .f32) (ix2 0 c) = m ((d.tc : Thread nD τ).loc main_arg9) (ix1 c) := by
  have e : ((View.whole main_call0_v3).slice (win0_7.rect t)).emb (ix2 0 c) = ix2 0 c := by blk_ext [idx t]
  blk_simp [iblk, idx t]
  entry_read
  rw [e]
  show shapeCast S1x256 (m ((d.tc : Thread nD τ).loc main_arg9)) _ (ix2 0 c) = _
  pointwise

/-- The second layer's weights. -/
theorem blk4 (t : Fin cfg0.N) (k : Fin 256) (c : Fin 256) :
    (iblk m d 4 t : Vec Ideal S256x256 .f32) (ix2 k c) = m ((d.tc : Thread nD τ).loc main_arg6) (ix2 k c) := by
  blk_ext [iblk, V_main_arg6, idx t]

/-- The first phase's block of fine features. -/
theorem blk1 (n : ℕ) (hn : n < 16) (i : Fin 4096) (k : Fin 256) :
    (iblk m d 1 (pt n) : Vec Ideal S1x4096x256 .f32) (ix3 0 i k) = m ((d.tc : Thread nD τ).loc main_arg3) (ix3 ⟨n, hn⟩ i k) := by
  have e := (pt n).isLt
  have hp : (pt n).val = n := Nat.mod_eq_of_lt (by omega)
  blk_ext [iblk, V_main_arg3, idx (pt n), hp]

/-- The place in a batch of a row of a tile. -/
def rowOf (k : Fin 2) (i : Fin 2048) : Fin 4096 := ⟨2048 * k.val + i.val, by omega⟩

/-- The second phase's block of fine points. -/
theorem blk8 (t : Fin cfg0.N) (b : Fin 16) (k : Fin 2) (hb : (t.val - 16) / 2 = b.val) (hk : (t.val - 16) % 2 = k.val) (i : Fin 2048) (j : Fin 3) :
    (iblk m d 8 t : Vec Ideal S1x2048x3 .f32) (ix3 0 i j) = m ((d.tc : Thread nD τ).loc main_arg2) (ix3 b (rowOf k i) j) := by
  blk_ext [iblk, V_main_arg2, idx t, hb, hk, rowOf]

/-- The second phase's block of fine features. -/
theorem blk10 (t : Fin cfg0.N) (b : Fin 16) (k : Fin 2) (hb : (t.val - 16) / 2 = b.val) (hk : (t.val - 16) % 2 = k.val) (i : Fin 2048) (j : Fin 256) :
    (iblk m d 10 t : Vec Ideal S1x2048x256 .f32) (ix3 0 i j) = m ((d.tc : Thread nD τ).loc main_arg3) (ix3 b (rowOf k i) j) := by
  blk_ext [iblk, V_main_arg3, idx t, hb, hk, rowOf]

/-- The coarse points of a block, transposed. -/
theorem blk9 (t : Fin cfg0.N) (b : Fin 16) (hb : (t.val - 16) / 2 = b.val) (k : Fin 3) (j : Fin 1024) :
    (iblk m d 9 t : Vec Ideal S1x3x1024 .f32) (ix3 0 k j) = m ((d.tc : Thread nD τ).loc main_arg0) (ix3 b j k) := by
  have e : ((View.whole main_call0_v4).slice (win0_9.rect t)).emb (ix3 0 k j) = ix3 b k j := by blk_ext [idx t, hb]
  blk_simp [iblk, idx t]
  entry_read
  rw [e]
  show transpose S16x3x1024 [0, 2, 1] (m ((d.tc : Thread nD τ).loc main_arg0)) _ (ix3 b k j) = _
  pointwise

end Cert.KernelIdeal.Val
-- ==== Proof.IVal.lean ====
/- What the kernel's scratch buffers and its second result hold, when the arguments are real. -/
module

public import proofs.«01_k».proof.Proof.IStep
public import proofs.«01_k».proof.Proof.IBlk

@[expose] public section

noncomputable section

namespace Cert.KernelIdeal.Val

open Cert.KernelIdeal Cert.KernelIdeal.Gen Cert.KernelIdeal.Run Idealize.ShloMosaic Cert.Math

/-- The arguments on one device are the given ones, and no two points are at the same place. -/
structure Holds (D : Data) (m : (ℓ : Loc nD τ sig) → Buf (Elt Ideal) ℓ) (d : Dev nD) : Prop where
  /-- the coarse points -/
  h0 : ∀ b i k, m ((d.tc : Thread nD τ).loc main_arg0) (ix3 b i k) = (D.px b i k : EReal)
  /-- the coarse features -/
  h1 : ∀ b i k, m ((d.tc : Thread nD τ).loc main_arg1) (ix3 b i k) = (D.pf b i k : EReal)
  /-- the fine points -/
  h2 : ∀ b i k, m ((d.tc : Thread nD τ).loc main_arg2) (ix3 b i k) = (D.sx b i k : EReal)
  /-- the fine features -/
  h3 : ∀ b i k, m ((d.tc : Thread nD τ).loc main_arg3) (ix3 b i k) = (D.sf b i k : EReal)
  /-- the first layer's weights -/
  h4 : ∀ k c, m ((d.tc : Thread nD τ).loc main_arg4) (ix2 k c) = (D.wa k c : EReal)
  /-- the first layer's bias -/
  h5 : ∀ c, m ((d.tc : Thread nD τ).loc main_arg5) (ix1 c) = (D.ba c : EReal)
  /-- the second layer's weights -/
  h6 : ∀ k c, m ((d.tc : Thread nD τ).loc main_arg6) (ix2 k c) = (D.wb k c : EReal)
  /-- the second layer's bias -/
  h7 : ∀ c, m ((d.tc : Thread nD τ).loc main_arg7) (ix1 c) = (D.bb c : EReal)
  /-- the scale -/
  h8 : ∀ c, m ((d.tc : Thread nD τ).loc main_arg8) (ix1 c) = (D.ga c : EReal)
  /-- the shift -/
  h9 : ∀ c, m ((d.tc : Thread nD τ).loc main_arg9) (ix1 c) = D.be c
  /-- the distances -/
  hsep : ∀ b i j, sep ≤ D.sq b i j

/-- A sequence over the sixteen batches, continued by zero. -/
def upto (t : Fin 16 → ℝ) (n : ℕ) : ℝ := if h : n < 16 then t ⟨n, h⟩ else 0

/-- Its sum. -/
theorem upto_sum (t : Fin 16 → ℝ) : ∑ n ∈ Finset.range 16, upto t n = ∑ b, t b := by
  rw [Finset.sum_range]
  exact Finset.sum_congr rfl fun b _ => dif_pos b.isLt

/-- One more term of it. -/
theorem upto_succ (t : Fin 16 → ℝ) {n : ℕ} (h : n < 16) :
    (∑ k ∈ Finset.range n, upto t k) + t ⟨n, h⟩ = ∑ k ∈ Finset.range (n + 1), upto t k := by
  have e : upto t n = t ⟨n, h⟩ := by unfold upto; exact dif_pos h
  rw [Finset.sum_range_succ, e]

variable {D : Data} {m : (ℓ : Loc nD τ sig) → Buf (Elt Ideal) ℓ} {d : Dev nD} (H : Holds D m d)
include H

/-- The first layer at a point of the first phase. -/
theorem low_blk {n : ℕ} (hn : n < 16) (i : Fin 1024) (c : Fin 256) :
    k0_pay16 (iblk m d 0 (pt n)) (iblk m d 2 (pt n)) (iblk m d 3 (pt n)) (ix2 i c) = (D.low ⟨n, hn⟩ i c : EReal) :=
  pay16_apply (fun i k => (blk0 m d n hn i k).trans (H.h1 _ i k)) (fun k c => (blk2 m d _ k c).trans (H.h4 k c))
    (fun c => (blk3 m d _ c).trans (H.h5 c)) i c

/-- The second layer at a point of the first phase. -/
theorem high_blk {n : ℕ} (hn : n < 16) (i : Fin 4096) (c : Fin 256) :
    k0_pay2 (k0_pay20 (iblk m d 1 (pt n))) (iblk m d 4 (pt n)) (constant S4096x256 .f32 0x00000000#32) (iblk m d 5 (pt n)) (ix2 i c)
      = (D.high ⟨n, hn⟩ i c : EReal) :=
  pay2_apply (fun i k => (blk1 m d n hn i k).trans (H.h3 _ i k)) (fun k c => (blk4 m d _ k c).trans (H.h6 k c))
    (fun c => (blk5 m d _ c).trans (H.h7 c)) i c

/-- The four rows of sums after some points of the first phase. -/
theorem acc_apply (c : Fin 256) : ∀ {n : ℕ}, n ≤ 16 →
    row4 0 (accAt m d n) (ix2 0 c) = ((∑ k ∈ Finset.range n, upto (fun b => ∑ i, D.low b i c) k : ℝ) : EReal)
    ∧ row4 1 (accAt m d n) (ix2 0 c) = ((∑ k ∈ Finset.range n, upto (fun b => ∑ i, D.low b i c * D.low b i c) k : ℝ) : EReal)
    ∧ row4 2 (accAt m d n) (ix2 0 c) = ((∑ k ∈ Finset.range n, upto (fun b => ∑ i, D.high b i c) k : ℝ) : EReal)
    ∧ row4 3 (accAt m d n) (ix2 0 c) = ((∑ k ∈ Finset.range n, upto (fun b => ∑ i, D.high b i c * D.high b i c) k : ℝ) : EReal)
  | 0, _ => by
    rw [Finset.sum_range_zero, Finset.sum_range_zero, Finset.sum_range_zero, Finset.sum_range_zero]
    exact ⟨row4_zero 0 c, row4_zero 1 c, row4_zero 2 c, row4_zero 3 c⟩
  | n + 1, h => by
    have hn : n < 16 := h
    obtain ⟨e0, e1, e2, e3⟩ := acc_apply c hn.le
    have hl := fun i => low_blk H hn i c
    have hh := fun i => high_blk H hn i c
    rw [← upto_succ _ hn, ← upto_succ _ hn, ← upto_succ _ hn, ← upto_succ _ hn]
    exact ⟨acc0 hl e0, acc1 hl e1, acc2 hh e2, acc3 hh e3⟩

/-- The first layer's mean. -/
def muA (D : Data) (c : Fin 256) : ℝ := mean 16384 fun b i => D.low b i c
/-- The first layer's variance. -/
def vrA (D : Data) (c : Fin 256) : ℝ := var 16384 fun b i => D.low b i c
/-- The second layer's mean. -/
def muB (D : Data) (c : Fin 256) : ℝ := mean 65536 fun b i => D.high b i c
/-- The second layer's variance. -/
def vrB (D : Data) (c : Fin 256) : ℝ := var 65536 fun b i => D.high b i c

/-- The four rows of scales and shifts. -/
theorem bn_apply (c : Fin 256) :
    row4 0 (bnAt m d) (ix2 0 c) = ((D.ga c * (Real.sqrt (vrA D c + eps))⁻¹ : ℝ) : EReal)
    ∧ row4 1 (bnAt m d) (ix2 0 c) = D.be c - ((muA D c * (D.ga c * (Real.sqrt (vrA D c + eps))⁻¹) : ℝ) : EReal)
    ∧ row4 2 (bnAt m d) (ix2 0 c) = ((D.ga c * (Real.sqrt (vrB D c + eps))⁻¹ : ℝ) : EReal)
    ∧ row4 3 (bnAt m d) (ix2 0 c) = D.be c - ((muB D c * (D.ga c * (Real.sqrt (vrB D c + eps))⁻¹) : ℝ) : EReal) := by
  obtain ⟨e0, e1, e2, e3⟩ := acc_apply H c le_rfl
  rw [upto_sum] at e0 e1 e2 e3
  have h7 := (blk6 m d (pt 15) c).trans (H.h8 c)
  have h8 := (blk7 m d (pt 15) c).trans (H.h9 c)
  have va : _ = vrA D c := var_eq (by norm_num) (by norm_num) fun b i => D.low b i c
  have vb : _ = vrB D c := var_eq (by norm_num) (by norm_num) fun b i => D.high b i c
  have na : 0 ≤ vrA D c := var_nonneg (by norm_num) _
  have nb : 0 ≤ vrB D c := var_nonneg (by norm_num) _
  exact ⟨bn0 h7 e0 e1 va na, bn1 h7 h8 e0 e1 va na, bn2 h7 e2 e3 vb nb, bn3 h7 h8 e2 e3 vb nb⟩

/-- The normalised features of a batch. -/
theorem feat_apply (b : Fin 16) (j : Fin 1024) (c : Fin 256) : featAt m d b.val (ix2 j c) = D.feat b j c := by
  obtain ⟨e0, e1, -, -⟩ := bn_apply H c
  refine (pay21_apply ((pay17_eq _ _ _ j c).trans (low_blk H b.isLt j c)) e0 e1).trans ?_
  rw [bn_eq]; rfl

/-- The block of the second result at a point of the second phase. -/
theorem out_apply (t : Fin cfg0.N) (b : Fin 16) (k : Fin 2) (hb : (t.val - 16) / 2 = b.val) (hk : (t.val - 16) % 2 = k.val)
    (i : Fin 2048) (c : Fin 256) : outAt m d t (ix3 0 i c) = D.out b (rowOf k i) c := by
  obtain ⟨-, -, e2, e3⟩ := bn_apply H c
  have hv : ∀ j, featAt m d ((t.val - 16) / 2) (ix2 j c) = D.feat b j c := fun j => by
    rw [hb]; exact feat_apply H b j c
  refine (outStep_apply (S := fun i => D.sx b (rowOf k i)) (P := D.px b) (X := fun i => D.sf b (rowOf k i)) (W := D.wb) (B := D.bb)
    (fun k c => (blk4 m d t k c).trans (H.h6 k c)) (fun c => (blk5 m d t c).trans (H.h7 c))
    (fun i j => (blk8 m d t b k hb hk i j).trans (H.h2 _ _ j)) (fun k j => (blk9 m d t b hb k j).trans (H.h0 _ j k))
    (fun i j => (blk10 m d t b k hb hk i j).trans (H.h3 _ _ j)) (fun i j => H.hsep b _ j) e2 e3 hv i).trans ?_
  rw [bn_eq]; rfl

end Cert.KernelIdeal.Val
-- ==== Proof.ICov.lean ====
/- The blocks that the second phase writes back cover the kernel's second result. -/
module

public import proofs.«01_k».proof.Proof.IInv
public import Idealize.ShloMosaic.Lib.Pipeline.ValueKit

@[expose] public section

noncomputable section

namespace Cert.KernelIdeal.Val

open Cert.KernelIdeal Cert.KernelIdeal.Gen Idealize.ShloMosaic

/-- The blocks written back cover the result. -/
theorem covers : (cfg0.win 11).Covers := by decide +kernel

end Cert.KernelIdeal.Val
-- ==== Proof.IArr.lean ====
/- The kernel's second result after the run, when the arguments are real. -/
module

public import proofs.«01_k».proof.Proof.IVal
public import proofs.«01_k».proof.Proof.IFrame
public import proofs.«01_k».proof.Proof.ICov

@[expose] public section

noncomputable section

namespace Cert.KernelIdeal.Val

open Cert.KernelIdeal Cert.KernelIdeal.Gen Cert.KernelIdeal.Run Idealize.ShloMosaic Cert.Math

/-- The second result as an array. -/
def outArr (D : Data) : Vec Ideal S16x4096x256 .f32 := fun y => D.out (y 0) (y 1) (y 2)

variable {D : Data} {m : (ℓ : Loc nD τ sig) → Buf (Elt Ideal) ℓ} {d : Dev nD}

/-- Where the block of a point of the second phase lies in the result. -/
theorem emb_eq (t : Fin cfg0.N) (b : Fin 16) (k : Fin 2) (hb : (t.val - 16) / 2 = b.val) (hk : (t.val - 16) % 2 = k.val) (i : Fin 2048) (c : Fin 256) :
    (win0_11.blk t).view.emb (ix3 0 i c) = ix3 b (rowOf k i) c := by
  blk_ext [idx t, hb, hk, rowOf]

/-- The block of a point of the second phase. -/
theorem block_eq (H : Holds D m d) (t : Fin cfg0.N) (ht : 16 ≤ t.val) (y : S1x2048x256.Idx) :
    outAt m d t y = outArr D ((win0_11.blk t).view.emb y) := by
  have hl := Nat.lt_of_lt_of_eq t.isLt N_0
  have hy : ∃ (i : Fin 2048) (c : Fin 256), y = ix3 0 i c :=
    ⟨y 1, y 2, (eq_ix3 y).trans (congrArg (fun z => ix3 z (y 1) (y 2)) (Subsingleton.elim (α := Fin 1) _ _))⟩
  obtain ⟨i, c, rfl⟩ := hy
  have hb : (t.val - 16) / 2 < 16 := by omega
  have hk : (t.val - 16) % 2 < 2 := by omega
  exact (out_apply H t ⟨_, hb⟩ ⟨_, hk⟩ rfl rfl i c).trans (congrArg (outArr D) (emb_eq t ⟨_, hb⟩ ⟨_, hk⟩ rfl rfl i c)).symm

/-- The second result after the run. -/
theorem arr_eq (H : Holds D m d) : (dats m 0 d).arrAt 11 cfg0.N = outArr D := by
  refine (dats m 0 d).arrAt_eq_of_covers 11 _ covers fun t hf y => ?_
  blk_simp
  exact block_eq H t (of_decide_eq_true ((flush11 t).symm.trans hf)) y

end Cert.KernelIdeal.Val
-- ==== Proof.IRes.lean ====
/- The kernel's run, when the arguments are real: its first result is the fine points, its second the blended features. -/
module

public import proofs.«01_k».proof.Proof.IArr

@[expose] public section

noncomputable section

namespace Cert.KernelIdeal.Val

open Cert.KernelIdeal Cert.KernelIdeal.Gen Cert.KernelIdeal.Run Idealize.ShloMosaic Idealize.SL.Sem Cert.Math

variable {D : Dev nD → Data} {m : (ℓ : Loc nD τ sig) → Buf (Elt Ideal) ℓ} (ρ : Dev nD → PrngReg)

/-- From real arguments the run ends with both results as described and the arguments unchanged. -/
theorem val_run (H : ∀ d, Holds (D d) m d) : θ_run defs (onTc (τ := τ) (main (F := Ideal))) ⟨m, fun _ => 0, ρ⟩ (fun r => ∀ c : Dev nD,
    r.2.mem ((c.tc : Thread nD τ).loc main_arg2) = m ((c.tc : Thread nD τ).loc main_arg2)
    ∧ r.2.mem ((c.tc : Thread nD τ).loc main_v0_1) = outArr (D c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)) := by
  refine (θ_run defs _ _).mono (fun r h c => ?_) (θ_run_and (frame_run m ρ) (run_main m ρ))
  obtain ⟨⟨ha, -⟩, hp, -⟩ := h
  exact ⟨(ha c).2.2.1, (Pipeline.FramePost.out_eq hp c 11).trans (arr_eq (H c)), ha c⟩

end Cert.KernelIdeal.Val
-- ==== Proof.RBn.lean ====
/- The reference's dense layer, and its normalisation over all rows, read at an index. -/
module

public import proofs.«01_k».proof.Proof.Model
public import proofs.«01_k».proof.Proof.Gen.ReferenceIdeal.Run
public import Idealize.ShloMosaic.Lib.Pointwise
public import Idealize.ShloMosaic.Lib.Pointwise.IndexVar

@[expose] public section

noncomputable section

namespace Cert.ReferenceIdeal.Val

open Cert.ReferenceIdeal Cert.ReferenceIdeal.Gen Idealize.ShloMosaic Cert.Math

/-- The first layer. -/
def low (x : FVec Ideal S16x1024x512 .f32) (W : FVec Ideal S512x256 .f32) (b : FVec Ideal S256 .f32) : FVec Ideal S16x1024x256 .f32 :=
  addf (Host.dotGeneral dot_S16x1024x512_S512x256_S16x1024x256_2_0_01_1_n_n none x W) (broadcastInDim S16x1024x256 ![0, 1, 2] bcast_S1x1x256_S16x1024x256_0_1_2 (broadcastInDim S1x1x256 ![2] bcast_S256_S1x1x256_2 b))

/-- The second layer. -/
def high (x : FVec Ideal S16x4096x256 .f32) (W : FVec Ideal S256x256 .f32) (b : FVec Ideal S256 .f32) : FVec Ideal S16x4096x256 .f32 :=
  addf (Host.dotGeneral dot_S16x4096x256_S256x256_S16x4096x256_2_0_01_1_n_n none x W) (broadcastInDim S16x4096x256 ![0, 1, 2] bcast_S1x1x256_S16x4096x256_0_1_2 (broadcastInDim S1x1x256 ![2] bcast_S256_S1x1x256_2 b))

/-- The first layer at an index. -/
theorem low_apply {x : FVec Ideal S16x1024x512 .f32} {W : FVec Ideal S512x256 .f32} {b : FVec Ideal S256 .f32} (D : Data)
    (hx : ∀ b i k, x (ix3 b i k) = (D.pf b i k : EReal)) (hW : ∀ k c, W (ix2 k c) = (D.wa k c : EReal))
    (hb : ∀ c, b (ix1 c) = (D.ba c : EReal)) (n : Fin 16) (i : Fin 1024) (c : Fin 256) :
    low x W b (ix3 n i c) = (D.low n i c : EReal) := by
  pointwise [low]
  simp only [hx, hW, hb]
  rw [Data.low, lin, EReal.coe_add, ← coe_sum]
  simp only [EReal.coe_mul]

/-- The second layer at an index. -/
theorem high_apply {x : FVec Ideal S16x4096x256 .f32} {W : FVec Ideal S256x256 .f32} {b : FVec Ideal S256 .f32} (D : Data)
    (hx : ∀ b i k, x (ix3 b i k) = (D.sf b i k : EReal)) (hW : ∀ k c, W (ix2 k c) = (D.wb k c : EReal))
    (hb : ∀ c, b (ix1 c) = (D.bb c : EReal)) (n : Fin 16) (i : Fin 4096) (c : Fin 256) :
    high x W b (ix3 n i c) = (D.high n i c : EReal) := by
  pointwise [high]
  simp only [hx, hW, hb]
  rw [Data.high, lin, EReal.coe_add, ← coe_sum]
  simp only [EReal.coe_mul]

/-! ## Normalisation over all rows -/

/-- A shape of sixteen batches of `n` rows of 256. -/
abbrev S3 (n : ℕ) : Shape := ⟨3, ![16, n, 256]⟩

variable {n : ℕ}

/-- A sum over batches and rows, read at a column. -/
theorem sum01 (h : (S3 n).ReducesTo [0, 1] S256) (x : FVec Ideal (S3 n) .f32) (t : Fin 16 → Fin n → ℝ) (c : Fin 256)
    (hx : ∀ b i, x (ix3 b i c) = (t b i : EReal)) :
    Host.reduceAdd x (constant S_ .f32 0x00000000#32) h h_S_ (ix1 c) = ((∑ b, ∑ i, t b i : ℝ) : EReal) := by
  show Ideal.ofBits .f32 0x00000000#32 + ∑ i ∈ Finset.univ.filter (fun i => h.drop i = ix1 c), x i = _
  rw [ofBits_zero, EReal.coe_zero, zero_add, ← Fintype.sum_prod_type' (f := fun b i => t b i), ← coe_sum]
  symm
  refine Finset.sum_bij (fun (p : Fin 16 × Fin n) _ => (ix3 p.1 p.2 c : (S3 n).Idx)) ?_ ?_ ?_ ?_
  · intro p _
    refine Finset.mem_filter.mpr ⟨Finset.mem_univ _, ?_⟩
    funext a
    match a with
    | ⟨0, _⟩ => exact Fin.ext (h.drop_apply_val_of_eq (ix3 p.1 p.2 c) 0 2 (show 0 < 1 by decide) rfl)
  · intro p _ q _ e
    exact Prod.ext (congrFun e 0) (congrFun e 1)
  · intro i hi
    have e := congrFun (Finset.mem_filter.mp hi).2 0
    refine ⟨(i 0, i 1), Finset.mem_univ _, ?_⟩
    have e2 : i 2 = c := Fin.ext ((h.drop_apply_val_of_eq i 0 2 (show 0 < 1 by decide) rfl).symm.trans (congrArg Fin.val e))
    rw [← e2]
    exact (eq_ix3 i).symm
  · intro p _
    exact (hx p.1 p.2).symm

/-- The mean of each column. -/
def mu (N : BitVec 32) (hr : (S3 n).ReducesTo [0, 1] S256) (t : FVec Ideal (S3 n) .f32) : FVec Ideal S256 .f32 :=
  Host.divf (Host.reduceAdd t (constant S_ .f32 0x00000000#32) hr h_S_) (broadcastInDim S256 ![] bcast_S_S256 (constant S_ .f32 N))

/-- The array less the mean of each column. -/
def dev (N : BitVec 32) (hb : S1x1x256.BroadcastsInDim (S3 n) ![0, 1, 2]) (hr : (S3 n).ReducesTo [0, 1] S256) (t : FVec Ideal (S3 n) .f32) :
    FVec Ideal (S3 n) .f32 :=
  subf t (broadcastInDim (S3 n) ![0, 1, 2] hb (Host.divf (broadcastInDim S1x1x256 ![2] bcast_S256_S1x1x256_2 (Host.reduceAdd t (constant S_ .f32 0x00000000#32) hr h_S_)) (broadcastInDim S1x1x256 ![] bcast_S_S1x1x256 (constant S_ .f32 N))))

/-- The variance of each column, from the deviations. -/
def vr (N : BitVec 32) (hr : (S3 n).ReducesTo [0, 1] S256) (d : FVec Ideal (S3 n) .f32) : FVec Ideal S256 .f32 :=
  select (broadcastInDim S256 ![] bcast_S_S256 (cmpf .ogt (subf (constant S_ .f32 N) (sitofp .f32 (constantI S_ 32 0#32)) : FVec Ideal S_ .f32) (constant S_ .f32 0x00000000#32)))
    (Host.divf (Host.reduceAdd (mulf d d) (constant S_ .f32 0x00000000#32) hr h_S_) (broadcastInDim S256 ![] bcast_S_S256 (subf (constant S_ .f32 N) (sitofp .f32 (constantI S_ 32 0#32)))))
    (broadcastInDim S256 ![] bcast_S_S256 (id (constant S_ .f32 0x7FC00000#32)))

/-- A row of 256 repeated on every row. -/
def up (hb : S1x1x256.BroadcastsInDim (S3 n) ![0, 1, 2]) (v : FVec Ideal S256 .f32) : FVec Ideal (S3 n) .f32 :=
  broadcastInDim (S3 n) ![0, 1, 2] hb (broadcastInDim S1x1x256 ![2] bcast_S256_S1x1x256_2 v)

/-- The normalised array, cut below at zero. -/
def bn (N : BitVec 32) (hb : S1x1x256.BroadcastsInDim (S3 n) ![0, 1, 2]) (hr : (S3 n).ReducesTo [0, 1] S256)
    (h0 : S_.BroadcastsInDim (S3 n) ![]) (t : FVec Ideal (S3 n) .f32) (ga be : FVec Ideal S256 .f32) : FVec Ideal (S3 n) .f32 :=
  maximumf (addf (mulf (mulf (subf t (up hb (mu N hr t)))
    (up hb (Host.rsqrt (addf (vr N hr (dev N hb hr t)) (broadcastInDim S256 ![] bcast_S_S256 (constant S_ .f32 0x3727C5AC#32))))))
    (up hb ga)) (up hb be)) (broadcastInDim (S3 n) ![] h0 (constant S_ .f32 0x00000000#32))

/-- The repeated row at an index. -/
theorem up_apply (hb : S1x1x256.BroadcastsInDim (S3 n) ![0, 1, 2]) (v : FVec Ideal S256 .f32) (b : Fin 16) (i : Fin n) (c : Fin 256) :
    up hb v (ix3 b i c) = v (ix1 c) := by
  unfold up
  refine congrArg v ?_
  funext a
  match a with
  | ⟨0, _⟩ => rfl

/-- The normalised array at an index. -/
theorem bn_apply (N : BitVec 32) (Nr : ℝ) (hN : Ideal.ofBits .f32 N = (Nr : EReal)) (h0N : 0 < Nr)
    (hb : S1x1x256.BroadcastsInDim (S3 n) ![0, 1, 2]) (hr : (S3 n).ReducesTo [0, 1] S256)
    (h0 : S_.BroadcastsInDim (S3 n) ![]) (x : FVec Ideal (S3 n) .f32) (ga be : FVec Ideal S256 .f32)
    (t : Fin 16 → Fin n → ℝ) (c : Fin 256) (g : ℝ) (e : EReal) (hx : ∀ b i, x (ix3 b i c) = (t b i : EReal))
    (hg : ga (ix1 c) = (g : EReal)) (he : be (ix1 c) = e) (b : Fin 16) (i : Fin n) :
    bn N hb hr h0 x ga be (ix3 b i c) = bnrelu (mean Nr t) (var Nr t) g e (t b i) := by
  have hmu : mu N hr x (ix1 c) = ((mean Nr t : ℝ) : EReal) := by
    show Ideal.div (Host.reduceAdd x (constant S_ .f32 0x00000000#32) hr h_S_ (ix1 c)) (Ideal.ofBits .f32 N) = _
    rw [sum01 hr x t c hx, hN, div_real _ h0N.ne']; rfl
  have hdev : ∀ b i, dev N hb hr x (ix3 b i c) = ((t b i - mean Nr t : ℝ) : EReal) := fun b i => by
    have e1 : dev N hb hr x (ix3 b i c) = x (ix3 b i c) - mu N hr x (ix1 c) := by
      refine congrArg (fun z => x (ix3 b i c) - Ideal.div (Host.reduceAdd x (constant S_ .f32 0x00000000#32) hr h_S_ z) (Ideal.ofBits .f32 N)) ?_
      funext a
      match a with
      | ⟨0, _⟩ => rfl
    rw [e1, hmu, hx, EReal.coe_sub]
  have hz : ((0#32 : BitVec 32).toInt : ℝ) = 0 := by norm_num
  have hden : Ideal.ofBits .f32 N - (((0#32 : BitVec 32).toInt : ℝ) : EReal) = (Nr : EReal) := by
    rw [hN, hz, ← EReal.coe_sub, sub_zero]
  have hvr : vr N hr (dev N hb hr x) (ix1 c) = ((var Nr t : ℝ) : EReal) := by
    have e1 : vr N hr (dev N hb hr x) (ix1 c)
        = if BitVec.ofBool (decide (Ideal.ofBits .f32 0x00000000#32 < Ideal.ofBits .f32 N - (((0#32 : BitVec 32).toInt : ℝ) : EReal))) = 1#1 then
            Ideal.div (Host.reduceAdd (mulf (dev N hb hr x) (dev N hb hr x)) (constant S_ .f32 0x00000000#32) hr h_S_ (ix1 c))
              (Ideal.ofBits .f32 N - (((0#32 : BitVec 32).toInt : ℝ) : EReal)) else Ideal.ofBits .f32 0x7FC00000#32 := by
      rfl
    rw [e1, hden, if_pos, sum01 hr _ (fun b i => (t b i - mean Nr t) * (t b i - mean Nr t)) c, div_real _ h0N.ne']
    · rfl
    · intro b i
      show dev N hb hr x (ix3 b i c) * dev N hb hr x (ix3 b i c) = _
      rw [hdev, ← EReal.coe_mul]
    · rw [ofBits_zero, decide_eq_true (EReal.coe_lt_coe_iff.mpr h0N)]; rfl
  have e2 : bn N hb hr h0 x ga be (ix3 b i c)
      = max ((x (ix3 b i c) - up hb (mu N hr x) (ix3 b i c)) *
          up hb (Host.rsqrt (addf (vr N hr (dev N hb hr x)) (broadcastInDim S256 ![] bcast_S_S256 (constant S_ .f32 0x3727C5AC#32)))) (ix3 b i c)
          * up hb ga (ix3 b i c) + up hb be (ix3 b i c)) (Ideal.ofBits .f32 0x00000000#32) := rfl
  have e3 : Host.rsqrt (addf (vr N hr (dev N hb hr x)) (broadcastInDim S256 ![] bcast_S_S256 (constant S_ .f32 0x3727C5AC#32))) (ix1 c)
      = Ideal.rsqrt (vr N hr (dev N hb hr x) (ix1 c) + Ideal.ofBits .f32 0x3727C5AC#32) := rfl
  rw [e2, up_apply, up_apply, up_apply, up_apply, e3, hvr, hmu, hx, hg, he, ofBits_eps, ofBits_zero, ← EReal.coe_add,
    rsqrt_real (add_pos_of_nonneg_of_pos (var_nonneg h0N t) eps_pos), ← EReal.coe_sub, ← EReal.coe_mul, ← EReal.coe_mul, EReal.coe_zero]
  rfl

end Cert.ReferenceIdeal.Val
-- ==== Proof.RNear.lean ====
/- The reference's distances and its three nearest, read at an index. -/
module

public import proofs.«01_k».proof.Proof.RBn

@[expose] public section

noncomputable section

namespace Cert.ReferenceIdeal.Val

open Cert.ReferenceIdeal Cert.ReferenceIdeal.Gen Idealize.ShloMosaic Cert.Math

/-- The squared distances before they are cut below. -/
def sqraw (s : FVec Ideal S16x4096x3 .f32) (p : FVec Ideal S16x1024x3 .f32) : FVec Ideal S16x4096x1024 .f32 :=
  subf (addf (broadcastInDim S16x4096x1024 ![0, 1, 2] bcast_S16x4096x1_S16x4096x1024_0_1_2 (broadcastInDim S16x4096x1 ![0, 1] bcast_S16x4096_S16x4096x1_0_1 (Host.reduceAdd (mulf s s) (constant S_ .f32 0x00000000#32) reducesTo_S16x4096x3_S16x4096_d2 h_S_))) (broadcastInDim S16x4096x1024 ![0, 1, 2] bcast_S16x1x1024_S16x4096x1024_0_1_2 (broadcastInDim S16x1x1024 ![0, 2] bcast_S16x1024_S16x1x1024_0_2 (Host.reduceAdd (mulf p p) (constant S_ .f32 0x00000000#32) reducesTo_S16x1024x3_S16x1024_d2 h_S_)))) (mulf (broadcastInDim S16x4096x1024 ![] bcast_S_S16x4096x1024 (constant S_ .f32 0x40000000#32)) (Host.dotGeneral dot_S16x4096x3_S16x1024x3_S16x4096x1024_2_2_1_1_0_0 none s p))

/-- The distances with the sign changed. -/
def key (s : FVec Ideal S16x4096x3 .f32) (p : FVec Ideal S16x1024x3 .f32) : FVec Ideal S16x4096x1024 .f32 :=
  Host.negf (Host.sqrt (maximumf (sqraw s p) (broadcastInDim S16x4096x1024 ![] bcast_S_S16x4096x1024 (constant S_ .f32 0x00000000#32))))

/-- The three greatest of every row, and where they are. -/
def top (x : FVec Ideal S16x4096x1024 .f32) : FVec Ideal S16x4096x3 .f32 × IVec S16x4096x3 32 :=
  Host.topK S16x4096x3 2 (FloatOps.cmpfTotal .gt) x sliceFits_S16x4096x1024_S16x4096x3

/-- The squared distances at an index. -/
theorem sqraw_apply {s : FVec Ideal S16x4096x3 .f32} {p : FVec Ideal S16x1024x3 .f32} (D : Data)
    (hs : ∀ b i k, s (ix3 b i k) = (D.sx b i k : EReal)) (hp : ∀ b i k, p (ix3 b i k) = (D.px b i k : EReal))
    (b : Fin 16) (i : Fin 4096) (j : Fin 1024) : sqraw s p (ix3 b i j) = (D.sq b i j : EReal) := by
  pointwise [sqraw]
  simp only [hs, hp, ofBits_two, ← EReal.coe_mul, coe_sum, ← EReal.coe_add, ← EReal.coe_sub]
  rfl

/-- The changed distances at an index. -/
theorem key_apply {s : FVec Ideal S16x4096x3 .f32} {p : FVec Ideal S16x1024x3 .f32} (D : Data)
    (hs : ∀ b i k, s (ix3 b i k) = (D.sx b i k : EReal)) (hp : ∀ b i k, p (ix3 b i k) = (D.px b i k : EReal))
    (hsep : ∀ b i j, sep ≤ D.sq b i j) (b : Fin 16) (i : Fin 4096) (j : Fin 1024) :
    key s p (ix3 b i j) = ((-Real.sqrt (D.sq b i j) : ℝ) : EReal) := by
  show -Ideal.sqrt (max (sqraw s p (ix3 b i j)) (Ideal.ofBits .f32 0x00000000#32)) = _
  have h0 : 0 ≤ D.sq b i j := sep_pos.le.trans (hsep b i j)
  rw [sqraw_apply D hs hp, ofBits_zero, coe_max, max_eq_left h0, sqrt_real h0, EReal.coe_neg]

/-- Where the entry at a position of a sorted row comes from. -/
def srt (x : FVec Ideal S16x4096x1024 .f32) (j : S16x4096x1024.Idx) : Fin 1024 :=
  sortedFrom (fun k k' : Fin 1024 => Ideal.cmp .ogt (x (Shape.Idx.along (s := S16x4096x1024) j 2 k)) (x (Shape.Idx.along (s := S16x4096x1024) j 2 k')) == 1#1) (j 2)

/-- The sorted array, and the positions sorted with it. -/
def sort (x : FVec Ideal S16x4096x1024 .f32) : FVec Ideal S16x4096x1024 .f32 × IVec S16x4096x1024 32 :=
  Host.sort2 S16x4096x1024 2 (fun l r => FloatOps.cmpfTotal .gt l.1 r.1) x (fun i => iotaInDim S16x4096x1024 32 2 i)

/-- The sorted array at an index. -/
theorem sort_fst (x : FVec Ideal S16x4096x1024 .f32) (j : S16x4096x1024.Idx) :
    (sort x).1 j = x (Shape.Idx.along (s := S16x4096x1024) j 2 (srt x j)) := rfl
/-- The sorted positions at an index. -/
theorem sort_snd (x : FVec Ideal S16x4096x1024 .f32) (j : S16x4096x1024.Idx) :
    (sort x).2 j = iotaInDim S16x4096x1024 32 2 (Shape.Idx.along (s := S16x4096x1024) j 2 (srt x j)) := rfl
/-- The three greatest are the start of the sorted array. -/
theorem top_eq (x : FVec Ideal S16x4096x1024 .f32) : top x = (extractStridedSlice S16x4096x3 (fun _ => 0) (sort x).1 sliceFits_S16x4096x1024_S16x4096x3,
    extractStridedSlice S16x4096x3 (fun _ => 0) (sort x).2 sliceFits_S16x4096x1024_S16x4096x3) := rfl

/-- The three greatest at an index. -/
theorem top_apply {x : FVec Ideal S16x4096x1024 .f32} (g : Fin 1024 → ℝ) (b : Fin 16) (i : Fin 4096)
    (hx : ∀ j, x (ix3 b i j) = ((-g j : ℝ) : EReal)) (k : Fin 3) :
    (top x).1 (ix3 b i k) = ((-g (near (by decide) g k) : ℝ) : EReal)
    ∧ (top x).2 (ix3 b i k) = BitVec.ofNat 32 (near (by decide) g k).val := by
  have hal : ∀ q m : Fin 1024, Shape.Idx.along (s := S16x4096x1024) (ix3 b i q) 2 m = ix3 b i m := fun q m => by
    funext a
    match a with
    | ⟨0, _⟩ => rfl
    | ⟨1, _⟩ => rfl
    | ⟨2, _⟩ => rfl
  have hsrc : ∀ {α : Type} (y : S16x4096x1024.Idx → α), extractStridedSlice S16x4096x3 (fun _ => 0) y sliceFits_S16x4096x1024_S16x4096x3 (ix3 b i k)
      = y (ix3 b i ⟨k.val, by omega⟩) := fun y => by
    refine congrArg y ?_
    funext a
    match a with
    | ⟨0, _⟩ => exact Fin.ext (Nat.zero_add _)
    | ⟨1, _⟩ => exact Fin.ext (Nat.zero_add _)
    | ⟨2, _⟩ => exact Fin.ext (Nat.zero_add _)
  have hR : (fun k k' : Fin 1024 => Ideal.cmp .ogt (x (ix3 b i k)) (x (ix3 b i k')) == 1#1) = fun a c => decide (g a < g c) := by
    funext a c
    rw [hx, hx]
    show (BitVec.ofBool (decide _) == 1#1) = _
    by_cases h : g a < g c
    · rw [decide_eq_true h, decide_eq_true (EReal.coe_lt_coe_iff.mpr (neg_lt_neg h))]; rfl
    · rw [decide_eq_false h, decide_eq_false fun h' => h (neg_lt_neg_iff.mp (EReal.coe_lt_coe_iff.mp h'))]; rfl
  have hs : srt x (ix3 b i ⟨k.val, by omega⟩) = near (by decide) g k := by
    unfold srt
    simp only [hal]
    rw [hR]; rfl
  rw [top_eq]
  dsimp only
  rw [hsrc, hsrc, sort_fst, sort_snd, hs, hal, hx]
  exact ⟨rfl, rfl⟩

/-- The reciprocal distances. -/
def inv (v : FVec Ideal S16x4096x3 .f32) : FVec Ideal S16x4096x3 .f32 :=
  Host.divf (broadcastInDim S16x4096x3 ![] bcast_S_S16x4096x3 (constant S_ .f32 0x3F800000#32)) (addf (Host.negf v) (broadcastInDim S16x4096x3 ![] bcast_S_S16x4096x3 (constant S_ .f32 0x322BCC77#32)))

/-- The weights. -/
def wt (v : FVec Ideal S16x4096x3 .f32) : FVec Ideal S16x4096x3 .f32 :=
  Host.divf (inv v) (broadcastInDim S16x4096x3 ![0, 1, 2] bcast_S16x4096x1_S16x4096x3_0_1_2 (broadcastInDim S16x4096x1 ![0, 1] bcast_S16x4096_S16x4096x1_0_1 (Host.reduceAdd (inv v) (constant S_ .f32 0x00000000#32) reducesTo_S16x4096x3_S16x4096_d2 h_S_)))

/-- The rows to gather. -/
def rows (q : IVec S16x4096x3 32) : IVec S16x4096x3x1 32 :=
  broadcastInDim S16x4096x3x1 ![0, 1, 2] bcast_S16x4096x3_S16x4096x3x1_0_1_2 (select (cmpi .slt q (broadcastInDim S16x4096x3 ![] bcast_S_S16x4096x3 (constantI S_ 32 0#32))) (addi q (broadcastInDim S16x4096x3 ![] bcast_S_S16x4096x3 (constantI S_ 32 1024#32))) q)

/-- The gathered rows. -/
def pick (f : FVec Ideal S16x1024x256 .f32) (q : IVec S16x4096x3 32) : FVec Ideal S16x4096x3x256 .f32 :=
  Host.gather gather_S16x1024x256_S16x4096x3x1_S16x4096x3x256_3_1_0_0_1_3_11256 f (rows q)

/-- The weighted sum of the gathered rows. -/
def mix (f : FVec Ideal S16x1024x256 .f32) (v : FVec Ideal S16x4096x3 .f32) (q : IVec S16x4096x3 32) : FVec Ideal S16x4096x256 .f32 :=
  Host.reduceAdd (mulf (pick f q) (broadcastInDim S16x4096x3x256 ![0, 1, 2, 3] bcast_S16x4096x3x1_S16x4096x3x256_0_1_2_3 (broadcastInDim S16x4096x3x1 ![0, 1, 2] bcast_S16x4096x3_S16x4096x3x1_0_1_2 (wt v)))) (constant S_ .f32 0x00000000#32) reducesTo_S16x4096x3x256_S16x4096x256_d2 h_S_

/-- A reciprocal distance at an index. -/
theorem inv_apply {v : FVec Ideal S16x4096x3 .f32} {b : Fin 16} {i : Fin 4096} {k : Fin 3} (s : ℝ)
    (hv : v (ix3 b i k) = ((-Real.sqrt s : ℝ) : EReal)) : inv v (ix3 b i k) = ((1 / dst s : ℝ) : EReal) := by
  show Ideal.div (Ideal.ofBits .f32 0x3F800000#32) (-(v (ix3 b i k)) + Ideal.ofBits .f32 0x322BCC77#32) = _
  rw [hv, ofBits_one, ofBits_del, ← EReal.coe_neg, neg_neg, ← EReal.coe_add]
  exact div_real _ (dst_pos s).ne'

/-- A weight at an index. -/
theorem wt_apply {v : FVec Ideal S16x4096x3 .f32} {b : Fin 16} {i : Fin 4096} (s : Fin 3 → ℝ)
    (hv : ∀ k, v (ix3 b i k) = ((-Real.sqrt (s k) : ℝ) : EReal)) (k : Fin 3) :
    wt v (ix3 b i k) = ((1 / dst (s k) / wsum (dst (s 0)) (dst (s 1)) (dst (s 2)) : ℝ) : EReal) := by
  have hw : wsum (dst (s 0)) (dst (s 1)) (dst (s 2)) ≠ 0 := by
    have h0 := dst_pos (s 0); have h1 := dst_pos (s 1); have h2 := dst_pos (s 2)
    unfold wsum; positivity
  pointwise [wt]
  simp only [fun k => inv_apply (s k) (hv k), coe_sum, Fin.sum_univ_three]
  exact div_real _ hw

/-- A gathered row at an index. -/
theorem pick_apply (f : FVec Ideal S16x1024x256 .f32) (q : IVec S16x4096x3 32) (b : Fin 16) (i : Fin 4096) (k : Fin 3) (c : Fin 256)
    (r : Fin 1024) (hq : q (ix3 b i k) = BitVec.ofNat 32 r.val) : pick f q (ix4 b i k c) = f (ix3 b r c) := by
  have hi : ∀ r : Fin 1024, (BitVec.ofNat 32 r.val).toInt = (r.val : ℤ) := fun r => by
    have := r.isLt
    rw [BitVec.toInt_eq_toNat_of_lt (by rw [BitVec.toNat_ofNat]; omega), BitVec.toNat_ofNat, Nat.mod_eq_of_lt (by omega)]
  have hr : rows q (ix4 b i k 0) = BitVec.ofNat 32 r.val := by
    have e : rows q (ix4 b i k 0) = (if BitVec.ofBool ((q (ix3 b i k)).slt 0#32) = 1#1 then q (ix3 b i k) + 1024#32 else q (ix3 b i k)) := by
      refine (congrArg (select (cmpi .slt q (broadcastInDim S16x4096x3 ![] bcast_S_S16x4096x3 (constantI S_ 32 0#32))) (addi q (broadcastInDim S16x4096x3 ![] bcast_S_S16x4096x3 (constantI S_ 32 1024#32))) q) (?_ : _ = ix3 b i k)).trans rfl
      funext a
      match a with
      | ⟨0, _⟩ => rfl
      | ⟨1, _⟩ => rfl
      | ⟨2, _⟩ => rfl
    have hs : (BitVec.ofNat 32 r.val).slt 0#32 = false := by
      rw [BitVec.slt, hi r, decide_eq_false]
      exact not_lt.mpr (Int.natCast_nonneg _)
    rw [e, hq, hs, if_neg (by decide)]
  unfold pick Host.gather
  refine congrArg f ?_
  funext a
  refine Fin.ext ?_
  let d := gather_S16x1024x256_S16x4096x3x1_S16x4096x3x256_3_1_0_0_1_3_11256
  show d.start (ix4 b i k c) (rows q) a + d.batchCoord (ix4 b i k c) a + d.offCoord (ix4 b i k c) a = _
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [d.start_batching _ _ _ (List.mem_singleton.mpr rfl), d.offCoord_eq_zero _ _ (by decide)]
    unfold GatherDims.batchCoord
    rw [dif_pos (show (0 : Fin 3) ∈ d.operandBatchingDims from List.mem_singleton.mpr rfl), Nat.zero_add]
    rfl
  · rw [d.batchCoord_eq_zero _ _ (by decide), d.offCoord_eq_zero _ _ (by decide)]
    unfold GatherDims.start
    rw [dif_pos (show (1 : Fin 3) ∈ d.startIndexMap from List.mem_singleton.mpr rfl)]
    have hsi : d.siIdx (ix4 b i k c) ⟨List.idxOf (1 : Fin 3) d.startIndexMap, List.idxOf_lt_length_iff.2 (List.mem_singleton.mpr rfl)⟩ = ix4 b i k 0 := by
      funext z; refine Fin.ext ?_
      match z with
      | ⟨0, _⟩ => rfl
      | ⟨1, _⟩ => rfl
      | ⟨2, _⟩ => rfl
      | ⟨3, _⟩ => rfl
    show min (rows q (d.siIdx (ix4 b i k c) ⟨List.idxOf (1 : Fin 3) d.startIndexMap, List.idxOf_lt_length_iff.2 (List.mem_singleton.mpr rfl)⟩)).toInt.toNat 1023 = r.val
    rw [hsi, hr, hi r, Int.toNat_natCast]
    exact min_eq_left (Nat.le_of_lt_succ r.isLt)
  · rw [d.batchCoord_eq_zero _ _ (by decide)]
    unfold GatherDims.start GatherDims.offCoord
    rw [dif_neg (show (2 : Fin 3) ∉ d.startIndexMap by decide), dif_pos (show (2 : Fin 3) ∈ d.sKept by decide), Nat.zero_add]
    rfl

/-- The weighted sum at an index. -/
theorem mix_apply {f : FVec Ideal S16x1024x256 .f32} {v : FVec Ideal S16x4096x3 .f32} {q : IVec S16x4096x3 32} (s : Fin 1024 → ℝ) (w : Fin 1024 → EReal)
    (b : Fin 16) (i : Fin 4096) (c : Fin 256) (r : Fin 3 → Fin 1024) (hf : ∀ j, f (ix3 b j c) = w j)
    (hv : ∀ k, v (ix3 b i k) = ((-Real.sqrt (s (r k)) : ℝ) : EReal)) (hq : ∀ k, q (ix3 b i k) = BitVec.ofNat 32 (r k).val) :
    mix f v q (ix3 b i c) = blend (dst (s (r 0))) (dst (s (r 1))) (dst (s (r 2))) (w (r 0)) (w (r 1)) (w (r 2)) := by
  have hw := wt_apply (fun k => s (r k)) hv
  pointwise [mix]
  simp only [fun k => pick_apply f q b i k c (r k) (hq k), hf, hw, Fin.sum_univ_three]
  rfl

/-- The second result as a function of the arguments. -/
def res (a0 : FVec Ideal S16x1024x3 .f32) (a1 : FVec Ideal S16x1024x512 .f32) (a2 : FVec Ideal S16x4096x3 .f32) (a3 : FVec Ideal S16x4096x256 .f32)
    (a4 : FVec Ideal S512x256 .f32) (a5 : FVec Ideal S256 .f32) (a6 : FVec Ideal S256x256 .f32) (a7 a8 a9 : FVec Ideal S256 .f32) :
    FVec Ideal S16x4096x256 .f32 :=
  addf (mix (bn (n := 1024) 0x46800000#32 bcast_S1x1x256_S16x1024x256_0_1_2 reducesTo_S16x1024x256_S256_d0_1 bcast_S_S16x1024x256 (low a1 a4 a5) a8 a9)
      (top (key a2 a0)).1 (top (key a2 a0)).2)
    (bn (n := 4096) 0x47800000#32 bcast_S1x1x256_S16x4096x256_0_1_2 reducesTo_S16x4096x256_S256_d0_1 bcast_S_S16x4096x256 (high a3 a6 a7) a8 a9)

/-- The second result at an index. -/
theorem res_apply {a0 : FVec Ideal S16x1024x3 .f32} {a1 : FVec Ideal S16x1024x512 .f32} {a2 : FVec Ideal S16x4096x3 .f32}
    {a3 : FVec Ideal S16x4096x256 .f32} {a4 : FVec Ideal S512x256 .f32} {a5 : FVec Ideal S256 .f32} {a6 : FVec Ideal S256x256 .f32}
    {a7 a8 a9 : FVec Ideal S256 .f32} (D : Data)
    (h0 : ∀ b i k, a0 (ix3 b i k) = (D.px b i k : EReal)) (h1 : ∀ b i k, a1 (ix3 b i k) = (D.pf b i k : EReal))
    (h2 : ∀ b i k, a2 (ix3 b i k) = (D.sx b i k : EReal)) (h3 : ∀ b i k, a3 (ix3 b i k) = (D.sf b i k : EReal))
    (h4 : ∀ k c, a4 (ix2 k c) = (D.wa k c : EReal)) (h5 : ∀ c, a5 (ix1 c) = (D.ba c : EReal))
    (h6 : ∀ k c, a6 (ix2 k c) = (D.wb k c : EReal)) (h7 : ∀ c, a7 (ix1 c) = (D.bb c : EReal))
    (h8 : ∀ c, a8 (ix1 c) = (D.ga c : EReal)) (h9 : ∀ c, a9 (ix1 c) = D.be c)
    (hsep : ∀ b i j, sep ≤ D.sq b i j) (b : Fin 16) (i : Fin 4096) (c : Fin 256) :
    res a0 a1 a2 a3 a4 a5 a6 a7 a8 a9 (ix3 b i c) = D.out b i c := by
  have hk := key_apply D h2 h0 hsep b i
  have hnn : ∀ j, 0 ≤ D.sq b i j := fun j => sep_pos.le.trans (hsep b i j)
  have hf : ∀ j, bn (n := 1024) 0x46800000#32 bcast_S1x1x256_S16x1024x256_0_1_2 reducesTo_S16x1024x256_S256_d0_1 bcast_S_S16x1024x256 (low a1 a4 a5) a8 a9 (ix3 b j c)
      = D.feat b j c := fun j =>
    bn_apply _ 16384 ofBits_16384 (by norm_num) _ _ _ _ _ _ (fun b i => D.low b i c) c _ _ (fun b i => low_apply D h1 h4 h5 b i c) (h8 c) (h9 c) b j
  have hg : bn (n := 4096) 0x47800000#32 bcast_S1x1x256_S16x4096x256_0_1_2 reducesTo_S16x4096x256_S256_d0_1 bcast_S_S16x4096x256 (high a3 a6 a7) a8 a9 (ix3 b i c)
      = D.skip b i c :=
    bn_apply _ 65536 ofBits_65536 (by norm_num) _ _ _ _ _ _ (fun b i => D.high b i c) c _ _ (fun b i => high_apply D h3 h6 h7 b i c) (h8 c) (h9 c) b i
  have hm := mix_apply (q := (top (key a2 a0)).2) (v := (top (key a2 a0)).1) (D.sq b i) (fun j => D.feat b j c) b i c
    (near (by decide) fun j => Real.sqrt (D.sq b i j)) hf
    (fun k => (top_apply (fun j => Real.sqrt (D.sq b i j)) b i hk k).1) (fun k => (top_apply (fun j => Real.sqrt (D.sq b i j)) b i hk k).2)
  have hsel : Sel (D.sq b i) _ _ _ := Sel.of_mono (fun i' j' => Real.sqrt_lt_sqrt_iff (hnn i')) (near_sel (by decide) fun j => Real.sqrt (D.sq b i j))
  have hm' := hm.trans (interp_eq hsel fun j => D.feat b j c)
  show mix _ _ _ (ix3 b i c) + bn _ _ _ _ _ _ _ (ix3 b i c) = _
  rw [hm', hg]
  rfl

/-- The run's term is that function of the arguments. -/
theorem res_eq (m : (ℓ : Loc nD τ sig) → Buf (Elt Ideal) ℓ) (c : Dev nD) :
    Value.res_out1 m c = res (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) := by
  unfold Value.res_out1 Value.res_main_v85
  rfl

end Cert.ReferenceIdeal.Val
-- ==== Proof.Pre.lean ====
/- The precondition read back: every argument is real, and no fine point is at a coarse one. -/
module

public import proofs.«01_k».proof.Pre_separated
public import proofs.«01_k».proof.Proof.RNear
public import Idealize.ShloMosaic.Lib.ReduceAll
public import Idealize.ShloMosaic.Lib.Pointwise

@[expose] public section

noncomputable section

namespace Cert.Pre_separated.Read

open Cert.Pre_separated Idealize.ShloMosaic Cert.Math

/-- The precondition's shape facts. -/
instance facts : Cert.Pre_separated.Facts where
  bcast_S_S16x1024x3 := by decide
  reducesTo_S16x1024x3_S_d0_1_2 := by decide
  h_S_ := by decide
  bcast_S_S16x1024x512 := by decide
  reducesTo_S16x1024x512_S_d0_1_2 := by decide
  bcast_S_S16x4096x3 := by decide
  reducesTo_S16x4096x3_S_d0_1_2 := by decide
  bcast_S_S16x4096x256 := by decide
  reducesTo_S16x4096x256_S_d0_1_2 := by decide
  bcast_S_S512x256 := by decide
  reducesTo_S512x256_S_d0_1 := by decide
  bcast_S_S256 := by decide
  reducesTo_S256_S_d0 := by decide
  bcast_S_S256x256 := by decide
  reducesTo_S256x256_S_d0_1 := by decide
  reducesTo_S16x4096x3_S16x4096_d2 := by decide
  bcast_S16x4096_S16x4096x1_0_1 := by decide
  reducesTo_S16x1024x3_S16x1024_d2 := by decide
  bcast_S16x1024_S16x1x1024_0_2 := by decide
  bcast_S16x4096x1_S16x4096x1024_0_1_2 := by decide
  bcast_S16x1x1024_S16x4096x1024_0_1_2 := by decide
  bcast_S_S16x4096x1024 := by decide
  reducesTo_S16x4096x1024_S_d0_1_2 := by decide
  dot_S16x4096x3_S16x1024x3_S16x4096x1024_2_2_1_1_0_0_wf := by decide

open Cert.Pre_separated.Facts

instance : Subsingleton S_.Idx := ⟨fun _ _ => funext fun k => k.elim0⟩

/-- A comparison that is true. -/
theorem of_true {p : Prop} [Decidable p] (h : BitVec.ofBool (decide p) = 1#1) : p := by
  by_contra hp
  rw [decide_eq_false hp] at h
  exact absurd h (by decide)

/-- An array all of whose magnitudes are below infinity holds reals. -/
theorem real_of {s : Shape} {axes : List (Fin s.rank)} {x : FVec Ideal s .f32} (hb : S_.BroadcastsInDim s (![] : Fin 0 → Fin s.rank))
    (hr : s.ReducesTo axes S_) (j : S_.Idx)
    (e : Host.reduce IntOp.andi (cmpf .olt (Host.absf x) (broadcastInDim s ![] hb (constant S_ .f32 0x7F800000#32))) (constantI S_ 1 1#1) hr h_S_ j = 1#1)
    (i : s.Idx) : ∃ r : ℝ, x i = (r : EReal) := by
  have h : FloatOps.hostAbsf (x i) < Ideal.ofBits .f32 0x7F800000#32 := of_true (Host.reduce_andi_all _ _ hr _ j e i)
  have h' : max (x i) (-(x i)) < (⊤ : EReal) := ofBits_inf ▸ h
  have h1 : x i ≠ ⊤ := fun e => absurd ((le_max_left _ _).trans_lt h') (by rw [e]; exact lt_irrefl _)
  have h2 : x i ≠ ⊥ := fun e => absurd ((le_max_right _ _).trans_lt h') (by rw [e, EReal.neg_bot]; exact lt_irrefl _)
  exact ⟨(x i).toReal, (EReal.coe_toReal h1 h2).symm⟩

/-- Where the precondition holds the arguments but the last are reals, and every squared distance is at least 1e-12. -/
theorem data_of {a0 : FVec Ideal S16x1024x3 .f32} {a1 : FVec Ideal S16x1024x512 .f32} {a2 : FVec Ideal S16x4096x3 .f32} {a3 : FVec Ideal S16x4096x256 .f32} {a4 : FVec Ideal S512x256 .f32} {a5 : FVec Ideal S256 .f32} {a6 : FVec Ideal S256x256 .f32} {a7 : FVec Ideal S256 .f32} {a8 : FVec Ideal S256 .f32} {a9 : FVec Ideal S256 .f32} (h : fn (F := Ideal) a0 a1 a2 a3 a4 a5 a6 a7 a8 a9 = fun _ => 1#1) :
    ∃ D : Data, (∀ b i k, a0 (ix3 b i k) = (D.px b i k : EReal)) ∧ (∀ b i k, a1 (ix3 b i k) = (D.pf b i k : EReal)) ∧ (∀ b i k, a2 (ix3 b i k) = (D.sx b i k : EReal))
      ∧ (∀ b i k, a3 (ix3 b i k) = (D.sf b i k : EReal)) ∧ (∀ k c, a4 (ix2 k c) = (D.wa k c : EReal)) ∧ (∀ c, a5 (ix1 c) = (D.ba c : EReal)) ∧ (∀ k c, a6 (ix2 k c) = (D.wb k c : EReal))
      ∧ (∀ c, a7 (ix1 c) = (D.bb c : EReal)) ∧ (∀ c, a8 (ix1 c) = (D.ga c : EReal)) ∧ (∀ c, a9 (ix1 c) = D.be c)
      ∧ ∀ b i j, sep ≤ D.sq b i j := by
  have e := congrFun h (fun k => k.elim0)
  simp only [fn, fn_part1, fn_part2, fn_part3, andi_apply, IntOp.andi_eq_one] at e
  obtain ⟨⟨⟨⟨⟨⟨⟨⟨⟨⟨-, e0⟩, e1⟩, e2⟩, e3⟩, e4⟩, e5⟩, e6⟩, e7⟩, e8⟩, es⟩ := e
  choose px h0 using real_of _ _ _ e0
  choose pf h1 using real_of _ _ _ e1
  choose sx h2 using real_of _ _ _ e2
  choose sf h3 using real_of _ _ _ e3
  choose wa h4 using real_of _ _ _ e4
  choose ba h5 using real_of _ _ _ e5
  choose wb h6 using real_of _ _ _ e6
  choose bb h7 using real_of _ _ _ e7
  choose ga h8 using real_of _ _ _ e8
  refine ⟨⟨fun b i k => px (ix3 b i k), fun b i k => pf (ix3 b i k), fun b i k => sx (ix3 b i k), fun b i k => sf (ix3 b i k), fun k c => wa (ix2 k c), fun c => ba (ix1 c), fun k c => wb (ix2 k c), fun c => bb (ix1 c), fun c => ga (ix1 c), fun c => a9 (ix1 c)⟩,
    fun b i k => h0 _, fun b i k => h1 _, fun b i k => h2 _, fun b i k => h3 _, fun k c => h4 _, fun c => h5 _, fun k c => h6 _, fun c => h7 _, fun c => h8 _, fun _ => rfl, fun b i j => ?_⟩
  have h : Ideal.ofBits .f32 0x2B8CBCCC#32 ≤ Cert.ReferenceIdeal.Val.sqraw a2 a0 (ix3 b i j) := of_true (Host.reduce_andi_all _ _ _ _ _ es (ix3 b i j))
  rw [ofBits_sep, Cert.ReferenceIdeal.Val.sqraw_apply ⟨fun b i k => px (ix3 b i k), fun b i k => pf (ix3 b i k), fun b i k => sx (ix3 b i k), fun b i k => sf (ix3 b i k), fun k c => wa (ix2 k c), fun c => ba (ix1 c), fun k c => wb (ix2 k c), fun c => bb (ix1 c), fun c => ga (ix1 c), fun c => a9 (ix1 c)⟩ (fun b i k => h2 _) (fun b i k => h0 _)] at h
  exact EReal.coe_le_coe_iff.mp h

end Cert.Pre_separated.Read
-- ==== Proof.Alg.lean ====
/- The kernel and the reference, from the same separated arguments, end with the same two results. -/
module

public import proofs.«01_k».proof.Defs
public import proofs.«01_k».proof.Proof.IRes
public import proofs.«01_k».proof.Proof.RNear
public import proofs.«01_k».proof.Proof.Pre

@[expose] public section

noncomputable section

namespace Cert.Proof

open Idealize.ShloMosaic Idealize.SL.Sem Cert.Math Cert.KernelIdeal.Val

/-- The reference's second result, from arguments that are the real arrays of `D`, is the array that the kernel leaves. -/
theorem ref_arr {m : (ℓ : Loc Cert.KernelIdeal.nD Cert.KernelIdeal.τ Cert.KernelIdeal.sig) → Buf (Elt Ideal) ℓ} {d : Dev Cert.KernelIdeal.nD}
    {D : Data} (H : Holds D m d) :
    Cert.ReferenceIdeal.Val.res (m ((d.tc : Thread Cert.KernelIdeal.nD Cert.KernelIdeal.τ).loc Cert.KernelIdeal.main_arg0))
      (m ((d.tc : Thread Cert.KernelIdeal.nD Cert.KernelIdeal.τ).loc Cert.KernelIdeal.main_arg1))
      (m ((d.tc : Thread Cert.KernelIdeal.nD Cert.KernelIdeal.τ).loc Cert.KernelIdeal.main_arg2))
      (m ((d.tc : Thread Cert.KernelIdeal.nD Cert.KernelIdeal.τ).loc Cert.KernelIdeal.main_arg3))
      (m ((d.tc : Thread Cert.KernelIdeal.nD Cert.KernelIdeal.τ).loc Cert.KernelIdeal.main_arg4))
      (m ((d.tc : Thread Cert.KernelIdeal.nD Cert.KernelIdeal.τ).loc Cert.KernelIdeal.main_arg5))
      (m ((d.tc : Thread Cert.KernelIdeal.nD Cert.KernelIdeal.τ).loc Cert.KernelIdeal.main_arg6))
      (m ((d.tc : Thread Cert.KernelIdeal.nD Cert.KernelIdeal.τ).loc Cert.KernelIdeal.main_arg7))
      (m ((d.tc : Thread Cert.KernelIdeal.nD Cert.KernelIdeal.τ).loc Cert.KernelIdeal.main_arg8))
      (m ((d.tc : Thread Cert.KernelIdeal.nD Cert.KernelIdeal.τ).loc Cert.KernelIdeal.main_arg9))
    = outArr D := by
  funext y
  obtain ⟨b, i, c, rfl⟩ : ∃ (b : Fin 16) (i : Fin 4096) (c : Fin 256), y = ix3 b i c := ⟨y 0, y 1, y 2, eq_ix3 y⟩
  exact Cert.ReferenceIdeal.Val.res_apply D H.h0 H.h1 H.h2 H.h3 H.h4 H.h5 H.h6 H.h7 H.h8 H.h9 H.hsep b i c

/-- From memories that agree on the arguments, finite and separated, both programs end with the fine points and the same blended features. -/
theorem algebraic : Cert.algebraic_KernelIdeal_ReferenceIdeal_pre_separated := by
  intro m g m' g' hpre hag
  choose D hD using fun c => Cert.Pre_separated.Read.data_of (hpre c)
  have H : ∀ d, Holds (D d) m d := fun d => by
    obtain ⟨h0, h1, h2, h3, h4, h5, h6, h7, h8, h9, hs⟩ := hD d
    exact ⟨h0, h1, h2, h3, h4, h5, h6, h7, h8, h9, hs⟩
  refine ⟨fun c => m ((c.tc : Thread Cert.KernelIdeal.nD Cert.KernelIdeal.τ).loc Cert.KernelIdeal.main_arg2), fun c => outArr (D c), val_run g H, ?_⟩
  refine (θ_run Cert.ReferenceIdeal.defs _ _).mono (fun r h c => ?_) (Cert.ReferenceIdeal.Value.run (F := Ideal) m' g')
  obtain ⟨e0, e1, e2, e3, e4, e5, e6, e7, e8, e9⟩ := hag c
  refine ⟨(h c).1.trans e2, (h c).2.1.trans ?_, (h c).2.2⟩
  refine (Cert.ReferenceIdeal.Val.res_eq m' c).trans ?_
  rw [e0, e1, e2, e3, e4, e5, e6, e7, e8, e9]
  exact ref_arr (H c)

end Cert.Proof
-- ==== Proof.lean ====
/- The claims about the feature-upsampling kernel, assembled: the three programs run and leave their arguments as they were, the
   kernel's idealization changes nothing, and kernel and reference compute the same two results. -/
module

public import proofs.«01_k».proof.Defs
public import proofs.«01_k».proof.Proof.KFrame
public import proofs.«01_k».proof.Proof.IFrame
public import proofs.«01_k».proof.Proof.Gen.ReferenceIdeal.Run
public import proofs.«01_k».proof.Proof.RFrame
public import proofs.«01_k».proof.Proof.Alg

@[expose] public section

noncomputable section

namespace Cert.Proof

open Idealize.ShloMosaic Idealize.SL.Sem

/-- Everything claimed. -/
theorem claim : Cert.Claim := ⟨Cert.Kernel.Gen.facts, Cert.KernelIdeal.Gen.facts, Cert.ReferenceIdeal.Gen.facts, Cert.Pre_separated.Read.facts,
  fun m ρ _ => Cert.Kernel.Run.frame_run m ρ, fun m ρ _ => Cert.KernelIdeal.Run.frame_run m ρ,
  fun m ρ _ => Cert.KernelIdeal.Run.frame_run m ρ, Cert.ReferenceIdeal.Run.frame_run,
  fun m ρ _ => Cert.ReferenceIdeal.Run.frame_run m ρ trivial, trivial, algebraic⟩

end Cert.Proof

end
